-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)) (v3 : (c : Dev Cert.KernelIdeal.nD) → Buf (Elt Ideal) ((c.tc : Thread Cert.KernelIdeal.nD Cert.KernelIdeal.τ).loc Cert.KernelIdeal.main_v58_3)) (v4 : (c : Dev Cert.KernelIdeal.nD) → Buf (Elt Ideal) ((c.tc : Thread Cert.KernelIdeal.nD Cert.KernelIdeal.τ).loc Cert.KernelIdeal.main_v58_4)) (v5 : (c : Dev Cert.KernelIdeal.nD) → Buf (Elt Ideal) ((c.tc : Thread Cert.KernelIdeal.nD Cert.KernelIdeal.τ).loc Cert.KernelIdeal.main_v58_5)) (v6 : (c : Dev Cert.KernelIdeal.nD) → Buf (Elt Ideal) ((c.tc : Thread Cert.KernelIdeal.nD Cert.KernelIdeal.τ).loc Cert.KernelIdeal.main_v58_6)) (v7 : (c : Dev Cert.KernelIdeal.nD) → Buf (Elt Ideal) ((c.tc : Thread Cert.KernelIdeal.nD Cert.KernelIdeal.τ).loc Cert.KernelIdeal.main_v58_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_v58_3) = v3 c
          ∧ r.2.mem ((c.tc : Thread Cert.KernelIdeal.nD Cert.KernelIdeal.τ).loc Cert.KernelIdeal.main_v58_4) = v4 c
          ∧ r.2.mem ((c.tc : Thread Cert.KernelIdeal.nD Cert.KernelIdeal.τ).loc Cert.KernelIdeal.main_v58_5) = v5 c
          ∧ r.2.mem ((c.tc : Thread Cert.KernelIdeal.nD Cert.KernelIdeal.τ).loc Cert.KernelIdeal.main_v58_6) = v6 c
          ∧ r.2.mem ((c.tc : Thread Cert.KernelIdeal.nD Cert.KernelIdeal.τ).loc Cert.KernelIdeal.main_v58_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v305) = v0 c
          ∧ r.2.mem ((c.tc : Thread Cert.ReferenceIdeal.nD Cert.ReferenceIdeal.τ).loc Cert.ReferenceIdeal.main_v306) = v1 c
          ∧ r.2.mem ((c.tc : Thread Cert.ReferenceIdeal.nD Cert.ReferenceIdeal.τ).loc Cert.ReferenceIdeal.main_v612) = v2 c
          ∧ r.2.mem ((c.tc : Thread Cert.ReferenceIdeal.nD Cert.ReferenceIdeal.τ).loc Cert.ReferenceIdeal.main_v613) = v3 c
          ∧ r.2.mem ((c.tc : Thread Cert.ReferenceIdeal.nD Cert.ReferenceIdeal.τ).loc Cert.ReferenceIdeal.main_v919) = v4 c
          ∧ r.2.mem ((c.tc : Thread Cert.ReferenceIdeal.nD Cert.ReferenceIdeal.τ).loc Cert.ReferenceIdeal.main_v920) = v5 c
          ∧ r.2.mem ((c.tc : Thread Cert.ReferenceIdeal.nD Cert.ReferenceIdeal.τ).loc Cert.ReferenceIdeal.main_v1226) = v6 c
          ∧ r.2.mem ((c.tc : Thread Cert.ReferenceIdeal.nD Cert.ReferenceIdeal.τ).loc Cert.ReferenceIdeal.main_v1227) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x64x64 : Shape := ⟨4, ![1, 256, 64, 64]⟩
abbrev S1x256x32x32 : Shape := ⟨4, ![1, 256, 32, 32]⟩
abbrev S1x256x16x16 : Shape := ⟨4, ![1, 256, 16, 16]⟩
abbrev S1x256x8x8 : Shape := ⟨4, ![1, 256, 8, 8]⟩
abbrev S256x256x3x3 : Shape := ⟨4, ![256, 256, 3, 3]⟩
abbrev S256 : Shape := ⟨1, ![256]⟩
abbrev S3x256x3x3 : Shape := ⟨4, ![3, 256, 3, 3]⟩
abbrev S3 : Shape := ⟨1, ![3]⟩
abbrev S12x256x3x3 : Shape := ⟨4, ![12, 256, 3, 3]⟩
abbrev S12 : Shape := ⟨1, ![12]⟩
abbrev S256x64x64 : Shape := ⟨3, ![256, 64, 64]⟩
abbrev S64x64x256 : Shape := ⟨3, ![64, 64, 256]⟩
abbrev S_ : Shape := ⟨0, ![]⟩
abbrev S64x66x256 : Shape := ⟨3, ![64, 66, 256]⟩
abbrev S4224x256 : Shape := ⟨2, ![4224, 256]⟩
abbrev S4368x256 : Shape := ⟨2, ![4368, 256]⟩
abbrev S256x32x32 : Shape := ⟨3, ![256, 32, 32]⟩
abbrev S32x32x256 : Shape := ⟨3, ![32, 32, 256]⟩
abbrev S32x34x256 : Shape := ⟨3, ![32, 34, 256]⟩
abbrev S1088x256 : Shape := ⟨2, ![1088, 256]⟩
abbrev S1168x256 : Shape := ⟨2, ![1168, 256]⟩
abbrev S256x16x16 : Shape := ⟨3, ![256, 16, 16]⟩
abbrev S16x16x256 : Shape := ⟨3, ![16, 16, 256]⟩
abbrev S16x18x256 : Shape := ⟨3, ![16, 18, 256]⟩
abbrev S288x256 : Shape := ⟨2, ![288, 256]⟩
abbrev S336x256 : Shape := ⟨2, ![336, 256]⟩
abbrev S256x8x8 : Shape := ⟨3, ![256, 8, 8]⟩
abbrev S8x8x256 : Shape := ⟨3, ![8, 8, 256]⟩
abbrev S8x10x256 : Shape := ⟨3, ![8, 10, 256]⟩
abbrev S80x256 : Shape := ⟨2, ![80, 256]⟩
abbrev S112x256 : Shape := ⟨2, ![112, 256]⟩
abbrev S3x3x256x256 : Shape := ⟨4, ![3, 3, 256, 256]⟩
abbrev S2304x256 : Shape := ⟨2, ![2304, 256]⟩
abbrev S1x2304x256 : Shape := ⟨3, ![1, 2304, 256]⟩
abbrev S4x2304x256 : Shape := ⟨3, ![4, 2304, 256]⟩
abbrev S15x256x3x3 : Shape := ⟨4, ![15, 256, 3, 3]⟩
abbrev S3x3x256x15 : Shape := ⟨4, ![3, 3, 256, 15]⟩
abbrev S2304x15 : Shape := ⟨2, ![2304, 15]⟩
abbrev S2304x16 : Shape := ⟨2, ![2304, 16]⟩
abbrev S1x256 : Shape := ⟨2, ![1, 256]⟩
abbrev S1x1x256 : Shape := ⟨3, ![1, 1, 256]⟩
abbrev S4x1x256 : Shape := ⟨3, ![4, 1, 256]⟩
abbrev S15 : Shape := ⟨1, ![15]⟩
abbrev S16 : Shape := ⟨1, ![16]⟩
abbrev S1x16 : Shape := ⟨2, ![1, 16]⟩
abbrev S1x3x1x64x64 : Shape := ⟨5, ![1, 3, 1, 64, 64]⟩
abbrev S1x3x4x64x64 : Shape := ⟨5, ![1, 3, 4, 64, 64]⟩
abbrev S1x3x1x32x32 : Shape := ⟨5, ![1, 3, 1, 32, 32]⟩
abbrev S1x3x4x32x32 : Shape := ⟨5, ![1, 3, 4, 32, 32]⟩
abbrev S1x3x1x16x16 : Shape := ⟨5, ![1, 3, 1, 16, 16]⟩
abbrev S1x3x4x16x16 : Shape := ⟨5, ![1, 3, 4, 16, 16]⟩
abbrev S1x3x1x8x8 : Shape := ⟨5, ![1, 3, 1, 8, 8]⟩
abbrev S1x3x4x8x8 : Shape := ⟨5, ![1, 3, 4, 8, 8]⟩
abbrev S4224x16 : Shape := ⟨2, ![4224, 16]⟩
abbrev S8 : Shape := ⟨1, ![8]⟩
abbrev S1 : Shape := ⟨1, ![1]⟩
abbrev S72x256 : Shape := ⟨2, ![72, 256]⟩
abbrev S528x256 : Shape := ⟨2, ![528, 256]⟩
abbrev S1x256x256 : Shape := ⟨3, ![1, 256, 256]⟩
abbrev S256x256 : Shape := ⟨2, ![256, 256]⟩
abbrev S528x16 : Shape := ⟨2, ![528, 16]⟩
abbrev S256x16 : Shape := ⟨2, ![256, 16]⟩
abbrev S16x4224 : Shape := ⟨2, ![16, 4224]⟩
abbrev S16x64 : Shape := ⟨2, ![16, 64]⟩
abbrev S3x64 : Shape := ⟨2, ![3, 64]⟩
abbrev S1x3x1x1x64 : Shape := ⟨5, ![1, 3, 1, 1, 64]⟩
abbrev S12x64 : Shape := ⟨2, ![12, 64]⟩
abbrev S3x4x64 : Shape := ⟨3, ![3, 4, 64]⟩
abbrev S1x3x4x1x64 : Shape := ⟨5, ![1, 3, 4, 1, 64]⟩
abbrev S40x256 : Shape := ⟨2, ![40, 256]⟩
abbrev S544x256 : Shape := ⟨2, ![544, 256]⟩
abbrev S544x16 : Shape := ⟨2, ![544, 16]⟩
abbrev S1088x16 : Shape := ⟨2, ![1088, 16]⟩
abbrev S16x1088 : Shape := ⟨2, ![16, 1088]⟩
abbrev S16x32 : Shape := ⟨2, ![16, 32]⟩
abbrev S3x32 : Shape := ⟨2, ![3, 32]⟩
abbrev S1x3x1x1x32 : Shape := ⟨5, ![1, 3, 1, 1, 32]⟩
abbrev S12x32 : Shape := ⟨2, ![12, 32]⟩
abbrev S3x4x32 : Shape := ⟨3, ![3, 4, 32]⟩
abbrev S1x3x4x1x32 : Shape := ⟨5, ![1, 3, 4, 1, 32]⟩
abbrev S24x256 : Shape := ⟨2, ![24, 256]⟩
abbrev S288x16 : Shape := ⟨2, ![288, 16]⟩
abbrev S16x288 : Shape := ⟨2, ![16, 288]⟩
abbrev S16x16 : Shape := ⟨2, ![16, 16]⟩
abbrev S3x16 : Shape := ⟨2, ![3, 16]⟩
abbrev S1x3x1x1x16 : Shape := ⟨5, ![1, 3, 1, 1, 16]⟩
abbrev S12x16 : Shape := ⟨2, ![12, 16]⟩
abbrev S3x4x16 : Shape := ⟨3, ![3, 4, 16]⟩
abbrev S1x3x4x1x16 : Shape := ⟨5, ![1, 3, 4, 1, 16]⟩
abbrev S16x256 : Shape := ⟨2, ![16, 256]⟩
abbrev S80x16 : Shape := ⟨2, ![80, 16]⟩
abbrev S16x80 : Shape := ⟨2, ![16, 80]⟩
abbrev S16x8 : Shape := ⟨2, ![16, 8]⟩
abbrev S3x8 : Shape := ⟨2, ![3, 8]⟩
abbrev S1x3x1x1x8 : Shape := ⟨5, ![1, 3, 1, 1, 8]⟩
abbrev S12x8 : Shape := ⟨2, ![12, 8]⟩
abbrev S3x4x8 : Shape := ⟨3, ![3, 4, 8]⟩
abbrev S1x3x4x1x8 : Shape := ⟨5, ![1, 3, 4, 1, 8]⟩

abbrev nBuf : Space → Nat
  | .hbm => 102
  | .vmem => 25
  | .smem => 0
  | _ => 0

abbrev bufTy : (tb : Table) → Fin (tcTables nBuf tb) → BufTy
  | .hbm, ⟨0, _⟩ => ⟨S1x256x64x64, .f32⟩
  | .hbm, ⟨1, _⟩ => ⟨S1x256x32x32, .f32⟩
  | .hbm, ⟨2, _⟩ => ⟨S1x256x16x16, .f32⟩
  | .hbm, ⟨3, _⟩ => ⟨S1x256x8x8, .f32⟩
  | .hbm, ⟨4, _⟩ => ⟨S256x256x3x3, .f32⟩
  | .hbm, ⟨5, _⟩ => ⟨S256, .f32⟩
  | .hbm, ⟨6, _⟩ => ⟨S256x256x3x3, .f32⟩
  | .hbm, ⟨7, _⟩ => ⟨S256, .f32⟩
  | .hbm, ⟨8, _⟩ => ⟨S256x256x3x3, .f32⟩
  | .hbm, ⟨9, _⟩ => ⟨S256, .f32⟩
  | .hbm, ⟨10, _⟩ => ⟨S256x256x3x3, .f32⟩
  | .hbm, ⟨11, _⟩ => ⟨S256, .f32⟩
  | .hbm, ⟨12, _⟩ => ⟨S3x256x3x3, .f32⟩
  | .hbm, ⟨13, _⟩ => ⟨S3, .f32⟩
  | .hbm, ⟨14, _⟩ => ⟨S12x256x3x3, .f32⟩
  | .hbm, ⟨15, _⟩ => ⟨S12, .f32⟩
  | .hbm, ⟨16, _⟩ => ⟨S256x64x64, .f32⟩
  | .hbm, ⟨17, _⟩ => ⟨S256x64x64, .bf16⟩
  | .hbm, ⟨18, _⟩ => ⟨S64x64x256, .bf16⟩
  | .hbm, ⟨19, _⟩ => ⟨S_, .i32⟩
  | .hbm, ⟨20, _⟩ => ⟨S_, .bf16⟩
  | .hbm, ⟨21, _⟩ => ⟨S64x66x256, .bf16⟩
  | .hbm, ⟨22, _⟩ => ⟨S4224x256, .bf16⟩
  | .hbm, ⟨23, _⟩ => ⟨S_, .i32⟩
  | .hbm, ⟨24, _⟩ => ⟨S_, .bf16⟩
  | .hbm, ⟨25, _⟩ => ⟨S4368x256, .bf16⟩
  | .hbm, ⟨26, _⟩ => ⟨S256x32x32, .f32⟩
  | .hbm, ⟨27, _⟩ => ⟨S256x32x32, .bf16⟩
  | .hbm, ⟨28, _⟩ => ⟨S32x32x256, .bf16⟩
  | .hbm, ⟨29, _⟩ => ⟨S_, .i32⟩
  | .hbm, ⟨30, _⟩ => ⟨S_, .bf16⟩
  | .hbm, ⟨31, _⟩ => ⟨S32x34x256, .bf16⟩
  | .hbm, ⟨32, _⟩ => ⟨S1088x256, .bf16⟩
  | .hbm, ⟨33, _⟩ => ⟨S_, .i32⟩
  | .hbm, ⟨34, _⟩ => ⟨S_, .bf16⟩
  | .hbm, ⟨35, _⟩ => ⟨S1168x256, .bf16⟩
  | .hbm, ⟨36, _⟩ => ⟨S256x16x16, .f32⟩
  | .hbm, ⟨37, _⟩ => ⟨S256x16x16, .bf16⟩
  | .hbm, ⟨38, _⟩ => ⟨S16x16x256, .bf16⟩
  | .hbm, ⟨39, _⟩ => ⟨S_, .i32⟩
  | .hbm, ⟨40, _⟩ => ⟨S_, .bf16⟩
  | .hbm, ⟨41, _⟩ => ⟨S16x18x256, .bf16⟩
  | .hbm, ⟨42, _⟩ => ⟨S288x256, .bf16⟩
  | .hbm, ⟨43, _⟩ => ⟨S_, .i32⟩
  | .hbm, ⟨44, _⟩ => ⟨S_, .bf16⟩
  | .hbm, ⟨45, _⟩ => ⟨S336x256, .bf16⟩
  | .hbm, ⟨46, _⟩ => ⟨S256x8x8, .f32⟩
  | .hbm, ⟨47, _⟩ => ⟨S256x8x8, .bf16⟩
  | .hbm, ⟨48, _⟩ => ⟨S8x8x256, .bf16⟩
  | .hbm, ⟨49, _⟩ => ⟨S_, .i32⟩
  | .hbm, ⟨50, _⟩ => ⟨S_, .bf16⟩
  | .hbm, ⟨51, _⟩ => ⟨S8x10x256, .bf16⟩
  | .hbm, ⟨52, _⟩ => ⟨S80x256, .bf16⟩
  | .hbm, ⟨53, _⟩ => ⟨S_, .i32⟩
  | .hbm, ⟨54, _⟩ => ⟨S_, .bf16⟩
  | .hbm, ⟨55, _⟩ => ⟨S112x256, .bf16⟩
  | .hbm, ⟨56, _⟩ => ⟨S256x256x3x3, .bf16⟩
  | .hbm, ⟨57, _⟩ => ⟨S3x3x256x256, .bf16⟩
  | .hbm, ⟨58, _⟩ => ⟨S2304x256, .bf16⟩
  | .hbm, ⟨59, _⟩ => ⟨S256x256x3x3, .bf16⟩
  | .hbm, ⟨60, _⟩ => ⟨S3x3x256x256, .bf16⟩
  | .hbm, ⟨61, _⟩ => ⟨S2304x256, .bf16⟩
  | .hbm, ⟨62, _⟩ => ⟨S256x256x3x3, .bf16⟩
  | .hbm, ⟨63, _⟩ => ⟨S3x3x256x256, .bf16⟩
  | .hbm, ⟨64, _⟩ => ⟨S2304x256, .bf16⟩
  | .hbm, ⟨65, _⟩ => ⟨S256x256x3x3, .bf16⟩
  | .hbm, ⟨66, _⟩ => ⟨S3x3x256x256, .bf16⟩
  | .hbm, ⟨67, _⟩ => ⟨S2304x256, .bf16⟩
  | .hbm, ⟨68, _⟩ => ⟨S1x2304x256, .bf16⟩
  | .hbm, ⟨69, _⟩ => ⟨S1x2304x256, .bf16⟩
  | .hbm, ⟨70, _⟩ => ⟨S1x2304x256, .bf16⟩
  | .hbm, ⟨71, _⟩ => ⟨S1x2304x256, .bf16⟩
  | .hbm, ⟨72, _⟩ => ⟨S4x2304x256, .bf16⟩
  | .hbm, ⟨73, _⟩ => ⟨S15x256x3x3, .f32⟩
  | .hbm, ⟨74, _⟩ => ⟨S15x256x3x3, .bf16⟩
  | .hbm, ⟨75, _⟩ => ⟨S3x3x256x15, .bf16⟩
  | .hbm, ⟨76, _⟩ => ⟨S2304x15, .bf16⟩
  | .hbm, ⟨77, _⟩ => ⟨S_, .i32⟩
  | .hbm, ⟨78, _⟩ => ⟨S_, .bf16⟩
  | .hbm, ⟨79, _⟩ => ⟨S2304x16, .bf16⟩
  | .hbm, ⟨80, _⟩ => ⟨S1x256, .f32⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S1x1x256, .f32⟩
  | .hbm, ⟨85, _⟩ => ⟨S1x1x256, .f32⟩
  | .hbm, ⟨86, _⟩ => ⟨S1x1x256, .f32⟩
  | .hbm, ⟨87, _⟩ => ⟨S1x1x256, .f32⟩
  | .hbm, ⟨88, _⟩ => ⟨S4x1x256, .f32⟩
  | .hbm, ⟨89, _⟩ => ⟨S15, .f32⟩
  | .hbm, ⟨90, _⟩ => ⟨S_, .i32⟩
  | .hbm, ⟨91, _⟩ => ⟨S_, .f32⟩
  | .hbm, ⟨92, _⟩ => ⟨S16, .f32⟩
  | .hbm, ⟨93, _⟩ => ⟨S1x16, .f32⟩
  | .hbm, ⟨94, _⟩ => ⟨S1x3x1x64x64, .f32⟩
  | .hbm, ⟨95, _⟩ => ⟨S1x3x4x64x64, .f32⟩
  | .hbm, ⟨96, _⟩ => ⟨S1x3x1x32x32, .f32⟩
  | .hbm, ⟨97, _⟩ => ⟨S1x3x4x32x32, .f32⟩
  | .hbm, ⟨98, _⟩ => ⟨S1x3x1x16x16, .f32⟩
  | .hbm, ⟨99, _⟩ => ⟨S1x3x4x16x16, .f32⟩
  | .hbm, ⟨100, _⟩ => ⟨S1x3x1x8x8, .f32⟩
  | .hbm, ⟨101, _⟩ => ⟨S1x3x4x8x8, .f32⟩
  | .local _ .vmem, ⟨0, _⟩ => ⟨S1x3x1x64x64, .f32⟩
  | .local _ .vmem, ⟨1, _⟩ => ⟨S1x3x4x64x64, .f32⟩
  | .local _ .vmem, ⟨2, _⟩ => ⟨S1x3x1x32x32, .f32⟩
  | .local _ .vmem, ⟨3, _⟩ => ⟨S1x3x4x32x32, .f32⟩
  | .local _ .vmem, ⟨4, _⟩ => ⟨S1x3x1x16x16, .f32⟩
  | .local _ .vmem, ⟨5, _⟩ => ⟨S1x3x4x16x16, .f32⟩
  | .local _ .vmem, ⟨6, _⟩ => ⟨S1x3x1x8x8, .f32⟩
  | .local _ .vmem, ⟨7, _⟩ => ⟨S1x3x4x8x8, .f32⟩
  | .local _ .vmem, ⟨8, _⟩ => ⟨S4368x256, .bf16⟩
  | .local _ .vmem, ⟨9, _⟩ => ⟨S1168x256, .bf16⟩
  | .local _ .vmem, ⟨10, _⟩ => ⟨S336x256, .bf16⟩
  | .local _ .vmem, ⟨11, _⟩ => ⟨S112x256, .bf16⟩
  | .local _ .vmem, ⟨12, _⟩ => ⟨S4x2304x256, .bf16⟩
  | .local _ .vmem, ⟨13, _⟩ => ⟨S2304x16, .bf16⟩
  | .local _ .vmem, ⟨14, _⟩ => ⟨S4x1x256, .f32⟩
  | .local _ .vmem, ⟨15, _⟩ => ⟨S1x16, .f32⟩
  | .local _ .vmem, ⟨16, _⟩ => ⟨S4224x16, .f32⟩
  | .local _ .vmem, ⟨17, _⟩ => ⟨S4368x256, .bf16⟩
  | .local _ .vmem, ⟨18, _⟩ => ⟨S4368x256, .bf16⟩
  | .local _ .vmem, ⟨19, _⟩ => ⟨S1168x256, .bf16⟩
  | .local _ .vmem, ⟨20, _⟩ => ⟨S1168x256, .bf16⟩
  | .local _ .vmem, ⟨21, _⟩ => ⟨S336x256, .bf16⟩
  | .local _ .vmem, ⟨22, _⟩ => ⟨S336x256, .bf16⟩
  | .local _ .vmem, ⟨23, _⟩ => ⟨S112x256, .bf16⟩
  | .local _ .vmem, ⟨24, _⟩ => ⟨S112x256, .bf16⟩
  | _, _ => ⟨S1x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_call1_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c_1 : Ref sig .tc := ⟨.hbm, 29, rfl⟩
abbrev main_call2_v0 : Ref sig .tc := ⟨.hbm, 30, rfl⟩
abbrev main_v9 : Ref sig .tc := ⟨.hbm, 31, rfl⟩
abbrev main_v10 : Ref sig .tc := ⟨.hbm, 32, rfl⟩
abbrev main_c_2 : Ref sig .tc := ⟨.hbm, 33, rfl⟩
abbrev main_call3_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_call4_v0 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_call5_v0 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_call6_v0 : Ref sig .tc := ⟨.hbm, 50, rfl⟩
abbrev main_v21 : Ref sig .tc := ⟨.hbm, 51, rfl⟩
abbrev main_v22 : Ref sig .tc := ⟨.hbm, 52, rfl⟩
abbrev main_c_6 : Ref sig .tc := ⟨.hbm, 53, rfl⟩
abbrev main_call7_v0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_7 : Ref sig .tc := ⟨.hbm, 77, rfl⟩
abbrev main_call8_v0 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_8 : Ref sig .tc := ⟨.hbm, 90, rfl⟩
abbrev main_call9_v0 : Ref sig .tc := ⟨.hbm, 91, rfl⟩
abbrev main_v56 : Ref sig .tc := ⟨.hbm, 92, rfl⟩
abbrev main_v57 : Ref sig .tc := ⟨.hbm, 93, rfl⟩
abbrev main_v58_0 : Ref sig .tc := ⟨.hbm, 94, rfl⟩
abbrev main_v58_1 : Ref sig .tc := ⟨.hbm, 95, rfl⟩
abbrev main_v58_2 : Ref sig .tc := ⟨.hbm, 96, rfl⟩
abbrev main_v58_3 : Ref sig .tc := ⟨.hbm, 97, rfl⟩
abbrev main_v58_4 : Ref sig .tc := ⟨.hbm, 98, rfl⟩
abbrev main_v58_5 : Ref sig .tc := ⟨.hbm, 99, rfl⟩
abbrev main_v58_6 : Ref sig .tc := ⟨.hbm, 100, rfl⟩
abbrev main_v58_7 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch10 : Ref sig .tc := ⟨.vmem, 17, rfl⟩
abbrev cc0_scratch11 : Ref sig .tc := ⟨.vmem, 18, rfl⟩
abbrev cc0_scratch12 : Ref sig .tc := ⟨.vmem, 19, rfl⟩
abbrev cc0_scratch13 : Ref sig .tc := ⟨.vmem, 20, rfl⟩
abbrev cc0_scratch14 : Ref sig .tc := ⟨.vmem, 21, rfl⟩
abbrev cc0_scratch15 : Ref sig .tc := ⟨.vmem, 22, rfl⟩
abbrev cc0_scratch16 : Ref sig .tc := ⟨.vmem, 23, rfl⟩
abbrev cc0_scratch17 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x3x1x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3x4x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3x1x32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3x4x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3x1x16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3x4x16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3x1x8x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3x4x8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1x256x64x64 : Shape := ⟨4, ![1, 256, 64, 64]⟩
abbrev S1x256x32x32 : Shape := ⟨4, ![1, 256, 32, 32]⟩
abbrev S1x256x16x16 : Shape := ⟨4, ![1, 256, 16, 16]⟩
abbrev S1x256x8x8 : Shape := ⟨4, ![1, 256, 8, 8]⟩
abbrev S256x256x3x3 : Shape := ⟨4, ![256, 256, 3, 3]⟩
abbrev S256 : Shape := ⟨1, ![256]⟩
abbrev S3x256x3x3 : Shape := ⟨4, ![3, 256, 3, 3]⟩
abbrev S3 : Shape := ⟨1, ![3]⟩
abbrev S12x256x3x3 : Shape := ⟨4, ![12, 256, 3, 3]⟩
abbrev S12 : Shape := ⟨1, ![12]⟩
abbrev S256x64x64 : Shape := ⟨3, ![256, 64, 64]⟩
abbrev S_ : Shape := ⟨0, ![]⟩
abbrev S256x66x66 : Shape := ⟨3, ![256, 66, 66]⟩
abbrev S256x256x1x1 : Shape := ⟨4, ![256, 256, 1, 1]⟩
abbrev S256x256 : Shape := ⟨2, ![256, 256]⟩
abbrev S256x1x1 : Shape := ⟨3, ![256, 1, 1]⟩
abbrev S3x64x64 : Shape := ⟨3, ![3, 64, 64]⟩
abbrev S3x256x1x1 : Shape := ⟨4, ![3, 256, 1, 1]⟩
abbrev S3x256 : Shape := ⟨2, ![3, 256]⟩
abbrev S3x1x1 : Shape := ⟨3, ![3, 1, 1]⟩
abbrev S12x64x64 : Shape := ⟨3, ![12, 64, 64]⟩
abbrev S12x256x1x1 : Shape := ⟨4, ![12, 256, 1, 1]⟩
abbrev S12x256 : Shape := ⟨2, ![12, 256]⟩
abbrev S12x1x1 : Shape := ⟨3, ![12, 1, 1]⟩
abbrev S1x3x1x64x64 : Shape := ⟨5, ![1, 3, 1, 64, 64]⟩
abbrev S1x3x4x64x64 : Shape := ⟨5, ![1, 3, 4, 64, 64]⟩
abbrev S256x32x32 : Shape := ⟨3, ![256, 32, 32]⟩
abbrev S256x34x34 : Shape := ⟨3, ![256, 34, 34]⟩
abbrev S3x32x32 : Shape := ⟨3, ![3, 32, 32]⟩
abbrev S12x32x32 : Shape := ⟨3, ![12, 32, 32]⟩
abbrev S1x3x1x32x32 : Shape := ⟨5, ![1, 3, 1, 32, 32]⟩
abbrev S1x3x4x32x32 : Shape := ⟨5, ![1, 3, 4, 32, 32]⟩
abbrev S256x16x16 : Shape := ⟨3, ![256, 16, 16]⟩
abbrev S256x18x18 : Shape := ⟨3, ![256, 18, 18]⟩
abbrev S3x16x16 : Shape := ⟨3, ![3, 16, 16]⟩
abbrev S12x16x16 : Shape := ⟨3, ![12, 16, 16]⟩
abbrev S1x3x1x16x16 : Shape := ⟨5, ![1, 3, 1, 16, 16]⟩
abbrev S1x3x4x16x16 : Shape := ⟨5, ![1, 3, 4, 16, 16]⟩
abbrev S256x8x8 : Shape := ⟨3, ![256, 8, 8]⟩
abbrev S256x10x10 : Shape := ⟨3, ![256, 10, 10]⟩
abbrev S3x8x8 : Shape := ⟨3, ![3, 8, 8]⟩
abbrev S12x8x8 : Shape := ⟨3, ![12, 8, 8]⟩
abbrev S1x3x1x8x8 : Shape := ⟨5, ![1, 3, 1, 8, 8]⟩
abbrev S1x3x4x8x8 : Shape := ⟨5, ![1, 3, 4, 8, 8]⟩

abbrev nBuf : Space → Nat
  | .hbm => 1348
  | .vmem => 0
  | .smem => 0
  | _ => 0

abbrev hbmTy0_0 (i : Nat) : BufTy := match i % 128 with
  | 0 => ⟨S1x256x64x64, .f32⟩
  | 1 => ⟨S1x256x32x32, .f32⟩
  | 2 => ⟨S1x256x16x16, .f32⟩
  | 3 => ⟨S1x256x8x8, .f32⟩
  | 4 => ⟨S256x256x3x3, .f32⟩
  | 5 => ⟨S256, .f32⟩
  | 6 => ⟨S256x256x3x3, .f32⟩
  | 7 => ⟨S256, .f32⟩
  | 8 => ⟨S256x256x3x3, .f32⟩
  | 9 => ⟨S256, .f32⟩
  | 10 => ⟨S256x256x3x3, .f32⟩
  | 11 => ⟨S256, .f32⟩
  | 12 => ⟨S3x256x3x3, .f32⟩
  | 13 => ⟨S3, .f32⟩
  | 14 => ⟨S12x256x3x3, .f32⟩
  | 15 => ⟨S12, .f32⟩
  | 16 => ⟨S256x64x64, .f32⟩
  | 17 => ⟨S_, .i32⟩
  | 18 => ⟨S_, .f32⟩
  | 19 => ⟨S256x66x66, .f32⟩
  | 20 => ⟨S_, .f32⟩
  | 21 => ⟨S256x64x64, .f32⟩
  | 22 => ⟨S256x256x1x1, .f32⟩
  | 23 => ⟨S256x256, .f32⟩
  | 24 => ⟨S256x64x64, .f32⟩
  | 25 => ⟨S256x64x64, .f32⟩
  | 26 => ⟨S256x64x64, .f32⟩
  | 27 => ⟨S256x256x1x1, .f32⟩
  | 28 => ⟨S256x256, .f32⟩
  | 29 => ⟨S256x64x64, .f32⟩
  | 30 => ⟨S256x64x64, .f32⟩
  | 31 => ⟨S256x64x64, .f32⟩
  | 32 => ⟨S256x256x1x1, .f32⟩
  | 33 => ⟨S256x256, .f32⟩
  | 34 => ⟨S256x64x64, .f32⟩
  | 35 => ⟨S256x64x64, .f32⟩
  | 36 => ⟨S256x64x64, .f32⟩
  | 37 => ⟨S256x256x1x1, .f32⟩
  | 38 => ⟨S256x256, .f32⟩
  | 39 => ⟨S256x64x64, .f32⟩
  | 40 => ⟨S256x64x64, .f32⟩
  | 41 => ⟨S256x64x64, .f32⟩
  | 42 => ⟨S256x256x1x1, .f32⟩
  | 43 => ⟨S256x256, .f32⟩
  | 44 => ⟨S256x64x64, .f32⟩
  | 45 => ⟨S256x64x64, .f32⟩
  | 46 => ⟨S256x64x64, .f32⟩
  | 47 => ⟨S256x256x1x1, .f32⟩
  | 48 => ⟨S256x256, .f32⟩
  | 49 => ⟨S256x64x64, .f32⟩
  | 50 => ⟨S256x64x64, .f32⟩
  | 51 => ⟨S256x64x64, .f32⟩
  | 52 => ⟨S256x256x1x1, .f32⟩
  | 53 => ⟨S256x256, .f32⟩
  | 54 => ⟨S256x64x64, .f32⟩
  | 55 => ⟨S256x64x64, .f32⟩
  | 56 => ⟨S256x64x64, .f32⟩
  | 57 => ⟨S256x256x1x1, .f32⟩
  | 58 => ⟨S256x256, .f32⟩
  | 59 => ⟨S256x64x64, .f32⟩
  | 60 => ⟨S256x64x64, .f32⟩
  | 61 => ⟨S256x64x64, .f32⟩
  | 62 => ⟨S256x256x1x1, .f32⟩
  | 63 => ⟨S256x256, .f32⟩
  | 64 => ⟨S256x64x64, .f32⟩
  | 65 => ⟨S256x64x64, .f32⟩
  | 66 => ⟨S256x64x64, .f32⟩
  | 67 => ⟨S256x1x1, .f32⟩
  | 68 => ⟨S256x64x64, .f32⟩
  | 69 => ⟨S256x64x64, .f32⟩
  | 70 => ⟨S_, .f32⟩
  | 71 => ⟨S256x64x64, .f32⟩
  | 72 => ⟨S256x64x64, .f32⟩
  | 73 => ⟨S_, .i32⟩
  | 74 => ⟨S_, .f32⟩
  | 75 => ⟨S256x66x66, .f32⟩
  | 76 => ⟨S_, .f32⟩
  | 77 => ⟨S256x64x64, .f32⟩
  | 78 => ⟨S256x256x1x1, .f32⟩
  | 79 => ⟨S256x256, .f32⟩
  | 80 => ⟨S256x64x64, .f32⟩
  | 81 => ⟨S256x64x64, .f32⟩
  | 82 => ⟨S256x64x64, .f32⟩
  | 83 => ⟨S256x256x1x1, .f32⟩
  | 84 => ⟨S256x256, .f32⟩
  | 85 => ⟨S256x64x64, .f32⟩
  | 86 => ⟨S256x64x64, .f32⟩
  | 87 => ⟨S256x64x64, .f32⟩
  | 88 => ⟨S256x256x1x1, .f32⟩
  | 89 => ⟨S256x256, .f32⟩
  | 90 => ⟨S256x64x64, .f32⟩
  | 91 => ⟨S256x64x64, .f32⟩
  | 92 => ⟨S256x64x64, .f32⟩
  | 93 => ⟨S256x256x1x1, .f32⟩
  | 94 => ⟨S256x256, .f32⟩
  | 95 => ⟨S256x64x64, .f32⟩
  | 96 => ⟨S256x64x64, .f32⟩
  | 97 => ⟨S256x64x64, .f32⟩
  | 98 => ⟨S256x256x1x1, .f32⟩
  | 99 => ⟨S256x256, .f32⟩
  | 100 => ⟨S256x64x64, .f32⟩
  | 101 => ⟨S256x64x64, .f32⟩
  | 102 => ⟨S256x64x64, .f32⟩
  | 103 => ⟨S256x256x1x1, .f32⟩
  | 104 => ⟨S256x256, .f32⟩
  | 105 => ⟨S256x64x64, .f32⟩
  | 106 => ⟨S256x64x64, .f32⟩
  | 107 => ⟨S256x64x64, .f32⟩
  | 108 => ⟨S256x256x1x1, .f32⟩
  | 109 => ⟨S256x256, .f32⟩
  | 110 => ⟨S256x64x64, .f32⟩
  | 111 => ⟨S256x64x64, .f32⟩
  | 112 => ⟨S256x64x64, .f32⟩
  | 113 => ⟨S256x256x1x1, .f32⟩
  | 114 => ⟨S256x256, .f32⟩
  | 115 => ⟨S256x64x64, .f32⟩
  | 116 => ⟨S256x64x64, .f32⟩
  | 117 => ⟨S256x64x64, .f32⟩
  | 118 => ⟨S256x256x1x1, .f32⟩
  | 119 => ⟨S256x256, .f32⟩
  | 120 => ⟨S256x64x64, .f32⟩
  | 121 => ⟨S256x64x64, .f32⟩
  | 122 => ⟨S256x64x64, .f32⟩
  | 123 => ⟨S256x1x1, .f32⟩
  | 124 => ⟨S256x64x64, .f32⟩
  | 125 => ⟨S256x64x64, .f32⟩
  | 126 => ⟨S_, .f32⟩
  | 127 => ⟨S256x64x64, .f32⟩
  | _ => ⟨S1x256x64x64, .f32⟩

abbrev hbmTy0_1 (i : Nat) : BufTy := match i % 128 with
  | 0 => ⟨S256x64x64, .f32⟩
  | 1 => ⟨S_, .i32⟩
  | 2 => ⟨S_, .f32⟩
  | 3 => ⟨S256x66x66, .f32⟩
  | 4 => ⟨S_, .f32⟩
  | 5 => ⟨S256x64x64, .f32⟩
  | 6 => ⟨S256x256x1x1, .f32⟩
  | 7 => ⟨S256x256, .f32⟩
  | 8 => ⟨S256x64x64, .f32⟩
  | 9 => ⟨S256x64x64, .f32⟩
  | 10 => ⟨S256x64x64, .f32⟩
  | 11 => ⟨S256x256x1x1, .f32⟩
  | 12 => ⟨S256x256, .f32⟩
  | 13 => ⟨S256x64x64, .f32⟩
  | 14 => ⟨S256x64x64, .f32⟩
  | 15 => ⟨S256x64x64, .f32⟩
  | 16 => ⟨S256x256x1x1, .f32⟩
  | 17 => ⟨S256x256, .f32⟩
  | 18 => ⟨S256x64x64, .f32⟩
  | 19 => ⟨S256x64x64, .f32⟩
  | 20 => ⟨S256x64x64, .f32⟩
  | 21 => ⟨S256x256x1x1, .f32⟩
  | 22 => ⟨S256x256, .f32⟩
  | 23 => ⟨S256x64x64, .f32⟩
  | 24 => ⟨S256x64x64, .f32⟩
  | 25 => ⟨S256x64x64, .f32⟩
  | 26 => ⟨S256x256x1x1, .f32⟩
  | 27 => ⟨S256x256, .f32⟩
  | 28 => ⟨S256x64x64, .f32⟩
  | 29 => ⟨S256x64x64, .f32⟩
  | 30 => ⟨S256x64x64, .f32⟩
  | 31 => ⟨S256x256x1x1, .f32⟩
  | 32 => ⟨S256x256, .f32⟩
  | 33 => ⟨S256x64x64, .f32⟩
  | 34 => ⟨S256x64x64, .f32⟩
  | 35 => ⟨S256x64x64, .f32⟩
  | 36 => ⟨S256x256x1x1, .f32⟩
  | 37 => ⟨S256x256, .f32⟩
  | 38 => ⟨S256x64x64, .f32⟩
  | 39 => ⟨S256x64x64, .f32⟩
  | 40 => ⟨S256x64x64, .f32⟩
  | 41 => ⟨S256x256x1x1, .f32⟩
  | 42 => ⟨S256x256, .f32⟩
  | 43 => ⟨S256x64x64, .f32⟩
  | 44 => ⟨S256x64x64, .f32⟩
  | 45 => ⟨S256x64x64, .f32⟩
  | 46 => ⟨S256x256x1x1, .f32⟩
  | 47 => ⟨S256x256, .f32⟩
  | 48 => ⟨S256x64x64, .f32⟩
  | 49 => ⟨S256x64x64, .f32⟩
  | 50 => ⟨S256x64x64, .f32⟩
  | 51 => ⟨S256x1x1, .f32⟩
  | 52 => ⟨S256x64x64, .f32⟩
  | 53 => ⟨S256x64x64, .f32⟩
  | 54 => ⟨S_, .f32⟩
  | 55 => ⟨S256x64x64, .f32⟩
  | 56 => ⟨S256x64x64, .f32⟩
  | 57 => ⟨S_, .i32⟩
  | 58 => ⟨S_, .f32⟩
  | 59 => ⟨S256x66x66, .f32⟩
  | 60 => ⟨S_, .f32⟩
  | 61 => ⟨S256x64x64, .f32⟩
  | 62 => ⟨S256x256x1x1, .f32⟩
  | 63 => ⟨S256x256, .f32⟩
  | 64 => ⟨S256x64x64, .f32⟩
  | 65 => ⟨S256x64x64, .f32⟩
  | 66 => ⟨S256x64x64, .f32⟩
  | 67 => ⟨S256x256x1x1, .f32⟩
  | 68 => ⟨S256x256, .f32⟩
  | 69 => ⟨S256x64x64, .f32⟩
  | 70 => ⟨S256x64x64, .f32⟩
  | 71 => ⟨S256x64x64, .f32⟩
  | 72 => ⟨S256x256x1x1, .f32⟩
  | 73 => ⟨S256x256, .f32⟩
  | 74 => ⟨S256x64x64, .f32⟩
  | 75 => ⟨S256x64x64, .f32⟩
  | 76 => ⟨S256x64x64, .f32⟩
  | 77 => ⟨S256x256x1x1, .f32⟩
  | 78 => ⟨S256x256, .f32⟩
  | 79 => ⟨S256x64x64, .f32⟩
  | 80 => ⟨S256x64x64, .f32⟩
  | 81 => ⟨S256x64x64, .f32⟩
  | 82 => ⟨S256x256x1x1, .f32⟩
  | 83 => ⟨S256x256, .f32⟩
  | 84 => ⟨S256x64x64, .f32⟩
  | 85 => ⟨S256x64x64, .f32⟩
  | 86 => ⟨S256x64x64, .f32⟩
  | 87 => ⟨S256x256x1x1, .f32⟩
  | 88 => ⟨S256x256, .f32⟩
  | 89 => ⟨S256x64x64, .f32⟩
  | 90 => ⟨S256x64x64, .f32⟩
  | 91 => ⟨S256x64x64, .f32⟩
  | 92 => ⟨S256x256x1x1, .f32⟩
  | 93 => ⟨S256x256, .f32⟩
  | 94 => ⟨S256x64x64, .f32⟩
  | 95 => ⟨S256x64x64, .f32⟩
  | 96 => ⟨S256x64x64, .f32⟩
  | 97 => ⟨S256x256x1x1, .f32⟩
  | 98 => ⟨S256x256, .f32⟩
  | 99 => ⟨S256x64x64, .f32⟩
  | 100 => ⟨S256x64x64, .f32⟩
  | 101 => ⟨S256x64x64, .f32⟩
  | 102 => ⟨S256x256x1x1, .f32⟩
  | 103 => ⟨S256x256, .f32⟩
  | 104 => ⟨S256x64x64, .f32⟩
  | 105 => ⟨S256x64x64, .f32⟩
  | 106 => ⟨S256x64x64, .f32⟩
  | 107 => ⟨S256x1x1, .f32⟩
  | 108 => ⟨S256x64x64, .f32⟩
  | 109 => ⟨S256x64x64, .f32⟩
  | 110 => ⟨S_, .f32⟩
  | 111 => ⟨S256x64x64, .f32⟩
  | 112 => ⟨S256x64x64, .f32⟩
  | 113 => ⟨S_, .i32⟩
  | 114 => ⟨S_, .f32⟩
  | 115 => ⟨S256x66x66, .f32⟩
  | 116 => ⟨S_, .f32⟩
  | 117 => ⟨S3x64x64, .f32⟩
  | 118 => ⟨S3x256x1x1, .f32⟩
  | 119 => ⟨S3x256, .f32⟩
  | 120 => ⟨S256x64x64, .f32⟩
  | 121 => ⟨S3x64x64, .f32⟩
  | 122 => ⟨S3x64x64, .f32⟩
  | 123 => ⟨S3x256x1x1, .f32⟩
  | 124 => ⟨S3x256, .f32⟩
  | 125 => ⟨S256x64x64, .f32⟩
  | 126 => ⟨S3x64x64, .f32⟩
  | 127 => ⟨S3x64x64, .f32⟩
  | _ => ⟨S1x256x64x64, .f32⟩

abbrev hbmTy0_2 (i : Nat) : BufTy := match i % 128 with
  | 0 => ⟨S3x256x1x1, .f32⟩
  | 1 => ⟨S3x256, .f32⟩
  | 2 => ⟨S256x64x64, .f32⟩
  | 3 => ⟨S3x64x64, .f32⟩
  | 4 => ⟨S3x64x64, .f32⟩
  | 5 => ⟨S3x256x1x1, .f32⟩
  | 6 => ⟨S3x256, .f32⟩
  | 7 => ⟨S256x64x64, .f32⟩
  | 8 => ⟨S3x64x64, .f32⟩
  | 9 => ⟨S3x64x64, .f32⟩
  | 10 => ⟨S3x256x1x1, .f32⟩
  | 11 => ⟨S3x256, .f32⟩
  | 12 => ⟨S256x64x64, .f32⟩
  | 13 => ⟨S3x64x64, .f32⟩
  | 14 => ⟨S3x64x64, .f32⟩
  | 15 => ⟨S3x256x1x1, .f32⟩
  | 16 => ⟨S3x256, .f32⟩
  | 17 => ⟨S256x64x64, .f32⟩
  | 18 => ⟨S3x64x64, .f32⟩
  | 19 => ⟨S3x64x64, .f32⟩
  | 20 => ⟨S3x256x1x1, .f32⟩
  | 21 => ⟨S3x256, .f32⟩
  | 22 => ⟨S256x64x64, .f32⟩
  | 23 => ⟨S3x64x64, .f32⟩
  | 24 => ⟨S3x64x64, .f32⟩
  | 25 => ⟨S3x256x1x1, .f32⟩
  | 26 => ⟨S3x256, .f32⟩
  | 27 => ⟨S256x64x64, .f32⟩
  | 28 => ⟨S3x64x64, .f32⟩
  | 29 => ⟨S3x64x64, .f32⟩
  | 30 => ⟨S3x256x1x1, .f32⟩
  | 31 => ⟨S3x256, .f32⟩
  | 32 => ⟨S256x64x64, .f32⟩
  | 33 => ⟨S3x64x64, .f32⟩
  | 34 => ⟨S3x64x64, .f32⟩
  | 35 => ⟨S3x1x1, .f32⟩
  | 36 => ⟨S3x64x64, .f32⟩
  | 37 => ⟨S3x64x64, .f32⟩
  | 38 => ⟨S_, .i32⟩
  | 39 => ⟨S_, .f32⟩
  | 40 => ⟨S256x66x66, .f32⟩
  | 41 => ⟨S_, .f32⟩
  | 42 => ⟨S12x64x64, .f32⟩
  | 43 => ⟨S12x256x1x1, .f32⟩
  | 44 => ⟨S12x256, .f32⟩
  | 45 => ⟨S256x64x64, .f32⟩
  | 46 => ⟨S12x64x64, .f32⟩
  | 47 => ⟨S12x64x64, .f32⟩
  | 48 => ⟨S12x256x1x1, .f32⟩
  | 49 => ⟨S12x256, .f32⟩
  | 50 => ⟨S256x64x64, .f32⟩
  | 51 => ⟨S12x64x64, .f32⟩
  | 52 => ⟨S12x64x64, .f32⟩
  | 53 => ⟨S12x256x1x1, .f32⟩
  | 54 => ⟨S12x256, .f32⟩
  | 55 => ⟨S256x64x64, .f32⟩
  | 56 => ⟨S12x64x64, .f32⟩
  | 57 => ⟨S12x64x64, .f32⟩
  | 58 => ⟨S12x256x1x1, .f32⟩
  | 59 => ⟨S12x256, .f32⟩
  | 60 => ⟨S256x64x64, .f32⟩
  | 61 => ⟨S12x64x64, .f32⟩
  | 62 => ⟨S12x64x64, .f32⟩
  | 63 => ⟨S12x256x1x1, .f32⟩
  | 64 => ⟨S12x256, .f32⟩
  | 65 => ⟨S256x64x64, .f32⟩
  | 66 => ⟨S12x64x64, .f32⟩
  | 67 => ⟨S12x64x64, .f32⟩
  | 68 => ⟨S12x256x1x1, .f32⟩
  | 69 => ⟨S12x256, .f32⟩
  | 70 => ⟨S256x64x64, .f32⟩
  | 71 => ⟨S12x64x64, .f32⟩
  | 72 => ⟨S12x64x64, .f32⟩
  | 73 => ⟨S12x256x1x1, .f32⟩
  | 74 => ⟨S12x256, .f32⟩
  | 75 => ⟨S256x64x64, .f32⟩
  | 76 => ⟨S12x64x64, .f32⟩
  | 77 => ⟨S12x64x64, .f32⟩
  | 78 => ⟨S12x256x1x1, .f32⟩
  | 79 => ⟨S12x256, .f32⟩
  | 80 => ⟨S256x64x64, .f32⟩
  | 81 => ⟨S12x64x64, .f32⟩
  | 82 => ⟨S12x64x64, .f32⟩
  | 83 => ⟨S12x256x1x1, .f32⟩
  | 84 => ⟨S12x256, .f32⟩
  | 85 => ⟨S256x64x64, .f32⟩
  | 86 => ⟨S12x64x64, .f32⟩
  | 87 => ⟨S12x64x64, .f32⟩
  | 88 => ⟨S12x1x1, .f32⟩
  | 89 => ⟨S12x64x64, .f32⟩
  | 90 => ⟨S12x64x64, .f32⟩
  | 91 => ⟨S1x3x1x64x64, .f32⟩
  | 92 => ⟨S1x3x4x64x64, .f32⟩
  | 93 => ⟨S256x32x32, .f32⟩
  | 94 => ⟨S_, .i32⟩
  | 95 => ⟨S_, .f32⟩
  | 96 => ⟨S256x34x34, .f32⟩
  | 97 => ⟨S_, .f32⟩
  | 98 => ⟨S256x32x32, .f32⟩
  | 99 => ⟨S256x256x1x1, .f32⟩
  | 100 => ⟨S256x256, .f32⟩
  | 101 => ⟨S256x32x32, .f32⟩
  | 102 => ⟨S256x32x32, .f32⟩
  | 103 => ⟨S256x32x32, .f32⟩
  | 104 => ⟨S256x256x1x1, .f32⟩
  | 105 => ⟨S256x256, .f32⟩
  | 106 => ⟨S256x32x32, .f32⟩
  | 107 => ⟨S256x32x32, .f32⟩
  | 108 => ⟨S256x32x32, .f32⟩
  | 109 => ⟨S256x256x1x1, .f32⟩
  | 110 => ⟨S256x256, .f32⟩
  | 111 => ⟨S256x32x32, .f32⟩
  | 112 => ⟨S256x32x32, .f32⟩
  | 113 => ⟨S256x32x32, .f32⟩
  | 114 => ⟨S256x256x1x1, .f32⟩
  | 115 => ⟨S256x256, .f32⟩
  | 116 => ⟨S256x32x32, .f32⟩
  | 117 => ⟨S256x32x32, .f32⟩
  | 118 => ⟨S256x32x32, .f32⟩
  | 119 => ⟨S256x256x1x1, .f32⟩
  | 120 => ⟨S256x256, .f32⟩
  | 121 => ⟨S256x32x32, .f32⟩
  | 122 => ⟨S256x32x32, .f32⟩
  | 123 => ⟨S256x32x32, .f32⟩
  | 124 => ⟨S256x256x1x1, .f32⟩
  | 125 => ⟨S256x256, .f32⟩
  | 126 => ⟨S256x32x32, .f32⟩
  | 127 => ⟨S256x32x32, .f32⟩
  | _ => ⟨S1x256x64x64, .f32⟩

abbrev hbmTy0_3 (i : Nat) : BufTy := match i % 128 with
  | 0 => ⟨S256x32x32, .f32⟩
  | 1 => ⟨S256x256x1x1, .f32⟩
  | 2 => ⟨S256x256, .f32⟩
  | 3 => ⟨S256x32x32, .f32⟩
  | 4 => ⟨S256x32x32, .f32⟩
  | 5 => ⟨S256x32x32, .f32⟩
  | 6 => ⟨S256x256x1x1, .f32⟩
  | 7 => ⟨S256x256, .f32⟩
  | 8 => ⟨S256x32x32, .f32⟩
  | 9 => ⟨S256x32x32, .f32⟩
  | 10 => ⟨S256x32x32, .f32⟩
  | 11 => ⟨S256x256x1x1, .f32⟩
  | 12 => ⟨S256x256, .f32⟩
  | 13 => ⟨S256x32x32, .f32⟩
  | 14 => ⟨S256x32x32, .f32⟩
  | 15 => ⟨S256x32x32, .f32⟩
  | 16 => ⟨S256x1x1, .f32⟩
  | 17 => ⟨S256x32x32, .f32⟩
  | 18 => ⟨S256x32x32, .f32⟩
  | 19 => ⟨S_, .f32⟩
  | 20 => ⟨S256x32x32, .f32⟩
  | 21 => ⟨S256x32x32, .f32⟩
  | 22 => ⟨S_, .i32⟩
  | 23 => ⟨S_, .f32⟩
  | 24 => ⟨S256x34x34, .f32⟩
  | 25 => ⟨S_, .f32⟩
  | 26 => ⟨S256x32x32, .f32⟩
  | 27 => ⟨S256x256x1x1, .f32⟩
  | 28 => ⟨S256x256, .f32⟩
  | 29 => ⟨S256x32x32, .f32⟩
  | 30 => ⟨S256x32x32, .f32⟩
  | 31 => ⟨S256x32x32, .f32⟩
  | 32 => ⟨S256x256x1x1, .f32⟩
  | 33 => ⟨S256x256, .f32⟩
  | 34 => ⟨S256x32x32, .f32⟩
  | 35 => ⟨S256x32x32, .f32⟩
  | 36 => ⟨S256x32x32, .f32⟩
  | 37 => ⟨S256x256x1x1, .f32⟩
  | 38 => ⟨S256x256, .f32⟩
  | 39 => ⟨S256x32x32, .f32⟩
  | 40 => ⟨S256x32x32, .f32⟩
  | 41 => ⟨S256x32x32, .f32⟩
  | 42 => ⟨S256x256x1x1, .f32⟩
  | 43 => ⟨S256x256, .f32⟩
  | 44 => ⟨S256x32x32, .f32⟩
  | 45 => ⟨S256x32x32, .f32⟩
  | 46 => ⟨S256x32x32, .f32⟩
  | 47 => ⟨S256x256x1x1, .f32⟩
  | 48 => ⟨S256x256, .f32⟩
  | 49 => ⟨S256x32x32, .f32⟩
  | 50 => ⟨S256x32x32, .f32⟩
  | 51 => ⟨S256x32x32, .f32⟩
  | 52 => ⟨S256x256x1x1, .f32⟩
  | 53 => ⟨S256x256, .f32⟩
  | 54 => ⟨S256x32x32, .f32⟩
  | 55 => ⟨S256x32x32, .f32⟩
  | 56 => ⟨S256x32x32, .f32⟩
  | 57 => ⟨S256x256x1x1, .f32⟩
  | 58 => ⟨S256x256, .f32⟩
  | 59 => ⟨S256x32x32, .f32⟩
  | 60 => ⟨S256x32x32, .f32⟩
  | 61 => ⟨S256x32x32, .f32⟩
  | 62 => ⟨S256x256x1x1, .f32⟩
  | 63 => ⟨S256x256, .f32⟩
  | 64 => ⟨S256x32x32, .f32⟩
  | 65 => ⟨S256x32x32, .f32⟩
  | 66 => ⟨S256x32x32, .f32⟩
  | 67 => ⟨S256x256x1x1, .f32⟩
  | 68 => ⟨S256x256, .f32⟩
  | 69 => ⟨S256x32x32, .f32⟩
  | 70 => ⟨S256x32x32, .f32⟩
  | 71 => ⟨S256x32x32, .f32⟩
  | 72 => ⟨S256x1x1, .f32⟩
  | 73 => ⟨S256x32x32, .f32⟩
  | 74 => ⟨S256x32x32, .f32⟩
  | 75 => ⟨S_, .f32⟩
  | 76 => ⟨S256x32x32, .f32⟩
  | 77 => ⟨S256x32x32, .f32⟩
  | 78 => ⟨S_, .i32⟩
  | 79 => ⟨S_, .f32⟩
  | 80 => ⟨S256x34x34, .f32⟩
  | 81 => ⟨S_, .f32⟩
  | 82 => ⟨S256x32x32, .f32⟩
  | 83 => ⟨S256x256x1x1, .f32⟩
  | 84 => ⟨S256x256, .f32⟩
  | 85 => ⟨S256x32x32, .f32⟩
  | 86 => ⟨S256x32x32, .f32⟩
  | 87 => ⟨S256x32x32, .f32⟩
  | 88 => ⟨S256x256x1x1, .f32⟩
  | 89 => ⟨S256x256, .f32⟩
  | 90 => ⟨S256x32x32, .f32⟩
  | 91 => ⟨S256x32x32, .f32⟩
  | 92 => ⟨S256x32x32, .f32⟩
  | 93 => ⟨S256x256x1x1, .f32⟩
  | 94 => ⟨S256x256, .f32⟩
  | 95 => ⟨S256x32x32, .f32⟩
  | 96 => ⟨S256x32x32, .f32⟩
  | 97 => ⟨S256x32x32, .f32⟩
  | 98 => ⟨S256x256x1x1, .f32⟩
  | 99 => ⟨S256x256, .f32⟩
  | 100 => ⟨S256x32x32, .f32⟩
  | 101 => ⟨S256x32x32, .f32⟩
  | 102 => ⟨S256x32x32, .f32⟩
  | 103 => ⟨S256x256x1x1, .f32⟩
  | 104 => ⟨S256x256, .f32⟩
  | 105 => ⟨S256x32x32, .f32⟩
  | 106 => ⟨S256x32x32, .f32⟩
  | 107 => ⟨S256x32x32, .f32⟩
  | 108 => ⟨S256x256x1x1, .f32⟩
  | 109 => ⟨S256x256, .f32⟩
  | 110 => ⟨S256x32x32, .f32⟩
  | 111 => ⟨S256x32x32, .f32⟩
  | 112 => ⟨S256x32x32, .f32⟩
  | 113 => ⟨S256x256x1x1, .f32⟩
  | 114 => ⟨S256x256, .f32⟩
  | 115 => ⟨S256x32x32, .f32⟩
  | 116 => ⟨S256x32x32, .f32⟩
  | 117 => ⟨S256x32x32, .f32⟩
  | 118 => ⟨S256x256x1x1, .f32⟩
  | 119 => ⟨S256x256, .f32⟩
  | 120 => ⟨S256x32x32, .f32⟩
  | 121 => ⟨S256x32x32, .f32⟩
  | 122 => ⟨S256x32x32, .f32⟩
  | 123 => ⟨S256x256x1x1, .f32⟩
  | 124 => ⟨S256x256, .f32⟩
  | 125 => ⟨S256x32x32, .f32⟩
  | 126 => ⟨S256x32x32, .f32⟩
  | 127 => ⟨S256x32x32, .f32⟩
  | _ => ⟨S1x256x64x64, .f32⟩

abbrev hbmTy0_4 (i : Nat) : BufTy := match i % 128 with
  | 0 => ⟨S256x1x1, .f32⟩
  | 1 => ⟨S256x32x32, .f32⟩
  | 2 => ⟨S256x32x32, .f32⟩
  | 3 => ⟨S_, .f32⟩
  | 4 => ⟨S256x32x32, .f32⟩
  | 5 => ⟨S256x32x32, .f32⟩
  | 6 => ⟨S_, .i32⟩
  | 7 => ⟨S_, .f32⟩
  | 8 => ⟨S256x34x34, .f32⟩
  | 9 => ⟨S_, .f32⟩
  | 10 => ⟨S256x32x32, .f32⟩
  | 11 => ⟨S256x256x1x1, .f32⟩
  | 12 => ⟨S256x256, .f32⟩
  | 13 => ⟨S256x32x32, .f32⟩
  | 14 => ⟨S256x32x32, .f32⟩
  | 15 => ⟨S256x32x32, .f32⟩
  | 16 => ⟨S256x256x1x1, .f32⟩
  | 17 => ⟨S256x256, .f32⟩
  | 18 => ⟨S256x32x32, .f32⟩
  | 19 => ⟨S256x32x32, .f32⟩
  | 20 => ⟨S256x32x32, .f32⟩
  | 21 => ⟨S256x256x1x1, .f32⟩
  | 22 => ⟨S256x256, .f32⟩
  | 23 => ⟨S256x32x32, .f32⟩
  | 24 => ⟨S256x32x32, .f32⟩
  | 25 => ⟨S256x32x32, .f32⟩
  | 26 => ⟨S256x256x1x1, .f32⟩
  | 27 => ⟨S256x256, .f32⟩
  | 28 => ⟨S256x32x32, .f32⟩
  | 29 => ⟨S256x32x32, .f32⟩
  | 30 => ⟨S256x32x32, .f32⟩
  | 31 => ⟨S256x256x1x1, .f32⟩
  | 32 => ⟨S256x256, .f32⟩
  | 33 => ⟨S256x32x32, .f32⟩
  | 34 => ⟨S256x32x32, .f32⟩
  | 35 => ⟨S256x32x32, .f32⟩
  | 36 => ⟨S256x256x1x1, .f32⟩
  | 37 => ⟨S256x256, .f32⟩
  | 38 => ⟨S256x32x32, .f32⟩
  | 39 => ⟨S256x32x32, .f32⟩
  | 40 => ⟨S256x32x32, .f32⟩
  | 41 => ⟨S256x256x1x1, .f32⟩
  | 42 => ⟨S256x256, .f32⟩
  | 43 => ⟨S256x32x32, .f32⟩
  | 44 => ⟨S256x32x32, .f32⟩
  | 45 => ⟨S256x32x32, .f32⟩
  | 46 => ⟨S256x256x1x1, .f32⟩
  | 47 => ⟨S256x256, .f32⟩
  | 48 => ⟨S256x32x32, .f32⟩
  | 49 => ⟨S256x32x32, .f32⟩
  | 50 => ⟨S256x32x32, .f32⟩
  | 51 => ⟨S256x256x1x1, .f32⟩
  | 52 => ⟨S256x256, .f32⟩
  | 53 => ⟨S256x32x32, .f32⟩
  | 54 => ⟨S256x32x32, .f32⟩
  | 55 => ⟨S256x32x32, .f32⟩
  | 56 => ⟨S256x1x1, .f32⟩
  | 57 => ⟨S256x32x32, .f32⟩
  | 58 => ⟨S256x32x32, .f32⟩
  | 59 => ⟨S_, .f32⟩
  | 60 => ⟨S256x32x32, .f32⟩
  | 61 => ⟨S256x32x32, .f32⟩
  | 62 => ⟨S_, .i32⟩
  | 63 => ⟨S_, .f32⟩
  | 64 => ⟨S256x34x34, .f32⟩
  | 65 => ⟨S_, .f32⟩
  | 66 => ⟨S3x32x32, .f32⟩
  | 67 => ⟨S3x256x1x1, .f32⟩
  | 68 => ⟨S3x256, .f32⟩
  | 69 => ⟨S256x32x32, .f32⟩
  | 70 => ⟨S3x32x32, .f32⟩
  | 71 => ⟨S3x32x32, .f32⟩
  | 72 => ⟨S3x256x1x1, .f32⟩
  | 73 => ⟨S3x256, .f32⟩
  | 74 => ⟨S256x32x32, .f32⟩
  | 75 => ⟨S3x32x32, .f32⟩
  | 76 => ⟨S3x32x32, .f32⟩
  | 77 => ⟨S3x256x1x1, .f32⟩
  | 78 => ⟨S3x256, .f32⟩
  | 79 => ⟨S256x32x32, .f32⟩
  | 80 => ⟨S3x32x32, .f32⟩
  | 81 => ⟨S3x32x32, .f32⟩
  | 82 => ⟨S3x256x1x1, .f32⟩
  | 83 => ⟨S3x256, .f32⟩
  | 84 => ⟨S256x32x32, .f32⟩
  | 85 => ⟨S3x32x32, .f32⟩
  | 86 => ⟨S3x32x32, .f32⟩
  | 87 => ⟨S3x256x1x1, .f32⟩
  | 88 => ⟨S3x256, .f32⟩
  | 89 => ⟨S256x32x32, .f32⟩
  | 90 => ⟨S3x32x32, .f32⟩
  | 91 => ⟨S3x32x32, .f32⟩
  | 92 => ⟨S3x256x1x1, .f32⟩
  | 93 => ⟨S3x256, .f32⟩
  | 94 => ⟨S256x32x32, .f32⟩
  | 95 => ⟨S3x32x32, .f32⟩
  | 96 => ⟨S3x32x32, .f32⟩
  | 97 => ⟨S3x256x1x1, .f32⟩
  | 98 => ⟨S3x256, .f32⟩
  | 99 => ⟨S256x32x32, .f32⟩
  | 100 => ⟨S3x32x32, .f32⟩
  | 101 => ⟨S3x32x32, .f32⟩
  | 102 => ⟨S3x256x1x1, .f32⟩
  | 103 => ⟨S3x256, .f32⟩
  | 104 => ⟨S256x32x32, .f32⟩
  | 105 => ⟨S3x32x32, .f32⟩
  | 106 => ⟨S3x32x32, .f32⟩
  | 107 => ⟨S3x256x1x1, .f32⟩
  | 108 => ⟨S3x256, .f32⟩
  | 109 => ⟨S256x32x32, .f32⟩
  | 110 => ⟨S3x32x32, .f32⟩
  | 111 => ⟨S3x32x32, .f32⟩
  | 112 => ⟨S3x1x1, .f32⟩
  | 113 => ⟨S3x32x32, .f32⟩
  | 114 => ⟨S3x32x32, .f32⟩
  | 115 => ⟨S_, .i32⟩
  | 116 => ⟨S_, .f32⟩
  | 117 => ⟨S256x34x34, .f32⟩
  | 118 => ⟨S_, .f32⟩
  | 119 => ⟨S12x32x32, .f32⟩
  | 120 => ⟨S12x256x1x1, .f32⟩
  | 121 => ⟨S12x256, .f32⟩
  | 122 => ⟨S256x32x32, .f32⟩
  | 123 => ⟨S12x32x32, .f32⟩
  | 124 => ⟨S12x32x32, .f32⟩
  | 125 => ⟨S12x256x1x1, .f32⟩
  | 126 => ⟨S12x256, .f32⟩
  | 127 => ⟨S256x32x32, .f32⟩
  | _ => ⟨S1x256x64x64, .f32⟩

abbrev hbmTy0_5 (i : Nat) : BufTy := match i % 128 with
  | 0 => ⟨S12x32x32, .f32⟩
  | 1 => ⟨S12x32x32, .f32⟩
  | 2 => ⟨S12x256x1x1, .f32⟩
  | 3 => ⟨S12x256, .f32⟩
  | 4 => ⟨S256x32x32, .f32⟩
  | 5 => ⟨S12x32x32, .f32⟩
  | 6 => ⟨S12x32x32, .f32⟩
  | 7 => ⟨S12x256x1x1, .f32⟩
  | 8 => ⟨S12x256, .f32⟩
  | 9 => ⟨S256x32x32, .f32⟩
  | 10 => ⟨S12x32x32, .f32⟩
  | 11 => ⟨S12x32x32, .f32⟩
  | 12 => ⟨S12x256x1x1, .f32⟩
  | 13 => ⟨S12x256, .f32⟩
  | 14 => ⟨S256x32x32, .f32⟩
  | 15 => ⟨S12x32x32, .f32⟩
  | 16 => ⟨S12x32x32, .f32⟩
  | 17 => ⟨S12x256x1x1, .f32⟩
  | 18 => ⟨S12x256, .f32⟩
  | 19 => ⟨S256x32x32, .f32⟩
  | 20 => ⟨S12x32x32, .f32⟩
  | 21 => ⟨S12x32x32, .f32⟩
  | 22 => ⟨S12x256x1x1, .f32⟩
  | 23 => ⟨S12x256, .f32⟩
  | 24 => ⟨S256x32x32, .f32⟩
  | 25 => ⟨S12x32x32, .f32⟩
  | 26 => ⟨S12x32x32, .f32⟩
  | 27 => ⟨S12x256x1x1, .f32⟩
  | 28 => ⟨S12x256, .f32⟩
  | 29 => ⟨S256x32x32, .f32⟩
  | 30 => ⟨S12x32x32, .f32⟩
  | 31 => ⟨S12x32x32, .f32⟩
  | 32 => ⟨S12x256x1x1, .f32⟩
  | 33 => ⟨S12x256, .f32⟩
  | 34 => ⟨S256x32x32, .f32⟩
  | 35 => ⟨S12x32x32, .f32⟩
  | 36 => ⟨S12x32x32, .f32⟩
  | 37 => ⟨S12x1x1, .f32⟩
  | 38 => ⟨S12x32x32, .f32⟩
  | 39 => ⟨S12x32x32, .f32⟩
  | 40 => ⟨S1x3x1x32x32, .f32⟩
  | 41 => ⟨S1x3x4x32x32, .f32⟩
  | 42 => ⟨S256x16x16, .f32⟩
  | 43 => ⟨S_, .i32⟩
  | 44 => ⟨S_, .f32⟩
  | 45 => ⟨S256x18x18, .f32⟩
  | 46 => ⟨S_, .f32⟩
  | 47 => ⟨S256x16x16, .f32⟩
  | 48 => ⟨S256x256x1x1, .f32⟩
  | 49 => ⟨S256x256, .f32⟩
  | 50 => ⟨S256x16x16, .f32⟩
  | 51 => ⟨S256x16x16, .f32⟩
  | 52 => ⟨S256x16x16, .f32⟩
  | 53 => ⟨S256x256x1x1, .f32⟩
  | 54 => ⟨S256x256, .f32⟩
  | 55 => ⟨S256x16x16, .f32⟩
  | 56 => ⟨S256x16x16, .f32⟩
  | 57 => ⟨S256x16x16, .f32⟩
  | 58 => ⟨S256x256x1x1, .f32⟩
  | 59 => ⟨S256x256, .f32⟩
  | 60 => ⟨S256x16x16, .f32⟩
  | 61 => ⟨S256x16x16, .f32⟩
  | 62 => ⟨S256x16x16, .f32⟩
  | 63 => ⟨S256x256x1x1, .f32⟩
  | 64 => ⟨S256x256, .f32⟩
  | 65 => ⟨S256x16x16, .f32⟩
  | 66 => ⟨S256x16x16, .f32⟩
  | 67 => ⟨S256x16x16, .f32⟩
  | 68 => ⟨S256x256x1x1, .f32⟩
  | 69 => ⟨S256x256, .f32⟩
  | 70 => ⟨S256x16x16, .f32⟩
  | 71 => ⟨S256x16x16, .f32⟩
  | 72 => ⟨S256x16x16, .f32⟩
  | 73 => ⟨S256x256x1x1, .f32⟩
  | 74 => ⟨S256x256, .f32⟩
  | 75 => ⟨S256x16x16, .f32⟩
  | 76 => ⟨S256x16x16, .f32⟩
  | 77 => ⟨S256x16x16, .f32⟩
  | 78 => ⟨S256x256x1x1, .f32⟩
  | 79 => ⟨S256x256, .f32⟩
  | 80 => ⟨S256x16x16, .f32⟩
  | 81 => ⟨S256x16x16, .f32⟩
  | 82 => ⟨S256x16x16, .f32⟩
  | 83 => ⟨S256x256x1x1, .f32⟩
  | 84 => ⟨S256x256, .f32⟩
  | 85 => ⟨S256x16x16, .f32⟩
  | 86 => ⟨S256x16x16, .f32⟩
  | 87 => ⟨S256x16x16, .f32⟩
  | 88 => ⟨S256x256x1x1, .f32⟩
  | 89 => ⟨S256x256, .f32⟩
  | 90 => ⟨S256x16x16, .f32⟩
  | 91 => ⟨S256x16x16, .f32⟩
  | 92 => ⟨S256x16x16, .f32⟩
  | 93 => ⟨S256x1x1, .f32⟩
  | 94 => ⟨S256x16x16, .f32⟩
  | 95 => ⟨S256x16x16, .f32⟩
  | 96 => ⟨S_, .f32⟩
  | 97 => ⟨S256x16x16, .f32⟩
  | 98 => ⟨S256x16x16, .f32⟩
  | 99 => ⟨S_, .i32⟩
  | 100 => ⟨S_, .f32⟩
  | 101 => ⟨S256x18x18, .f32⟩
  | 102 => ⟨S_, .f32⟩
  | 103 => ⟨S256x16x16, .f32⟩
  | 104 => ⟨S256x256x1x1, .f32⟩
  | 105 => ⟨S256x256, .f32⟩
  | 106 => ⟨S256x16x16, .f32⟩
  | 107 => ⟨S256x16x16, .f32⟩
  | 108 => ⟨S256x16x16, .f32⟩
  | 109 => ⟨S256x256x1x1, .f32⟩
  | 110 => ⟨S256x256, .f32⟩
  | 111 => ⟨S256x16x16, .f32⟩
  | 112 => ⟨S256x16x16, .f32⟩
  | 113 => ⟨S256x16x16, .f32⟩
  | 114 => ⟨S256x256x1x1, .f32⟩
  | 115 => ⟨S256x256, .f32⟩
  | 116 => ⟨S256x16x16, .f32⟩
  | 117 => ⟨S256x16x16, .f32⟩
  | 118 => ⟨S256x16x16, .f32⟩
  | 119 => ⟨S256x256x1x1, .f32⟩
  | 120 => ⟨S256x256, .f32⟩
  | 121 => ⟨S256x16x16, .f32⟩
  | 122 => ⟨S256x16x16, .f32⟩
  | 123 => ⟨S256x16x16, .f32⟩
  | 124 => ⟨S256x256x1x1, .f32⟩
  | 125 => ⟨S256x256, .f32⟩
  | 126 => ⟨S256x16x16, .f32⟩
  | 127 => ⟨S256x16x16, .f32⟩
  | _ => ⟨S1x256x64x64, .f32⟩

abbrev hbmTy0_6 (i : Nat) : BufTy := match i % 128 with
  | 0 => ⟨S256x16x16, .f32⟩
  | 1 => ⟨S256x256x1x1, .f32⟩
  | 2 => ⟨S256x256, .f32⟩
  | 3 => ⟨S256x16x16, .f32⟩
  | 4 => ⟨S256x16x16, .f32⟩
  | 5 => ⟨S256x16x16, .f32⟩
  | 6 => ⟨S256x256x1x1, .f32⟩
  | 7 => ⟨S256x256, .f32⟩
  | 8 => ⟨S256x16x16, .f32⟩
  | 9 => ⟨S256x16x16, .f32⟩
  | 10 => ⟨S256x16x16, .f32⟩
  | 11 => ⟨S256x256x1x1, .f32⟩
  | 12 => ⟨S256x256, .f32⟩
  | 13 => ⟨S256x16x16, .f32⟩
  | 14 => ⟨S256x16x16, .f32⟩
  | 15 => ⟨S256x16x16, .f32⟩
  | 16 => ⟨S256x256x1x1, .f32⟩
  | 17 => ⟨S256x256, .f32⟩
  | 18 => ⟨S256x16x16, .f32⟩
  | 19 => ⟨S256x16x16, .f32⟩
  | 20 => ⟨S256x16x16, .f32⟩
  | 21 => ⟨S256x1x1, .f32⟩
  | 22 => ⟨S256x16x16, .f32⟩
  | 23 => ⟨S256x16x16, .f32⟩
  | 24 => ⟨S_, .f32⟩
  | 25 => ⟨S256x16x16, .f32⟩
  | 26 => ⟨S256x16x16, .f32⟩
  | 27 => ⟨S_, .i32⟩
  | 28 => ⟨S_, .f32⟩
  | 29 => ⟨S256x18x18, .f32⟩
  | 30 => ⟨S_, .f32⟩
  | 31 => ⟨S256x16x16, .f32⟩
  | 32 => ⟨S256x256x1x1, .f32⟩
  | 33 => ⟨S256x256, .f32⟩
  | 34 => ⟨S256x16x16, .f32⟩
  | 35 => ⟨S256x16x16, .f32⟩
  | 36 => ⟨S256x16x16, .f32⟩
  | 37 => ⟨S256x256x1x1, .f32⟩
  | 38 => ⟨S256x256, .f32⟩
  | 39 => ⟨S256x16x16, .f32⟩
  | 40 => ⟨S256x16x16, .f32⟩
  | 41 => ⟨S256x16x16, .f32⟩
  | 42 => ⟨S256x256x1x1, .f32⟩
  | 43 => ⟨S256x256, .f32⟩
  | 44 => ⟨S256x16x16, .f32⟩
  | 45 => ⟨S256x16x16, .f32⟩
  | 46 => ⟨S256x16x16, .f32⟩
  | 47 => ⟨S256x256x1x1, .f32⟩
  | 48 => ⟨S256x256, .f32⟩
  | 49 => ⟨S256x16x16, .f32⟩
  | 50 => ⟨S256x16x16, .f32⟩
  | 51 => ⟨S256x16x16, .f32⟩
  | 52 => ⟨S256x256x1x1, .f32⟩
  | 53 => ⟨S256x256, .f32⟩
  | 54 => ⟨S256x16x16, .f32⟩
  | 55 => ⟨S256x16x16, .f32⟩
  | 56 => ⟨S256x16x16, .f32⟩
  | 57 => ⟨S256x256x1x1, .f32⟩
  | 58 => ⟨S256x256, .f32⟩
  | 59 => ⟨S256x16x16, .f32⟩
  | 60 => ⟨S256x16x16, .f32⟩
  | 61 => ⟨S256x16x16, .f32⟩
  | 62 => ⟨S256x256x1x1, .f32⟩
  | 63 => ⟨S256x256, .f32⟩
  | 64 => ⟨S256x16x16, .f32⟩
  | 65 => ⟨S256x16x16, .f32⟩
  | 66 => ⟨S256x16x16, .f32⟩
  | 67 => ⟨S256x256x1x1, .f32⟩
  | 68 => ⟨S256x256, .f32⟩
  | 69 => ⟨S256x16x16, .f32⟩
  | 70 => ⟨S256x16x16, .f32⟩
  | 71 => ⟨S256x16x16, .f32⟩
  | 72 => ⟨S256x256x1x1, .f32⟩
  | 73 => ⟨S256x256, .f32⟩
  | 74 => ⟨S256x16x16, .f32⟩
  | 75 => ⟨S256x16x16, .f32⟩
  | 76 => ⟨S256x16x16, .f32⟩
  | 77 => ⟨S256x1x1, .f32⟩
  | 78 => ⟨S256x16x16, .f32⟩
  | 79 => ⟨S256x16x16, .f32⟩
  | 80 => ⟨S_, .f32⟩
  | 81 => ⟨S256x16x16, .f32⟩
  | 82 => ⟨S256x16x16, .f32⟩
  | 83 => ⟨S_, .i32⟩
  | 84 => ⟨S_, .f32⟩
  | 85 => ⟨S256x18x18, .f32⟩
  | 86 => ⟨S_, .f32⟩
  | 87 => ⟨S256x16x16, .f32⟩
  | 88 => ⟨S256x256x1x1, .f32⟩
  | 89 => ⟨S256x256, .f32⟩
  | 90 => ⟨S256x16x16, .f32⟩
  | 91 => ⟨S256x16x16, .f32⟩
  | 92 => ⟨S256x16x16, .f32⟩
  | 93 => ⟨S256x256x1x1, .f32⟩
  | 94 => ⟨S256x256, .f32⟩
  | 95 => ⟨S256x16x16, .f32⟩
  | 96 => ⟨S256x16x16, .f32⟩
  | 97 => ⟨S256x16x16, .f32⟩
  | 98 => ⟨S256x256x1x1, .f32⟩
  | 99 => ⟨S256x256, .f32⟩
  | 100 => ⟨S256x16x16, .f32⟩
  | 101 => ⟨S256x16x16, .f32⟩
  | 102 => ⟨S256x16x16, .f32⟩
  | 103 => ⟨S256x256x1x1, .f32⟩
  | 104 => ⟨S256x256, .f32⟩
  | 105 => ⟨S256x16x16, .f32⟩
  | 106 => ⟨S256x16x16, .f32⟩
  | 107 => ⟨S256x16x16, .f32⟩
  | 108 => ⟨S256x256x1x1, .f32⟩
  | 109 => ⟨S256x256, .f32⟩
  | 110 => ⟨S256x16x16, .f32⟩
  | 111 => ⟨S256x16x16, .f32⟩
  | 112 => ⟨S256x16x16, .f32⟩
  | 113 => ⟨S256x256x1x1, .f32⟩
  | 114 => ⟨S256x256, .f32⟩
  | 115 => ⟨S256x16x16, .f32⟩
  | 116 => ⟨S256x16x16, .f32⟩
  | 117 => ⟨S256x16x16, .f32⟩
  | 118 => ⟨S256x256x1x1, .f32⟩
  | 119 => ⟨S256x256, .f32⟩
  | 120 => ⟨S256x16x16, .f32⟩
  | 121 => ⟨S256x16x16, .f32⟩
  | 122 => ⟨S256x16x16, .f32⟩
  | 123 => ⟨S256x256x1x1, .f32⟩
  | 124 => ⟨S256x256, .f32⟩
  | 125 => ⟨S256x16x16, .f32⟩
  | 126 => ⟨S256x16x16, .f32⟩
  | 127 => ⟨S256x16x16, .f32⟩
  | _ => ⟨S1x256x64x64, .f32⟩

abbrev hbmTy0_7 (i : Nat) : BufTy := match i % 128 with
  | 0 => ⟨S256x256x1x1, .f32⟩
  | 1 => ⟨S256x256, .f32⟩
  | 2 => ⟨S256x16x16, .f32⟩
  | 3 => ⟨S256x16x16, .f32⟩
  | 4 => ⟨S256x16x16, .f32⟩
  | 5 => ⟨S256x1x1, .f32⟩
  | 6 => ⟨S256x16x16, .f32⟩
  | 7 => ⟨S256x16x16, .f32⟩
  | 8 => ⟨S_, .f32⟩
  | 9 => ⟨S256x16x16, .f32⟩
  | 10 => ⟨S256x16x16, .f32⟩
  | 11 => ⟨S_, .i32⟩
  | 12 => ⟨S_, .f32⟩
  | 13 => ⟨S256x18x18, .f32⟩
  | 14 => ⟨S_, .f32⟩
  | 15 => ⟨S3x16x16, .f32⟩
  | 16 => ⟨S3x256x1x1, .f32⟩
  | 17 => ⟨S3x256, .f32⟩
  | 18 => ⟨S256x16x16, .f32⟩
  | 19 => ⟨S3x16x16, .f32⟩
  | 20 => ⟨S3x16x16, .f32⟩
  | 21 => ⟨S3x256x1x1, .f32⟩
  | 22 => ⟨S3x256, .f32⟩
  | 23 => ⟨S256x16x16, .f32⟩
  | 24 => ⟨S3x16x16, .f32⟩
  | 25 => ⟨S3x16x16, .f32⟩
  | 26 => ⟨S3x256x1x1, .f32⟩
  | 27 => ⟨S3x256, .f32⟩
  | 28 => ⟨S256x16x16, .f32⟩
  | 29 => ⟨S3x16x16, .f32⟩
  | 30 => ⟨S3x16x16, .f32⟩
  | 31 => ⟨S3x256x1x1, .f32⟩
  | 32 => ⟨S3x256, .f32⟩
  | 33 => ⟨S256x16x16, .f32⟩
  | 34 => ⟨S3x16x16, .f32⟩
  | 35 => ⟨S3x16x16, .f32⟩
  | 36 => ⟨S3x256x1x1, .f32⟩
  | 37 => ⟨S3x256, .f32⟩
  | 38 => ⟨S256x16x16, .f32⟩
  | 39 => ⟨S3x16x16, .f32⟩
  | 40 => ⟨S3x16x16, .f32⟩
  | 41 => ⟨S3x256x1x1, .f32⟩
  | 42 => ⟨S3x256, .f32⟩
  | 43 => ⟨S256x16x16, .f32⟩
  | 44 => ⟨S3x16x16, .f32⟩
  | 45 => ⟨S3x16x16, .f32⟩
  | 46 => ⟨S3x256x1x1, .f32⟩
  | 47 => ⟨S3x256, .f32⟩
  | 48 => ⟨S256x16x16, .f32⟩
  | 49 => ⟨S3x16x16, .f32⟩
  | 50 => ⟨S3x16x16, .f32⟩
  | 51 => ⟨S3x256x1x1, .f32⟩
  | 52 => ⟨S3x256, .f32⟩
  | 53 => ⟨S256x16x16, .f32⟩
  | 54 => ⟨S3x16x16, .f32⟩
  | 55 => ⟨S3x16x16, .f32⟩
  | 56 => ⟨S3x256x1x1, .f32⟩
  | 57 => ⟨S3x256, .f32⟩
  | 58 => ⟨S256x16x16, .f32⟩
  | 59 => ⟨S3x16x16, .f32⟩
  | 60 => ⟨S3x16x16, .f32⟩
  | 61 => ⟨S3x1x1, .f32⟩
  | 62 => ⟨S3x16x16, .f32⟩
  | 63 => ⟨S3x16x16, .f32⟩
  | 64 => ⟨S_, .i32⟩
  | 65 => ⟨S_, .f32⟩
  | 66 => ⟨S256x18x18, .f32⟩
  | 67 => ⟨S_, .f32⟩
  | 68 => ⟨S12x16x16, .f32⟩
  | 69 => ⟨S12x256x1x1, .f32⟩
  | 70 => ⟨S12x256, .f32⟩
  | 71 => ⟨S256x16x16, .f32⟩
  | 72 => ⟨S12x16x16, .f32⟩
  | 73 => ⟨S12x16x16, .f32⟩
  | 74 => ⟨S12x256x1x1, .f32⟩
  | 75 => ⟨S12x256, .f32⟩
  | 76 => ⟨S256x16x16, .f32⟩
  | 77 => ⟨S12x16x16, .f32⟩
  | 78 => ⟨S12x16x16, .f32⟩
  | 79 => ⟨S12x256x1x1, .f32⟩
  | 80 => ⟨S12x256, .f32⟩
  | 81 => ⟨S256x16x16, .f32⟩
  | 82 => ⟨S12x16x16, .f32⟩
  | 83 => ⟨S12x16x16, .f32⟩
  | 84 => ⟨S12x256x1x1, .f32⟩
  | 85 => ⟨S12x256, .f32⟩
  | 86 => ⟨S256x16x16, .f32⟩
  | 87 => ⟨S12x16x16, .f32⟩
  | 88 => ⟨S12x16x16, .f32⟩
  | 89 => ⟨S12x256x1x1, .f32⟩
  | 90 => ⟨S12x256, .f32⟩
  | 91 => ⟨S256x16x16, .f32⟩
  | 92 => ⟨S12x16x16, .f32⟩
  | 93 => ⟨S12x16x16, .f32⟩
  | 94 => ⟨S12x256x1x1, .f32⟩
  | 95 => ⟨S12x256, .f32⟩
  | 96 => ⟨S256x16x16, .f32⟩
  | 97 => ⟨S12x16x16, .f32⟩
  | 98 => ⟨S12x16x16, .f32⟩
  | 99 => ⟨S12x256x1x1, .f32⟩
  | 100 => ⟨S12x256, .f32⟩
  | 101 => ⟨S256x16x16, .f32⟩
  | 102 => ⟨S12x16x16, .f32⟩
  | 103 => ⟨S12x16x16, .f32⟩
  | 104 => ⟨S12x256x1x1, .f32⟩
  | 105 => ⟨S12x256, .f32⟩
  | 106 => ⟨S256x16x16, .f32⟩
  | 107 => ⟨S12x16x16, .f32⟩
  | 108 => ⟨S12x16x16, .f32⟩
  | 109 => ⟨S12x256x1x1, .f32⟩
  | 110 => ⟨S12x256, .f32⟩
  | 111 => ⟨S256x16x16, .f32⟩
  | 112 => ⟨S12x16x16, .f32⟩
  | 113 => ⟨S12x16x16, .f32⟩
  | 114 => ⟨S12x1x1, .f32⟩
  | 115 => ⟨S12x16x16, .f32⟩
  | 116 => ⟨S12x16x16, .f32⟩
  | 117 => ⟨S1x3x1x16x16, .f32⟩
  | 118 => ⟨S1x3x4x16x16, .f32⟩
  | 119 => ⟨S256x8x8, .f32⟩
  | 120 => ⟨S_, .i32⟩
  | 121 => ⟨S_, .f32⟩
  | 122 => ⟨S256x10x10, .f32⟩
  | 123 => ⟨S_, .f32⟩
  | 124 => ⟨S256x8x8, .f32⟩
  | 125 => ⟨S256x256x1x1, .f32⟩
  | 126 => ⟨S256x256, .f32⟩
  | 127 => ⟨S256x8x8, .f32⟩
  | _ => ⟨S1x256x64x64, .f32⟩

abbrev hbmTy0_8 (i : Nat) : BufTy := match i % 128 with
  | 0 => ⟨S256x8x8, .f32⟩
  | 1 => ⟨S256x8x8, .f32⟩
  | 2 => ⟨S256x256x1x1, .f32⟩
  | 3 => ⟨S256x256, .f32⟩
  | 4 => ⟨S256x8x8, .f32⟩
  | 5 => ⟨S256x8x8, .f32⟩
  | 6 => ⟨S256x8x8, .f32⟩
  | 7 => ⟨S256x256x1x1, .f32⟩
  | 8 => ⟨S256x256, .f32⟩
  | 9 => ⟨S256x8x8, .f32⟩
  | 10 => ⟨S256x8x8, .f32⟩
  | 11 => ⟨S256x8x8, .f32⟩
  | 12 => ⟨S256x256x1x1, .f32⟩
  | 13 => ⟨S256x256, .f32⟩
  | 14 => ⟨S256x8x8, .f32⟩
  | 15 => ⟨S256x8x8, .f32⟩
  | 16 => ⟨S256x8x8, .f32⟩
  | 17 => ⟨S256x256x1x1, .f32⟩
  | 18 => ⟨S256x256, .f32⟩
  | 19 => ⟨S256x8x8, .f32⟩
  | 20 => ⟨S256x8x8, .f32⟩
  | 21 => ⟨S256x8x8, .f32⟩
  | 22 => ⟨S256x256x1x1, .f32⟩
  | 23 => ⟨S256x256, .f32⟩
  | 24 => ⟨S256x8x8, .f32⟩
  | 25 => ⟨S256x8x8, .f32⟩
  | 26 => ⟨S256x8x8, .f32⟩
  | 27 => ⟨S256x256x1x1, .f32⟩
  | 28 => ⟨S256x256, .f32⟩
  | 29 => ⟨S256x8x8, .f32⟩
  | 30 => ⟨S256x8x8, .f32⟩
  | 31 => ⟨S256x8x8, .f32⟩
  | 32 => ⟨S256x256x1x1, .f32⟩
  | 33 => ⟨S256x256, .f32⟩
  | 34 => ⟨S256x8x8, .f32⟩
  | 35 => ⟨S256x8x8, .f32⟩
  | 36 => ⟨S256x8x8, .f32⟩
  | 37 => ⟨S256x256x1x1, .f32⟩
  | 38 => ⟨S256x256, .f32⟩
  | 39 => ⟨S256x8x8, .f32⟩
  | 40 => ⟨S256x8x8, .f32⟩
  | 41 => ⟨S256x8x8, .f32⟩
  | 42 => ⟨S256x1x1, .f32⟩
  | 43 => ⟨S256x8x8, .f32⟩
  | 44 => ⟨S256x8x8, .f32⟩
  | 45 => ⟨S_, .f32⟩
  | 46 => ⟨S256x8x8, .f32⟩
  | 47 => ⟨S256x8x8, .f32⟩
  | 48 => ⟨S_, .i32⟩
  | 49 => ⟨S_, .f32⟩
  | 50 => ⟨S256x10x10, .f32⟩
  | 51 => ⟨S_, .f32⟩
  | 52 => ⟨S256x8x8, .f32⟩
  | 53 => ⟨S256x256x1x1, .f32⟩
  | 54 => ⟨S256x256, .f32⟩
  | 55 => ⟨S256x8x8, .f32⟩
  | 56 => ⟨S256x8x8, .f32⟩
  | 57 => ⟨S256x8x8, .f32⟩
  | 58 => ⟨S256x256x1x1, .f32⟩
  | 59 => ⟨S256x256, .f32⟩
  | 60 => ⟨S256x8x8, .f32⟩
  | 61 => ⟨S256x8x8, .f32⟩
  | 62 => ⟨S256x8x8, .f32⟩
  | 63 => ⟨S256x256x1x1, .f32⟩
  | 64 => ⟨S256x256, .f32⟩
  | 65 => ⟨S256x8x8, .f32⟩
  | 66 => ⟨S256x8x8, .f32⟩
  | 67 => ⟨S256x8x8, .f32⟩
  | 68 => ⟨S256x256x1x1, .f32⟩
  | 69 => ⟨S256x256, .f32⟩
  | 70 => ⟨S256x8x8, .f32⟩
  | 71 => ⟨S256x8x8, .f32⟩
  | 72 => ⟨S256x8x8, .f32⟩
  | 73 => ⟨S256x256x1x1, .f32⟩
  | 74 => ⟨S256x256, .f32⟩
  | 75 => ⟨S256x8x8, .f32⟩
  | 76 => ⟨S256x8x8, .f32⟩
  | 77 => ⟨S256x8x8, .f32⟩
  | 78 => ⟨S256x256x1x1, .f32⟩
  | 79 => ⟨S256x256, .f32⟩
  | 80 => ⟨S256x8x8, .f32⟩
  | 81 => ⟨S256x8x8, .f32⟩
  | 82 => ⟨S256x8x8, .f32⟩
  | 83 => ⟨S256x256x1x1, .f32⟩
  | 84 => ⟨S256x256, .f32⟩
  | 85 => ⟨S256x8x8, .f32⟩
  | 86 => ⟨S256x8x8, .f32⟩
  | 87 => ⟨S256x8x8, .f32⟩
  | 88 => ⟨S256x256x1x1, .f32⟩
  | 89 => ⟨S256x256, .f32⟩
  | 90 => ⟨S256x8x8, .f32⟩
  | 91 => ⟨S256x8x8, .f32⟩
  | 92 => ⟨S256x8x8, .f32⟩
  | 93 => ⟨S256x256x1x1, .f32⟩
  | 94 => ⟨S256x256, .f32⟩
  | 95 => ⟨S256x8x8, .f32⟩
  | 96 => ⟨S256x8x8, .f32⟩
  | 97 => ⟨S256x8x8, .f32⟩
  | 98 => ⟨S256x1x1, .f32⟩
  | 99 => ⟨S256x8x8, .f32⟩
  | 100 => ⟨S256x8x8, .f32⟩
  | 101 => ⟨S_, .f32⟩
  | 102 => ⟨S256x8x8, .f32⟩
  | 103 => ⟨S256x8x8, .f32⟩
  | 104 => ⟨S_, .i32⟩
  | 105 => ⟨S_, .f32⟩
  | 106 => ⟨S256x10x10, .f32⟩
  | 107 => ⟨S_, .f32⟩
  | 108 => ⟨S256x8x8, .f32⟩
  | 109 => ⟨S256x256x1x1, .f32⟩
  | 110 => ⟨S256x256, .f32⟩
  | 111 => ⟨S256x8x8, .f32⟩
  | 112 => ⟨S256x8x8, .f32⟩
  | 113 => ⟨S256x8x8, .f32⟩
  | 114 => ⟨S256x256x1x1, .f32⟩
  | 115 => ⟨S256x256, .f32⟩
  | 116 => ⟨S256x8x8, .f32⟩
  | 117 => ⟨S256x8x8, .f32⟩
  | 118 => ⟨S256x8x8, .f32⟩
  | 119 => ⟨S256x256x1x1, .f32⟩
  | 120 => ⟨S256x256, .f32⟩
  | 121 => ⟨S256x8x8, .f32⟩
  | 122 => ⟨S256x8x8, .f32⟩
  | 123 => ⟨S256x8x8, .f32⟩
  | 124 => ⟨S256x256x1x1, .f32⟩
  | 125 => ⟨S256x256, .f32⟩
  | 126 => ⟨S256x8x8, .f32⟩
  | 127 => ⟨S256x8x8, .f32⟩
  | _ => ⟨S1x256x64x64, .f32⟩

abbrev hbmTy0_9 (i : Nat) : BufTy := match i % 128 with
  | 0 => ⟨S256x8x8, .f32⟩
  | 1 => ⟨S256x256x1x1, .f32⟩
  | 2 => ⟨S256x256, .f32⟩
  | 3 => ⟨S256x8x8, .f32⟩
  | 4 => ⟨S256x8x8, .f32⟩
  | 5 => ⟨S256x8x8, .f32⟩
  | 6 => ⟨S256x256x1x1, .f32⟩
  | 7 => ⟨S256x256, .f32⟩
  | 8 => ⟨S256x8x8, .f32⟩
  | 9 => ⟨S256x8x8, .f32⟩
  | 10 => ⟨S256x8x8, .f32⟩
  | 11 => ⟨S256x256x1x1, .f32⟩
  | 12 => ⟨S256x256, .f32⟩
  | 13 => ⟨S256x8x8, .f32⟩
  | 14 => ⟨S256x8x8, .f32⟩
  | 15 => ⟨S256x8x8, .f32⟩
  | 16 => ⟨S256x256x1x1, .f32⟩
  | 17 => ⟨S256x256, .f32⟩
  | 18 => ⟨S256x8x8, .f32⟩
  | 19 => ⟨S256x8x8, .f32⟩
  | 20 => ⟨S256x8x8, .f32⟩
  | 21 => ⟨S256x256x1x1, .f32⟩
  | 22 => ⟨S256x256, .f32⟩
  | 23 => ⟨S256x8x8, .f32⟩
  | 24 => ⟨S256x8x8, .f32⟩
  | 25 => ⟨S256x8x8, .f32⟩
  | 26 => ⟨S256x1x1, .f32⟩
  | 27 => ⟨S256x8x8, .f32⟩
  | 28 => ⟨S256x8x8, .f32⟩
  | 29 => ⟨S_, .f32⟩
  | 30 => ⟨S256x8x8, .f32⟩
  | 31 => ⟨S256x8x8, .f32⟩
  | 32 => ⟨S_, .i32⟩
  | 33 => ⟨S_, .f32⟩
  | 34 => ⟨S256x10x10, .f32⟩
  | 35 => ⟨S_, .f32⟩
  | 36 => ⟨S256x8x8, .f32⟩
  | 37 => ⟨S256x256x1x1, .f32⟩
  | 38 => ⟨S256x256, .f32⟩
  | 39 => ⟨S256x8x8, .f32⟩
  | 40 => ⟨S256x8x8, .f32⟩
  | 41 => ⟨S256x8x8, .f32⟩
  | 42 => ⟨S256x256x1x1, .f32⟩
  | 43 => ⟨S256x256, .f32⟩
  | 44 => ⟨S256x8x8, .f32⟩
  | 45 => ⟨S256x8x8, .f32⟩
  | 46 => ⟨S256x8x8, .f32⟩
  | 47 => ⟨S256x256x1x1, .f32⟩
  | 48 => ⟨S256x256, .f32⟩
  | 49 => ⟨S256x8x8, .f32⟩
  | 50 => ⟨S256x8x8, .f32⟩
  | 51 => ⟨S256x8x8, .f32⟩
  | 52 => ⟨S256x256x1x1, .f32⟩
  | 53 => ⟨S256x256, .f32⟩
  | 54 => ⟨S256x8x8, .f32⟩
  | 55 => ⟨S256x8x8, .f32⟩
  | 56 => ⟨S256x8x8, .f32⟩
  | 57 => ⟨S256x256x1x1, .f32⟩
  | 58 => ⟨S256x256, .f32⟩
  | 59 => ⟨S256x8x8, .f32⟩
  | 60 => ⟨S256x8x8, .f32⟩
  | 61 => ⟨S256x8x8, .f32⟩
  | 62 => ⟨S256x256x1x1, .f32⟩
  | 63 => ⟨S256x256, .f32⟩
  | 64 => ⟨S256x8x8, .f32⟩
  | 65 => ⟨S256x8x8, .f32⟩
  | 66 => ⟨S256x8x8, .f32⟩
  | 67 => ⟨S256x256x1x1, .f32⟩
  | 68 => ⟨S256x256, .f32⟩
  | 69 => ⟨S256x8x8, .f32⟩
  | 70 => ⟨S256x8x8, .f32⟩
  | 71 => ⟨S256x8x8, .f32⟩
  | 72 => ⟨S256x256x1x1, .f32⟩
  | 73 => ⟨S256x256, .f32⟩
  | 74 => ⟨S256x8x8, .f32⟩
  | 75 => ⟨S256x8x8, .f32⟩
  | 76 => ⟨S256x8x8, .f32⟩
  | 77 => ⟨S256x256x1x1, .f32⟩
  | 78 => ⟨S256x256, .f32⟩
  | 79 => ⟨S256x8x8, .f32⟩
  | 80 => ⟨S256x8x8, .f32⟩
  | 81 => ⟨S256x8x8, .f32⟩
  | 82 => ⟨S256x1x1, .f32⟩
  | 83 => ⟨S256x8x8, .f32⟩
  | 84 => ⟨S256x8x8, .f32⟩
  | 85 => ⟨S_, .f32⟩
  | 86 => ⟨S256x8x8, .f32⟩
  | 87 => ⟨S256x8x8, .f32⟩
  | 88 => ⟨S_, .i32⟩
  | 89 => ⟨S_, .f32⟩
  | 90 => ⟨S256x10x10, .f32⟩
  | 91 => ⟨S_, .f32⟩
  | 92 => ⟨S3x8x8, .f32⟩
  | 93 => ⟨S3x256x1x1, .f32⟩
  | 94 => ⟨S3x256, .f32⟩
  | 95 => ⟨S256x8x8, .f32⟩
  | 96 => ⟨S3x8x8, .f32⟩
  | 97 => ⟨S3x8x8, .f32⟩
  | 98 => ⟨S3x256x1x1, .f32⟩
  | 99 => ⟨S3x256, .f32⟩
  | 100 => ⟨S256x8x8, .f32⟩
  | 101 => ⟨S3x8x8, .f32⟩
  | 102 => ⟨S3x8x8, .f32⟩
  | 103 => ⟨S3x256x1x1, .f32⟩
  | 104 => ⟨S3x256, .f32⟩
  | 105 => ⟨S256x8x8, .f32⟩
  | 106 => ⟨S3x8x8, .f32⟩
  | 107 => ⟨S3x8x8, .f32⟩
  | 108 => ⟨S3x256x1x1, .f32⟩
  | 109 => ⟨S3x256, .f32⟩
  | 110 => ⟨S256x8x8, .f32⟩
  | 111 => ⟨S3x8x8, .f32⟩
  | 112 => ⟨S3x8x8, .f32⟩
  | 113 => ⟨S3x256x1x1, .f32⟩
  | 114 => ⟨S3x256, .f32⟩
  | 115 => ⟨S256x8x8, .f32⟩
  | 116 => ⟨S3x8x8, .f32⟩
  | 117 => ⟨S3x8x8, .f32⟩
  | 118 => ⟨S3x256x1x1, .f32⟩
  | 119 => ⟨S3x256, .f32⟩
  | 120 => ⟨S256x8x8, .f32⟩
  | 121 => ⟨S3x8x8, .f32⟩
  | 122 => ⟨S3x8x8, .f32⟩
  | 123 => ⟨S3x256x1x1, .f32⟩
  | 124 => ⟨S3x256, .f32⟩
  | 125 => ⟨S256x8x8, .f32⟩
  | 126 => ⟨S3x8x8, .f32⟩
  | 127 => ⟨S3x8x8, .f32⟩
  | _ => ⟨S1x256x64x64, .f32⟩

abbrev hbmTy0_10 (i : Nat) : BufTy := match i % 128 with
  | 0 => ⟨S3x256x1x1, .f32⟩
  | 1 => ⟨S3x256, .f32⟩
  | 2 => ⟨S256x8x8, .f32⟩
  | 3 => ⟨S3x8x8, .f32⟩
  | 4 => ⟨S3x8x8, .f32⟩
  | 5 => ⟨S3x256x1x1, .f32⟩
  | 6 => ⟨S3x256, .f32⟩
  | 7 => ⟨S256x8x8, .f32⟩
  | 8 => ⟨S3x8x8, .f32⟩
  | 9 => ⟨S3x8x8, .f32⟩
  | 10 => ⟨S3x1x1, .f32⟩
  | 11 => ⟨S3x8x8, .f32⟩
  | 12 => ⟨S3x8x8, .f32⟩
  | 13 => ⟨S_, .i32⟩
  | 14 => ⟨S_, .f32⟩
  | 15 => ⟨S256x10x10, .f32⟩
  | 16 => ⟨S_, .f32⟩
  | 17 => ⟨S12x8x8, .f32⟩
  | 18 => ⟨S12x256x1x1, .f32⟩
  | 19 => ⟨S12x256, .f32⟩
  | 20 => ⟨S256x8x8, .f32⟩
  | 21 => ⟨S12x8x8, .f32⟩
  | 22 => ⟨S12x8x8, .f32⟩
  | 23 => ⟨S12x256x1x1, .f32⟩
  | 24 => ⟨S12x256, .f32⟩
  | 25 => ⟨S256x8x8, .f32⟩
  | 26 => ⟨S12x8x8, .f32⟩
  | 27 => ⟨S12x8x8, .f32⟩
  | 28 => ⟨S12x256x1x1, .f32⟩
  | 29 => ⟨S12x256, .f32⟩
  | 30 => ⟨S256x8x8, .f32⟩
  | 31 => ⟨S12x8x8, .f32⟩
  | 32 => ⟨S12x8x8, .f32⟩
  | 33 => ⟨S12x256x1x1, .f32⟩
  | 34 => ⟨S12x256, .f32⟩
  | 35 => ⟨S256x8x8, .f32⟩
  | 36 => ⟨S12x8x8, .f32⟩
  | 37 => ⟨S12x8x8, .f32⟩
  | 38 => ⟨S12x256x1x1, .f32⟩
  | 39 => ⟨S12x256, .f32⟩
  | 40 => ⟨S256x8x8, .f32⟩
  | 41 => ⟨S12x8x8, .f32⟩
  | 42 => ⟨S12x8x8, .f32⟩
  | 43 => ⟨S12x256x1x1, .f32⟩
  | 44 => ⟨S12x256, .f32⟩
  | 45 => ⟨S256x8x8, .f32⟩
  | 46 => ⟨S12x8x8, .f32⟩
  | 47 => ⟨S12x8x8, .f32⟩
  | 48 => ⟨S12x256x1x1, .f32⟩
  | 49 => ⟨S12x256, .f32⟩
  | 50 => ⟨S256x8x8, .f32⟩
  | 51 => ⟨S12x8x8, .f32⟩
  | 52 => ⟨S12x8x8, .f32⟩
  | 53 => ⟨S12x256x1x1, .f32⟩
  | 54 => ⟨S12x256, .f32⟩
  | 55 => ⟨S256x8x8, .f32⟩
  | 56 => ⟨S12x8x8, .f32⟩
  | 57 => ⟨S12x8x8, .f32⟩
  | 58 => ⟨S12x256x1x1, .f32⟩
  | 59 => ⟨S12x256, .f32⟩
  | 60 => ⟨S256x8x8, .f32⟩
  | 61 => ⟨S12x8x8, .f32⟩
  | 62 => ⟨S12x8x8, .f32⟩
  | 63 => ⟨S12x1x1, .f32⟩
  | 64 => ⟨S12x8x8, .f32⟩
  | 65 => ⟨S12x8x8, .f32⟩
  | 66 => ⟨S1x3x1x8x8, .f32⟩
  | 67 => ⟨S1x3x4x8x8, .f32⟩
  | _ => ⟨S1x256x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S1x256x64x64, .f32⟩

abbrev bufTy : (tb : Table) → Fin (tcTables nBuf tb) → BufTy
  | .hbm, ⟨i, _⟩ => hbmTy i
  | _, _ => ⟨S1x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call1_cst : Ref sig .tc := ⟨.hbm, 70, rfl⟩
abbrev main_call1_v0 : Ref sig .tc := ⟨.hbm, 71, rfl⟩
abbrev main_v51 : Ref sig .tc := ⟨.hbm, 72, rfl⟩
abbrev main_c_0 : Ref sig .tc := ⟨.hbm, 73, rfl⟩
abbrev main_call2_v0 : Ref sig .tc := ⟨.hbm, 74, rfl⟩
abbrev main_v52 : Ref sig .tc := ⟨.hbm, 75, rfl⟩
abbrev main_cst_1 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_call3_cst : Ref sig .tc := ⟨.hbm, 126, rfl⟩
abbrev main_call3_v0 : Ref sig .tc := ⟨.hbm, 127, rfl⟩
abbrev main_v102 : Ref sig .tc := ⟨.hbm, 128, rfl⟩
abbrev main_c_2 : Ref sig .tc := ⟨.hbm, 129, rfl⟩
abbrev main_call4_v0 : Ref sig .tc := ⟨.hbm, 130, rfl⟩
abbrev main_v103 : Ref sig .tc := ⟨.hbm, 131, rfl⟩
abbrev main_cst_3 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_call5_cst : Ref sig .tc := ⟨.hbm, 182, rfl⟩
abbrev main_call5_v0 : Ref sig .tc := ⟨.hbm, 183, rfl⟩
abbrev main_v153 : Ref sig .tc := ⟨.hbm, 184, rfl⟩
abbrev main_c_4 : Ref sig .tc := ⟨.hbm, 185, rfl⟩
abbrev main_call6_v0 : Ref sig .tc := ⟨.hbm, 186, rfl⟩
abbrev main_v154 : Ref sig .tc := ⟨.hbm, 187, rfl⟩
abbrev main_cst_5 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_call7_cst : Ref sig .tc := ⟨.hbm, 238, rfl⟩
abbrev main_call7_v0 : Ref sig .tc := ⟨.hbm, 239, rfl⟩
abbrev main_v204 : Ref sig .tc := ⟨.hbm, 240, rfl⟩
abbrev main_c_6 : Ref sig .tc := ⟨.hbm, 241, rfl⟩
abbrev main_call8_v0 : Ref sig .tc := ⟨.hbm, 242, rfl⟩
abbrev main_v205 : Ref sig .tc := ⟨.hbm, 243, rfl⟩
abbrev main_cst_7 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_c_8 : Ref sig .tc := ⟨.hbm, 294, rfl⟩
abbrev main_call9_v0 : Ref sig .tc := ⟨.hbm, 295, rfl⟩
abbrev main_v255 : Ref sig .tc := ⟨.hbm, 296, rfl⟩
abbrev main_cst_9 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_v286 : Ref sig .tc := ⟨.hbm, 328, rfl⟩
abbrev main_v287 : Ref sig .tc := ⟨.hbm, 329, rfl⟩
abbrev main_v288 : Ref sig .tc := ⟨.hbm, 330, rfl⟩
abbrev main_v289 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_v294 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_v298 : Ref sig .tc := ⟨.hbm, 340, rfl⟩
abbrev main_v299 : Ref sig .tc := ⟨.hbm, 341, rfl⟩
abbrev main_v300 : Ref sig .tc := ⟨.hbm, 342, rfl⟩
abbrev main_v301 : Ref sig .tc := ⟨.hbm, 343, rfl⟩
abbrev main_v302 : Ref sig .tc := ⟨.hbm, 344, rfl⟩
abbrev main_v303 : Ref sig .tc := ⟨.hbm, 345, rfl⟩
abbrev main_v304 : Ref sig .tc := ⟨.hbm, 346, rfl⟩
abbrev main_v305 : Ref sig .tc := ⟨.hbm, 347, rfl⟩
abbrev main_v306 : Ref sig .tc := ⟨.hbm, 348, rfl⟩
abbrev main_v307 : Ref sig .tc := ⟨.hbm, 349, rfl⟩
abbrev main_c_10 : Ref sig .tc := ⟨.hbm, 350, rfl⟩
abbrev main_call10_v0 : Ref sig .tc := ⟨.hbm, 351, rfl⟩
abbrev main_v308 : Ref sig .tc := ⟨.hbm, 352, rfl⟩
abbrev main_cst_11 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_v319 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_v324 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_v336 : Ref sig .tc := ⟨.hbm, 381, rfl⟩
abbrev main_v337 : Ref sig .tc := ⟨.hbm, 382, rfl⟩
abbrev main_v338 : Ref sig .tc := ⟨.hbm, 383, rfl⟩
abbrev main_v339 : Ref sig .tc := ⟨.hbm, 384, rfl⟩
abbrev main_v340 : Ref sig .tc := ⟨.hbm, 385, rfl⟩
abbrev main_v341 : Ref sig .tc := ⟨.hbm, 386, rfl⟩
abbrev main_v342 : Ref sig .tc := ⟨.hbm, 387, rfl⟩
abbrev main_v343 : Ref sig .tc := ⟨.hbm, 388, rfl⟩
abbrev main_v344 : Ref sig .tc := ⟨.hbm, 389, rfl⟩
abbrev main_v345 : Ref sig .tc := ⟨.hbm, 390, rfl⟩
abbrev main_v346 : Ref sig .tc := ⟨.hbm, 391, rfl⟩
abbrev main_v347 : Ref sig .tc := ⟨.hbm, 392, rfl⟩
abbrev main_v348 : Ref sig .tc := ⟨.hbm, 393, rfl⟩
abbrev main_v349 : Ref sig .tc := ⟨.hbm, 394, rfl⟩
abbrev main_v350 : Ref sig .tc := ⟨.hbm, 395, rfl⟩
abbrev main_v351 : Ref sig .tc := ⟨.hbm, 396, rfl⟩
abbrev main_v352 : Ref sig .tc := ⟨.hbm, 397, rfl⟩
abbrev main_v353 : Ref sig .tc := ⟨.hbm, 398, rfl⟩
abbrev main_v354 : Ref sig .tc := ⟨.hbm, 399, rfl⟩
abbrev main_v355 : Ref sig .tc := ⟨.hbm, 400, rfl⟩
abbrev main_v356 : Ref sig .tc := ⟨.hbm, 401, rfl⟩
abbrev main_v357 : Ref sig .tc := ⟨.hbm, 402, rfl⟩
abbrev main_call11_cst : Ref sig .tc := ⟨.hbm, 403, rfl⟩
abbrev main_call11_v0 : Ref sig .tc := ⟨.hbm, 404, rfl⟩
abbrev main_v358 : Ref sig .tc := ⟨.hbm, 405, rfl⟩
abbrev main_c_12 : Ref sig .tc := ⟨.hbm, 406, rfl⟩
abbrev main_call12_v0 : Ref sig .tc := ⟨.hbm, 407, rfl⟩
abbrev main_v359 : Ref sig .tc := ⟨.hbm, 408, rfl⟩
abbrev main_cst_13 : Ref sig .tc := ⟨.hbm, 409, rfl⟩
abbrev main_v360 : Ref sig .tc := ⟨.hbm, 410, rfl⟩
abbrev main_v361 : Ref sig .tc := ⟨.hbm, 411, rfl⟩
abbrev main_v362 : Ref sig .tc := ⟨.hbm, 412, rfl⟩
abbrev main_v363 : Ref sig .tc := ⟨.hbm, 413, rfl⟩
abbrev main_v364 : Ref sig .tc := ⟨.hbm, 414, rfl⟩
abbrev main_v365 : Ref sig .tc := ⟨.hbm, 415, rfl⟩
abbrev main_v366 : Ref sig .tc := ⟨.hbm, 416, rfl⟩
abbrev main_v367 : Ref sig .tc := ⟨.hbm, 417, rfl⟩
abbrev main_v368 : Ref sig .tc := ⟨.hbm, 418, rfl⟩
abbrev main_v369 : Ref sig .tc := ⟨.hbm, 419, rfl⟩
abbrev main_v370 : Ref sig .tc := ⟨.hbm, 420, rfl⟩
abbrev main_v371 : Ref sig .tc := ⟨.hbm, 421, rfl⟩
abbrev main_v372 : Ref sig .tc := ⟨.hbm, 422, rfl⟩
abbrev main_v373 : Ref sig .tc := ⟨.hbm, 423, rfl⟩
abbrev main_v374 : Ref sig .tc := ⟨.hbm, 424, rfl⟩
abbrev main_v375 : Ref sig .tc := ⟨.hbm, 425, rfl⟩
abbrev main_v376 : Ref sig .tc := ⟨.hbm, 426, rfl⟩
abbrev main_v377 : Ref sig .tc := ⟨.hbm, 427, rfl⟩
abbrev main_v378 : Ref sig .tc := ⟨.hbm, 428, rfl⟩
abbrev main_v379 : Ref sig .tc := ⟨.hbm, 429, rfl⟩
abbrev main_v380 : Ref sig .tc := ⟨.hbm, 430, rfl⟩
abbrev main_v381 : Ref sig .tc := ⟨.hbm, 431, rfl⟩
abbrev main_v382 : Ref sig .tc := ⟨.hbm, 432, rfl⟩
abbrev main_v383 : Ref sig .tc := ⟨.hbm, 433, rfl⟩
abbrev main_v384 : Ref sig .tc := ⟨.hbm, 434, rfl⟩
abbrev main_v385 : Ref sig .tc := ⟨.hbm, 435, rfl⟩
abbrev main_v386 : Ref sig .tc := ⟨.hbm, 436, rfl⟩
abbrev main_v387 : Ref sig .tc := ⟨.hbm, 437, rfl⟩
abbrev main_v388 : Ref sig .tc := ⟨.hbm, 438, rfl⟩
abbrev main_v389 : Ref sig .tc := ⟨.hbm, 439, rfl⟩
abbrev main_v390 : Ref sig .tc := ⟨.hbm, 440, rfl⟩
abbrev main_v391 : Ref sig .tc := ⟨.hbm, 441, rfl⟩
abbrev main_v392 : Ref sig .tc := ⟨.hbm, 442, rfl⟩
abbrev main_v393 : Ref sig .tc := ⟨.hbm, 443, rfl⟩
abbrev main_v394 : Ref sig .tc := ⟨.hbm, 444, rfl⟩
abbrev main_v395 : Ref sig .tc := ⟨.hbm, 445, rfl⟩
abbrev main_v396 : Ref sig .tc := ⟨.hbm, 446, rfl⟩
abbrev main_v397 : Ref sig .tc := ⟨.hbm, 447, rfl⟩
abbrev main_v398 : Ref sig .tc := ⟨.hbm, 448, rfl⟩
abbrev main_v399 : Ref sig .tc := ⟨.hbm, 449, rfl⟩
abbrev main_v400 : Ref sig .tc := ⟨.hbm, 450, rfl⟩
abbrev main_v401 : Ref sig .tc := ⟨.hbm, 451, rfl⟩
abbrev main_v402 : Ref sig .tc := ⟨.hbm, 452, rfl⟩
abbrev main_v403 : Ref sig .tc := ⟨.hbm, 453, rfl⟩
abbrev main_v404 : Ref sig .tc := ⟨.hbm, 454, rfl⟩
abbrev main_v405 : Ref sig .tc := ⟨.hbm, 455, rfl⟩
abbrev main_v406 : Ref sig .tc := ⟨.hbm, 456, rfl⟩
abbrev main_v407 : Ref sig .tc := ⟨.hbm, 457, rfl⟩
abbrev main_v408 : Ref sig .tc := ⟨.hbm, 458, rfl⟩
abbrev main_call13_cst : Ref sig .tc := ⟨.hbm, 459, rfl⟩
abbrev main_call13_v0 : Ref sig .tc := ⟨.hbm, 460, rfl⟩
abbrev main_v409 : Ref sig .tc := ⟨.hbm, 461, rfl⟩
abbrev main_c_14 : Ref sig .tc := ⟨.hbm, 462, rfl⟩
abbrev main_call14_v0 : Ref sig .tc := ⟨.hbm, 463, rfl⟩
abbrev main_v410 : Ref sig .tc := ⟨.hbm, 464, rfl⟩
abbrev main_cst_15 : Ref sig .tc := ⟨.hbm, 465, rfl⟩
abbrev main_v411 : Ref sig .tc := ⟨.hbm, 466, rfl⟩
abbrev main_v412 : Ref sig .tc := ⟨.hbm, 467, rfl⟩
abbrev main_v413 : Ref sig .tc := ⟨.hbm, 468, rfl⟩
abbrev main_v414 : Ref sig .tc := ⟨.hbm, 469, rfl⟩
abbrev main_v415 : Ref sig .tc := ⟨.hbm, 470, rfl⟩
abbrev main_v416 : Ref sig .tc := ⟨.hbm, 471, rfl⟩
abbrev main_v417 : Ref sig .tc := ⟨.hbm, 472, rfl⟩
abbrev main_v418 : Ref sig .tc := ⟨.hbm, 473, rfl⟩
abbrev main_v419 : Ref sig .tc := ⟨.hbm, 474, rfl⟩
abbrev main_v420 : Ref sig .tc := ⟨.hbm, 475, rfl⟩
abbrev main_v421 : Ref sig .tc := ⟨.hbm, 476, rfl⟩
abbrev main_v422 : Ref sig .tc := ⟨.hbm, 477, rfl⟩
abbrev main_v423 : Ref sig .tc := ⟨.hbm, 478, rfl⟩
abbrev main_v424 : Ref sig .tc := ⟨.hbm, 479, rfl⟩
abbrev main_v425 : Ref sig .tc := ⟨.hbm, 480, rfl⟩
abbrev main_v426 : Ref sig .tc := ⟨.hbm, 481, rfl⟩
abbrev main_v427 : Ref sig .tc := ⟨.hbm, 482, rfl⟩
abbrev main_v428 : Ref sig .tc := ⟨.hbm, 483, rfl⟩
abbrev main_v429 : Ref sig .tc := ⟨.hbm, 484, rfl⟩
abbrev main_v430 : Ref sig .tc := ⟨.hbm, 485, rfl⟩
abbrev main_v431 : Ref sig .tc := ⟨.hbm, 486, rfl⟩
abbrev main_v432 : Ref sig .tc := ⟨.hbm, 487, rfl⟩
abbrev main_v433 : Ref sig .tc := ⟨.hbm, 488, rfl⟩
abbrev main_v434 : Ref sig .tc := ⟨.hbm, 489, rfl⟩
abbrev main_v435 : Ref sig .tc := ⟨.hbm, 490, rfl⟩
abbrev main_v436 : Ref sig .tc := ⟨.hbm, 491, rfl⟩
abbrev main_v437 : Ref sig .tc := ⟨.hbm, 492, rfl⟩
abbrev main_v438 : Ref sig .tc := ⟨.hbm, 493, rfl⟩
abbrev main_v439 : Ref sig .tc := ⟨.hbm, 494, rfl⟩
abbrev main_v440 : Ref sig .tc := ⟨.hbm, 495, rfl⟩
abbrev main_v441 : Ref sig .tc := ⟨.hbm, 496, rfl⟩
abbrev main_v442 : Ref sig .tc := ⟨.hbm, 497, rfl⟩
abbrev main_v443 : Ref sig .tc := ⟨.hbm, 498, rfl⟩
abbrev main_v444 : Ref sig .tc := ⟨.hbm, 499, rfl⟩
abbrev main_v445 : Ref sig .tc := ⟨.hbm, 500, rfl⟩
abbrev main_v446 : Ref sig .tc := ⟨.hbm, 501, rfl⟩
abbrev main_v447 : Ref sig .tc := ⟨.hbm, 502, rfl⟩
abbrev main_v448 : Ref sig .tc := ⟨.hbm, 503, rfl⟩
abbrev main_v449 : Ref sig .tc := ⟨.hbm, 504, rfl⟩
abbrev main_v450 : Ref sig .tc := ⟨.hbm, 505, rfl⟩
abbrev main_v451 : Ref sig .tc := ⟨.hbm, 506, rfl⟩
abbrev main_v452 : Ref sig .tc := ⟨.hbm, 507, rfl⟩
abbrev main_v453 : Ref sig .tc := ⟨.hbm, 508, rfl⟩
abbrev main_v454 : Ref sig .tc := ⟨.hbm, 509, rfl⟩
abbrev main_v455 : Ref sig .tc := ⟨.hbm, 510, rfl⟩
abbrev main_v456 : Ref sig .tc := ⟨.hbm, 511, rfl⟩
abbrev main_v457 : Ref sig .tc := ⟨.hbm, 512, rfl⟩
abbrev main_v458 : Ref sig .tc := ⟨.hbm, 513, rfl⟩
abbrev main_v459 : Ref sig .tc := ⟨.hbm, 514, rfl⟩
abbrev main_call15_cst : Ref sig .tc := ⟨.hbm, 515, rfl⟩
abbrev main_call15_v0 : Ref sig .tc := ⟨.hbm, 516, rfl⟩
abbrev main_v460 : Ref sig .tc := ⟨.hbm, 517, rfl⟩
abbrev main_c_16 : Ref sig .tc := ⟨.hbm, 518, rfl⟩
abbrev main_call16_v0 : Ref sig .tc := ⟨.hbm, 519, rfl⟩
abbrev main_v461 : Ref sig .tc := ⟨.hbm, 520, rfl⟩
abbrev main_cst_17 : Ref sig .tc := ⟨.hbm, 521, rfl⟩
abbrev main_v462 : Ref sig .tc := ⟨.hbm, 522, rfl⟩
abbrev main_v463 : Ref sig .tc := ⟨.hbm, 523, rfl⟩
abbrev main_v464 : Ref sig .tc := ⟨.hbm, 524, rfl⟩
abbrev main_v465 : Ref sig .tc := ⟨.hbm, 525, rfl⟩
abbrev main_v466 : Ref sig .tc := ⟨.hbm, 526, rfl⟩
abbrev main_v467 : Ref sig .tc := ⟨.hbm, 527, rfl⟩
abbrev main_v468 : Ref sig .tc := ⟨.hbm, 528, rfl⟩
abbrev main_v469 : Ref sig .tc := ⟨.hbm, 529, rfl⟩
abbrev main_v470 : Ref sig .tc := ⟨.hbm, 530, rfl⟩
abbrev main_v471 : Ref sig .tc := ⟨.hbm, 531, rfl⟩
abbrev main_v472 : Ref sig .tc := ⟨.hbm, 532, rfl⟩
abbrev main_v473 : Ref sig .tc := ⟨.hbm, 533, rfl⟩
abbrev main_v474 : Ref sig .tc := ⟨.hbm, 534, rfl⟩
abbrev main_v475 : Ref sig .tc := ⟨.hbm, 535, rfl⟩
abbrev main_v476 : Ref sig .tc := ⟨.hbm, 536, rfl⟩
abbrev main_v477 : Ref sig .tc := ⟨.hbm, 537, rfl⟩
abbrev main_v478 : Ref sig .tc := ⟨.hbm, 538, rfl⟩
abbrev main_v479 : Ref sig .tc := ⟨.hbm, 539, rfl⟩
abbrev main_v480 : Ref sig .tc := ⟨.hbm, 540, rfl⟩
abbrev main_v481 : Ref sig .tc := ⟨.hbm, 541, rfl⟩
abbrev main_v482 : Ref sig .tc := ⟨.hbm, 542, rfl⟩
abbrev main_v483 : Ref sig .tc := ⟨.hbm, 543, rfl⟩
abbrev main_v484 : Ref sig .tc := ⟨.hbm, 544, rfl⟩
abbrev main_v485 : Ref sig .tc := ⟨.hbm, 545, rfl⟩
abbrev main_v486 : Ref sig .tc := ⟨.hbm, 546, rfl⟩
abbrev main_v487 : Ref sig .tc := ⟨.hbm, 547, rfl⟩
abbrev main_v488 : Ref sig .tc := ⟨.hbm, 548, rfl⟩
abbrev main_v489 : Ref sig .tc := ⟨.hbm, 549, rfl⟩
abbrev main_v490 : Ref sig .tc := ⟨.hbm, 550, rfl⟩
abbrev main_v491 : Ref sig .tc := ⟨.hbm, 551, rfl⟩
abbrev main_v492 : Ref sig .tc := ⟨.hbm, 552, rfl⟩
abbrev main_v493 : Ref sig .tc := ⟨.hbm, 553, rfl⟩
abbrev main_v494 : Ref sig .tc := ⟨.hbm, 554, rfl⟩
abbrev main_v495 : Ref sig .tc := ⟨.hbm, 555, rfl⟩
abbrev main_v496 : Ref sig .tc := ⟨.hbm, 556, rfl⟩
abbrev main_v497 : Ref sig .tc := ⟨.hbm, 557, rfl⟩
abbrev main_v498 : Ref sig .tc := ⟨.hbm, 558, rfl⟩
abbrev main_v499 : Ref sig .tc := ⟨.hbm, 559, rfl⟩
abbrev main_v500 : Ref sig .tc := ⟨.hbm, 560, rfl⟩
abbrev main_v501 : Ref sig .tc := ⟨.hbm, 561, rfl⟩
abbrev main_v502 : Ref sig .tc := ⟨.hbm, 562, rfl⟩
abbrev main_v503 : Ref sig .tc := ⟨.hbm, 563, rfl⟩
abbrev main_v504 : Ref sig .tc := ⟨.hbm, 564, rfl⟩
abbrev main_v505 : Ref sig .tc := ⟨.hbm, 565, rfl⟩
abbrev main_v506 : Ref sig .tc := ⟨.hbm, 566, rfl⟩
abbrev main_v507 : Ref sig .tc := ⟨.hbm, 567, rfl⟩
abbrev main_v508 : Ref sig .tc := ⟨.hbm, 568, rfl⟩
abbrev main_v509 : Ref sig .tc := ⟨.hbm, 569, rfl⟩
abbrev main_v510 : Ref sig .tc := ⟨.hbm, 570, rfl⟩
abbrev main_call17_cst : Ref sig .tc := ⟨.hbm, 571, rfl⟩
abbrev main_call17_v0 : Ref sig .tc := ⟨.hbm, 572, rfl⟩
abbrev main_v511 : Ref sig .tc := ⟨.hbm, 573, rfl⟩
abbrev main_c_18 : Ref sig .tc := ⟨.hbm, 574, rfl⟩
abbrev main_call18_v0 : Ref sig .tc := ⟨.hbm, 575, rfl⟩
abbrev main_v512 : Ref sig .tc := ⟨.hbm, 576, rfl⟩
abbrev main_cst_19 : Ref sig .tc := ⟨.hbm, 577, rfl⟩
abbrev main_v513 : Ref sig .tc := ⟨.hbm, 578, rfl⟩
abbrev main_v514 : Ref sig .tc := ⟨.hbm, 579, rfl⟩
abbrev main_v515 : Ref sig .tc := ⟨.hbm, 580, rfl⟩
abbrev main_v516 : Ref sig .tc := ⟨.hbm, 581, rfl⟩
abbrev main_v517 : Ref sig .tc := ⟨.hbm, 582, rfl⟩
abbrev main_v518 : Ref sig .tc := ⟨.hbm, 583, rfl⟩
abbrev main_v519 : Ref sig .tc := ⟨.hbm, 584, rfl⟩
abbrev main_v520 : Ref sig .tc := ⟨.hbm, 585, rfl⟩
abbrev main_v521 : Ref sig .tc := ⟨.hbm, 586, rfl⟩
abbrev main_v522 : Ref sig .tc := ⟨.hbm, 587, rfl⟩
abbrev main_v523 : Ref sig .tc := ⟨.hbm, 588, rfl⟩
abbrev main_v524 : Ref sig .tc := ⟨.hbm, 589, rfl⟩
abbrev main_v525 : Ref sig .tc := ⟨.hbm, 590, rfl⟩
abbrev main_v526 : Ref sig .tc := ⟨.hbm, 591, rfl⟩
abbrev main_v527 : Ref sig .tc := ⟨.hbm, 592, rfl⟩
abbrev main_v528 : Ref sig .tc := ⟨.hbm, 593, rfl⟩
abbrev main_v529 : Ref sig .tc := ⟨.hbm, 594, rfl⟩
abbrev main_v530 : Ref sig .tc := ⟨.hbm, 595, rfl⟩
abbrev main_v531 : Ref sig .tc := ⟨.hbm, 596, rfl⟩
abbrev main_v532 : Ref sig .tc := ⟨.hbm, 597, rfl⟩
abbrev main_v533 : Ref sig .tc := ⟨.hbm, 598, rfl⟩
abbrev main_v534 : Ref sig .tc := ⟨.hbm, 599, rfl⟩
abbrev main_v535 : Ref sig .tc := ⟨.hbm, 600, rfl⟩
abbrev main_v536 : Ref sig .tc := ⟨.hbm, 601, rfl⟩
abbrev main_v537 : Ref sig .tc := ⟨.hbm, 602, rfl⟩
abbrev main_v538 : Ref sig .tc := ⟨.hbm, 603, rfl⟩
abbrev main_v539 : Ref sig .tc := ⟨.hbm, 604, rfl⟩
abbrev main_v540 : Ref sig .tc := ⟨.hbm, 605, rfl⟩
abbrev main_v541 : Ref sig .tc := ⟨.hbm, 606, rfl⟩
abbrev main_v542 : Ref sig .tc := ⟨.hbm, 607, rfl⟩
abbrev main_v543 : Ref sig .tc := ⟨.hbm, 608, rfl⟩
abbrev main_v544 : Ref sig .tc := ⟨.hbm, 609, rfl⟩
abbrev main_v545 : Ref sig .tc := ⟨.hbm, 610, rfl⟩
abbrev main_v546 : Ref sig .tc := ⟨.hbm, 611, rfl⟩
abbrev main_v547 : Ref sig .tc := ⟨.hbm, 612, rfl⟩
abbrev main_v548 : Ref sig .tc := ⟨.hbm, 613, rfl⟩
abbrev main_v549 : Ref sig .tc := ⟨.hbm, 614, rfl⟩
abbrev main_v550 : Ref sig .tc := ⟨.hbm, 615, rfl⟩
abbrev main_v551 : Ref sig .tc := ⟨.hbm, 616, rfl⟩
abbrev main_v552 : Ref sig .tc := ⟨.hbm, 617, rfl⟩
abbrev main_v553 : Ref sig .tc := ⟨.hbm, 618, rfl⟩
abbrev main_v554 : Ref sig .tc := ⟨.hbm, 619, rfl⟩
abbrev main_v555 : Ref sig .tc := ⟨.hbm, 620, rfl⟩
abbrev main_v556 : Ref sig .tc := ⟨.hbm, 621, rfl⟩
abbrev main_v557 : Ref sig .tc := ⟨.hbm, 622, rfl⟩
abbrev main_v558 : Ref sig .tc := ⟨.hbm, 623, rfl⟩
abbrev main_v559 : Ref sig .tc := ⟨.hbm, 624, rfl⟩
abbrev main_v560 : Ref sig .tc := ⟨.hbm, 625, rfl⟩
abbrev main_v561 : Ref sig .tc := ⟨.hbm, 626, rfl⟩
abbrev main_c_20 : Ref sig .tc := ⟨.hbm, 627, rfl⟩
abbrev main_call19_v0 : Ref sig .tc := ⟨.hbm, 628, rfl⟩
abbrev main_v562 : Ref sig .tc := ⟨.hbm, 629, rfl⟩
abbrev main_cst_21 : Ref sig .tc := ⟨.hbm, 630, rfl⟩
abbrev main_v563 : Ref sig .tc := ⟨.hbm, 631, rfl⟩
abbrev main_v564 : Ref sig .tc := ⟨.hbm, 632, rfl⟩
abbrev main_v565 : Ref sig .tc := ⟨.hbm, 633, rfl⟩
abbrev main_v566 : Ref sig .tc := ⟨.hbm, 634, rfl⟩
abbrev main_v567 : Ref sig .tc := ⟨.hbm, 635, rfl⟩
abbrev main_v568 : Ref sig .tc := ⟨.hbm, 636, rfl⟩
abbrev main_v569 : Ref sig .tc := ⟨.hbm, 637, rfl⟩
abbrev main_v570 : Ref sig .tc := ⟨.hbm, 638, rfl⟩
abbrev main_v571 : Ref sig .tc := ⟨.hbm, 639, rfl⟩
abbrev main_v572 : Ref sig .tc := ⟨.hbm, 640, rfl⟩
abbrev main_v573 : Ref sig .tc := ⟨.hbm, 641, rfl⟩
abbrev main_v574 : Ref sig .tc := ⟨.hbm, 642, rfl⟩
abbrev main_v575 : Ref sig .tc := ⟨.hbm, 643, rfl⟩
abbrev main_v576 : Ref sig .tc := ⟨.hbm, 644, rfl⟩
abbrev main_v577 : Ref sig .tc := ⟨.hbm, 645, rfl⟩
abbrev main_v578 : Ref sig .tc := ⟨.hbm, 646, rfl⟩
abbrev main_v579 : Ref sig .tc := ⟨.hbm, 647, rfl⟩
abbrev main_v580 : Ref sig .tc := ⟨.hbm, 648, rfl⟩
abbrev main_v581 : Ref sig .tc := ⟨.hbm, 649, rfl⟩
abbrev main_v582 : Ref sig .tc := ⟨.hbm, 650, rfl⟩
abbrev main_v583 : Ref sig .tc := ⟨.hbm, 651, rfl⟩
abbrev main_v584 : Ref sig .tc := ⟨.hbm, 652, rfl⟩
abbrev main_v585 : Ref sig .tc := ⟨.hbm, 653, rfl⟩
abbrev main_v586 : Ref sig .tc := ⟨.hbm, 654, rfl⟩
abbrev main_v587 : Ref sig .tc := ⟨.hbm, 655, rfl⟩
abbrev main_v588 : Ref sig .tc := ⟨.hbm, 656, rfl⟩
abbrev main_v589 : Ref sig .tc := ⟨.hbm, 657, rfl⟩
abbrev main_v590 : Ref sig .tc := ⟨.hbm, 658, rfl⟩
abbrev main_v591 : Ref sig .tc := ⟨.hbm, 659, rfl⟩
abbrev main_v592 : Ref sig .tc := ⟨.hbm, 660, rfl⟩
abbrev main_v593 : Ref sig .tc := ⟨.hbm, 661, rfl⟩
abbrev main_v594 : Ref sig .tc := ⟨.hbm, 662, rfl⟩
abbrev main_v595 : Ref sig .tc := ⟨.hbm, 663, rfl⟩
abbrev main_v596 : Ref sig .tc := ⟨.hbm, 664, rfl⟩
abbrev main_v597 : Ref sig .tc := ⟨.hbm, 665, rfl⟩
abbrev main_v598 : Ref sig .tc := ⟨.hbm, 666, rfl⟩
abbrev main_v599 : Ref sig .tc := ⟨.hbm, 667, rfl⟩
abbrev main_v600 : Ref sig .tc := ⟨.hbm, 668, rfl⟩
abbrev main_v601 : Ref sig .tc := ⟨.hbm, 669, rfl⟩
abbrev main_v602 : Ref sig .tc := ⟨.hbm, 670, rfl⟩
abbrev main_v603 : Ref sig .tc := ⟨.hbm, 671, rfl⟩
abbrev main_v604 : Ref sig .tc := ⟨.hbm, 672, rfl⟩
abbrev main_v605 : Ref sig .tc := ⟨.hbm, 673, rfl⟩
abbrev main_v606 : Ref sig .tc := ⟨.hbm, 674, rfl⟩
abbrev main_v607 : Ref sig .tc := ⟨.hbm, 675, rfl⟩
abbrev main_v608 : Ref sig .tc := ⟨.hbm, 676, rfl⟩
abbrev main_v609 : Ref sig .tc := ⟨.hbm, 677, rfl⟩
abbrev main_v610 : Ref sig .tc := ⟨.hbm, 678, rfl⟩
abbrev main_v611 : Ref sig .tc := ⟨.hbm, 679, rfl⟩
abbrev main_v612 : Ref sig .tc := ⟨.hbm, 680, rfl⟩
abbrev main_v613 : Ref sig .tc := ⟨.hbm, 681, rfl⟩
abbrev main_v614 : Ref sig .tc := ⟨.hbm, 682, rfl⟩
abbrev main_c_22 : Ref sig .tc := ⟨.hbm, 683, rfl⟩
abbrev main_call20_v0 : Ref sig .tc := ⟨.hbm, 684, rfl⟩
abbrev main_v615 : Ref sig .tc := ⟨.hbm, 685, rfl⟩
abbrev main_cst_23 : Ref sig .tc := ⟨.hbm, 686, rfl⟩
abbrev main_v616 : Ref sig .tc := ⟨.hbm, 687, rfl⟩
abbrev main_v617 : Ref sig .tc := ⟨.hbm, 688, rfl⟩
abbrev main_v618 : Ref sig .tc := ⟨.hbm, 689, rfl⟩
abbrev main_v619 : Ref sig .tc := ⟨.hbm, 690, rfl⟩
abbrev main_v620 : Ref sig .tc := ⟨.hbm, 691, rfl⟩
abbrev main_v621 : Ref sig .tc := ⟨.hbm, 692, rfl⟩
abbrev main_v622 : Ref sig .tc := ⟨.hbm, 693, rfl⟩
abbrev main_v623 : Ref sig .tc := ⟨.hbm, 694, rfl⟩
abbrev main_v624 : Ref sig .tc := ⟨.hbm, 695, rfl⟩
abbrev main_v625 : Ref sig .tc := ⟨.hbm, 696, rfl⟩
abbrev main_v626 : Ref sig .tc := ⟨.hbm, 697, rfl⟩
abbrev main_v627 : Ref sig .tc := ⟨.hbm, 698, rfl⟩
abbrev main_v628 : Ref sig .tc := ⟨.hbm, 699, rfl⟩
abbrev main_v629 : Ref sig .tc := ⟨.hbm, 700, rfl⟩
abbrev main_v630 : Ref sig .tc := ⟨.hbm, 701, rfl⟩
abbrev main_v631 : Ref sig .tc := ⟨.hbm, 702, rfl⟩
abbrev main_v632 : Ref sig .tc := ⟨.hbm, 703, rfl⟩
abbrev main_v633 : Ref sig .tc := ⟨.hbm, 704, rfl⟩
abbrev main_v634 : Ref sig .tc := ⟨.hbm, 705, rfl⟩
abbrev main_v635 : Ref sig .tc := ⟨.hbm, 706, rfl⟩
abbrev main_v636 : Ref sig .tc := ⟨.hbm, 707, rfl⟩
abbrev main_v637 : Ref sig .tc := ⟨.hbm, 708, rfl⟩
abbrev main_v638 : Ref sig .tc := ⟨.hbm, 709, rfl⟩
abbrev main_v639 : Ref sig .tc := ⟨.hbm, 710, rfl⟩
abbrev main_v640 : Ref sig .tc := ⟨.hbm, 711, rfl⟩
abbrev main_v641 : Ref sig .tc := ⟨.hbm, 712, rfl⟩
abbrev main_v642 : Ref sig .tc := ⟨.hbm, 713, rfl⟩
abbrev main_v643 : Ref sig .tc := ⟨.hbm, 714, rfl⟩
abbrev main_v644 : Ref sig .tc := ⟨.hbm, 715, rfl⟩
abbrev main_v645 : Ref sig .tc := ⟨.hbm, 716, rfl⟩
abbrev main_v646 : Ref sig .tc := ⟨.hbm, 717, rfl⟩
abbrev main_v647 : Ref sig .tc := ⟨.hbm, 718, rfl⟩
abbrev main_v648 : Ref sig .tc := ⟨.hbm, 719, rfl⟩
abbrev main_v649 : Ref sig .tc := ⟨.hbm, 720, rfl⟩
abbrev main_v650 : Ref sig .tc := ⟨.hbm, 721, rfl⟩
abbrev main_v651 : Ref sig .tc := ⟨.hbm, 722, rfl⟩
abbrev main_v652 : Ref sig .tc := ⟨.hbm, 723, rfl⟩
abbrev main_v653 : Ref sig .tc := ⟨.hbm, 724, rfl⟩
abbrev main_v654 : Ref sig .tc := ⟨.hbm, 725, rfl⟩
abbrev main_v655 : Ref sig .tc := ⟨.hbm, 726, rfl⟩
abbrev main_v656 : Ref sig .tc := ⟨.hbm, 727, rfl⟩
abbrev main_v657 : Ref sig .tc := ⟨.hbm, 728, rfl⟩
abbrev main_v658 : Ref sig .tc := ⟨.hbm, 729, rfl⟩
abbrev main_v659 : Ref sig .tc := ⟨.hbm, 730, rfl⟩
abbrev main_v660 : Ref sig .tc := ⟨.hbm, 731, rfl⟩
abbrev main_v661 : Ref sig .tc := ⟨.hbm, 732, rfl⟩
abbrev main_v662 : Ref sig .tc := ⟨.hbm, 733, rfl⟩
abbrev main_v663 : Ref sig .tc := ⟨.hbm, 734, rfl⟩
abbrev main_v664 : Ref sig .tc := ⟨.hbm, 735, rfl⟩
abbrev main_call21_cst : Ref sig .tc := ⟨.hbm, 736, rfl⟩
abbrev main_call21_v0 : Ref sig .tc := ⟨.hbm, 737, rfl⟩
abbrev main_v665 : Ref sig .tc := ⟨.hbm, 738, rfl⟩
abbrev main_c_24 : Ref sig .tc := ⟨.hbm, 739, rfl⟩
abbrev main_call22_v0 : Ref sig .tc := ⟨.hbm, 740, rfl⟩
abbrev main_v666 : Ref sig .tc := ⟨.hbm, 741, rfl⟩
abbrev main_cst_25 : Ref sig .tc := ⟨.hbm, 742, rfl⟩
abbrev main_v667 : Ref sig .tc := ⟨.hbm, 743, rfl⟩
abbrev main_v668 : Ref sig .tc := ⟨.hbm, 744, rfl⟩
abbrev main_v669 : Ref sig .tc := ⟨.hbm, 745, rfl⟩
abbrev main_v670 : Ref sig .tc := ⟨.hbm, 746, rfl⟩
abbrev main_v671 : Ref sig .tc := ⟨.hbm, 747, rfl⟩
abbrev main_v672 : Ref sig .tc := ⟨.hbm, 748, rfl⟩
abbrev main_v673 : Ref sig .tc := ⟨.hbm, 749, rfl⟩
abbrev main_v674 : Ref sig .tc := ⟨.hbm, 750, rfl⟩
abbrev main_v675 : Ref sig .tc := ⟨.hbm, 751, rfl⟩
abbrev main_v676 : Ref sig .tc := ⟨.hbm, 752, rfl⟩
abbrev main_v677 : Ref sig .tc := ⟨.hbm, 753, rfl⟩
abbrev main_v678 : Ref sig .tc := ⟨.hbm, 754, rfl⟩
abbrev main_v679 : Ref sig .tc := ⟨.hbm, 755, rfl⟩
abbrev main_v680 : Ref sig .tc := ⟨.hbm, 756, rfl⟩
abbrev main_v681 : Ref sig .tc := ⟨.hbm, 757, rfl⟩
abbrev main_v682 : Ref sig .tc := ⟨.hbm, 758, rfl⟩
abbrev main_v683 : Ref sig .tc := ⟨.hbm, 759, rfl⟩
abbrev main_v684 : Ref sig .tc := ⟨.hbm, 760, rfl⟩
abbrev main_v685 : Ref sig .tc := ⟨.hbm, 761, rfl⟩
abbrev main_v686 : Ref sig .tc := ⟨.hbm, 762, rfl⟩
abbrev main_v687 : Ref sig .tc := ⟨.hbm, 763, rfl⟩
abbrev main_v688 : Ref sig .tc := ⟨.hbm, 764, rfl⟩
abbrev main_v689 : Ref sig .tc := ⟨.hbm, 765, rfl⟩
abbrev main_v690 : Ref sig .tc := ⟨.hbm, 766, rfl⟩
abbrev main_v691 : Ref sig .tc := ⟨.hbm, 767, rfl⟩
abbrev main_v692 : Ref sig .tc := ⟨.hbm, 768, rfl⟩
abbrev main_v693 : Ref sig .tc := ⟨.hbm, 769, rfl⟩
abbrev main_v694 : Ref sig .tc := ⟨.hbm, 770, rfl⟩
abbrev main_v695 : Ref sig .tc := ⟨.hbm, 771, rfl⟩
abbrev main_v696 : Ref sig .tc := ⟨.hbm, 772, rfl⟩
abbrev main_v697 : Ref sig .tc := ⟨.hbm, 773, rfl⟩
abbrev main_v698 : Ref sig .tc := ⟨.hbm, 774, rfl⟩
abbrev main_v699 : Ref sig .tc := ⟨.hbm, 775, rfl⟩
abbrev main_v700 : Ref sig .tc := ⟨.hbm, 776, rfl⟩
abbrev main_v701 : Ref sig .tc := ⟨.hbm, 777, rfl⟩
abbrev main_v702 : Ref sig .tc := ⟨.hbm, 778, rfl⟩
abbrev main_v703 : Ref sig .tc := ⟨.hbm, 779, rfl⟩
abbrev main_v704 : Ref sig .tc := ⟨.hbm, 780, rfl⟩
abbrev main_v705 : Ref sig .tc := ⟨.hbm, 781, rfl⟩
abbrev main_v706 : Ref sig .tc := ⟨.hbm, 782, rfl⟩
abbrev main_v707 : Ref sig .tc := ⟨.hbm, 783, rfl⟩
abbrev main_v708 : Ref sig .tc := ⟨.hbm, 784, rfl⟩
abbrev main_v709 : Ref sig .tc := ⟨.hbm, 785, rfl⟩
abbrev main_v710 : Ref sig .tc := ⟨.hbm, 786, rfl⟩
abbrev main_v711 : Ref sig .tc := ⟨.hbm, 787, rfl⟩
abbrev main_v712 : Ref sig .tc := ⟨.hbm, 788, rfl⟩
abbrev main_v713 : Ref sig .tc := ⟨.hbm, 789, rfl⟩
abbrev main_v714 : Ref sig .tc := ⟨.hbm, 790, rfl⟩
abbrev main_v715 : Ref sig .tc := ⟨.hbm, 791, rfl⟩
abbrev main_call23_cst : Ref sig .tc := ⟨.hbm, 792, rfl⟩
abbrev main_call23_v0 : Ref sig .tc := ⟨.hbm, 793, rfl⟩
abbrev main_v716 : Ref sig .tc := ⟨.hbm, 794, rfl⟩
abbrev main_c_26 : Ref sig .tc := ⟨.hbm, 795, rfl⟩
abbrev main_call24_v0 : Ref sig .tc := ⟨.hbm, 796, rfl⟩
abbrev main_v717 : Ref sig .tc := ⟨.hbm, 797, rfl⟩
abbrev main_cst_27 : Ref sig .tc := ⟨.hbm, 798, rfl⟩
abbrev main_v718 : Ref sig .tc := ⟨.hbm, 799, rfl⟩
abbrev main_v719 : Ref sig .tc := ⟨.hbm, 800, rfl⟩
abbrev main_v720 : Ref sig .tc := ⟨.hbm, 801, rfl⟩
abbrev main_v721 : Ref sig .tc := ⟨.hbm, 802, rfl⟩
abbrev main_v722 : Ref sig .tc := ⟨.hbm, 803, rfl⟩
abbrev main_v723 : Ref sig .tc := ⟨.hbm, 804, rfl⟩
abbrev main_v724 : Ref sig .tc := ⟨.hbm, 805, rfl⟩
abbrev main_v725 : Ref sig .tc := ⟨.hbm, 806, rfl⟩
abbrev main_v726 : Ref sig .tc := ⟨.hbm, 807, rfl⟩
abbrev main_v727 : Ref sig .tc := ⟨.hbm, 808, rfl⟩
abbrev main_v728 : Ref sig .tc := ⟨.hbm, 809, rfl⟩
abbrev main_v729 : Ref sig .tc := ⟨.hbm, 810, rfl⟩
abbrev main_v730 : Ref sig .tc := ⟨.hbm, 811, rfl⟩
abbrev main_v731 : Ref sig .tc := ⟨.hbm, 812, rfl⟩
abbrev main_v732 : Ref sig .tc := ⟨.hbm, 813, rfl⟩
abbrev main_v733 : Ref sig .tc := ⟨.hbm, 814, rfl⟩
abbrev main_v734 : Ref sig .tc := ⟨.hbm, 815, rfl⟩
abbrev main_v735 : Ref sig .tc := ⟨.hbm, 816, rfl⟩
abbrev main_v736 : Ref sig .tc := ⟨.hbm, 817, rfl⟩
abbrev main_v737 : Ref sig .tc := ⟨.hbm, 818, rfl⟩
abbrev main_v738 : Ref sig .tc := ⟨.hbm, 819, rfl⟩
abbrev main_v739 : Ref sig .tc := ⟨.hbm, 820, rfl⟩
abbrev main_v740 : Ref sig .tc := ⟨.hbm, 821, rfl⟩
abbrev main_v741 : Ref sig .tc := ⟨.hbm, 822, rfl⟩
abbrev main_v742 : Ref sig .tc := ⟨.hbm, 823, rfl⟩
abbrev main_v743 : Ref sig .tc := ⟨.hbm, 824, rfl⟩
abbrev main_v744 : Ref sig .tc := ⟨.hbm, 825, rfl⟩
abbrev main_v745 : Ref sig .tc := ⟨.hbm, 826, rfl⟩
abbrev main_v746 : Ref sig .tc := ⟨.hbm, 827, rfl⟩
abbrev main_v747 : Ref sig .tc := ⟨.hbm, 828, rfl⟩
abbrev main_v748 : Ref sig .tc := ⟨.hbm, 829, rfl⟩
abbrev main_v749 : Ref sig .tc := ⟨.hbm, 830, rfl⟩
abbrev main_v750 : Ref sig .tc := ⟨.hbm, 831, rfl⟩
abbrev main_v751 : Ref sig .tc := ⟨.hbm, 832, rfl⟩
abbrev main_v752 : Ref sig .tc := ⟨.hbm, 833, rfl⟩
abbrev main_v753 : Ref sig .tc := ⟨.hbm, 834, rfl⟩
abbrev main_v754 : Ref sig .tc := ⟨.hbm, 835, rfl⟩
abbrev main_v755 : Ref sig .tc := ⟨.hbm, 836, rfl⟩
abbrev main_v756 : Ref sig .tc := ⟨.hbm, 837, rfl⟩
abbrev main_v757 : Ref sig .tc := ⟨.hbm, 838, rfl⟩
abbrev main_v758 : Ref sig .tc := ⟨.hbm, 839, rfl⟩
abbrev main_v759 : Ref sig .tc := ⟨.hbm, 840, rfl⟩
abbrev main_v760 : Ref sig .tc := ⟨.hbm, 841, rfl⟩
abbrev main_v761 : Ref sig .tc := ⟨.hbm, 842, rfl⟩
abbrev main_v762 : Ref sig .tc := ⟨.hbm, 843, rfl⟩
abbrev main_v763 : Ref sig .tc := ⟨.hbm, 844, rfl⟩
abbrev main_v764 : Ref sig .tc := ⟨.hbm, 845, rfl⟩
abbrev main_v765 : Ref sig .tc := ⟨.hbm, 846, rfl⟩
abbrev main_v766 : Ref sig .tc := ⟨.hbm, 847, rfl⟩
abbrev main_call25_cst : Ref sig .tc := ⟨.hbm, 848, rfl⟩
abbrev main_call25_v0 : Ref sig .tc := ⟨.hbm, 849, rfl⟩
abbrev main_v767 : Ref sig .tc := ⟨.hbm, 850, rfl⟩
abbrev main_c_28 : Ref sig .tc := ⟨.hbm, 851, rfl⟩
abbrev main_call26_v0 : Ref sig .tc := ⟨.hbm, 852, rfl⟩
abbrev main_v768 : Ref sig .tc := ⟨.hbm, 853, rfl⟩
abbrev main_cst_29 : Ref sig .tc := ⟨.hbm, 854, rfl⟩
abbrev main_v769 : Ref sig .tc := ⟨.hbm, 855, rfl⟩
abbrev main_v770 : Ref sig .tc := ⟨.hbm, 856, rfl⟩
abbrev main_v771 : Ref sig .tc := ⟨.hbm, 857, rfl⟩
abbrev main_v772 : Ref sig .tc := ⟨.hbm, 858, rfl⟩
abbrev main_v773 : Ref sig .tc := ⟨.hbm, 859, rfl⟩
abbrev main_v774 : Ref sig .tc := ⟨.hbm, 860, rfl⟩
abbrev main_v775 : Ref sig .tc := ⟨.hbm, 861, rfl⟩
abbrev main_v776 : Ref sig .tc := ⟨.hbm, 862, rfl⟩
abbrev main_v777 : Ref sig .tc := ⟨.hbm, 863, rfl⟩
abbrev main_v778 : Ref sig .tc := ⟨.hbm, 864, rfl⟩
abbrev main_v779 : Ref sig .tc := ⟨.hbm, 865, rfl⟩
abbrev main_v780 : Ref sig .tc := ⟨.hbm, 866, rfl⟩
abbrev main_v781 : Ref sig .tc := ⟨.hbm, 867, rfl⟩
abbrev main_v782 : Ref sig .tc := ⟨.hbm, 868, rfl⟩
abbrev main_v783 : Ref sig .tc := ⟨.hbm, 869, rfl⟩
abbrev main_v784 : Ref sig .tc := ⟨.hbm, 870, rfl⟩
abbrev main_v785 : Ref sig .tc := ⟨.hbm, 871, rfl⟩
abbrev main_v786 : Ref sig .tc := ⟨.hbm, 872, rfl⟩
abbrev main_v787 : Ref sig .tc := ⟨.hbm, 873, rfl⟩
abbrev main_v788 : Ref sig .tc := ⟨.hbm, 874, rfl⟩
abbrev main_v789 : Ref sig .tc := ⟨.hbm, 875, rfl⟩
abbrev main_v790 : Ref sig .tc := ⟨.hbm, 876, rfl⟩
abbrev main_v791 : Ref sig .tc := ⟨.hbm, 877, rfl⟩
abbrev main_v792 : Ref sig .tc := ⟨.hbm, 878, rfl⟩
abbrev main_v793 : Ref sig .tc := ⟨.hbm, 879, rfl⟩
abbrev main_v794 : Ref sig .tc := ⟨.hbm, 880, rfl⟩
abbrev main_v795 : Ref sig .tc := ⟨.hbm, 881, rfl⟩
abbrev main_v796 : Ref sig .tc := ⟨.hbm, 882, rfl⟩
abbrev main_v797 : Ref sig .tc := ⟨.hbm, 883, rfl⟩
abbrev main_v798 : Ref sig .tc := ⟨.hbm, 884, rfl⟩
abbrev main_v799 : Ref sig .tc := ⟨.hbm, 885, rfl⟩
abbrev main_v800 : Ref sig .tc := ⟨.hbm, 886, rfl⟩
abbrev main_v801 : Ref sig .tc := ⟨.hbm, 887, rfl⟩
abbrev main_v802 : Ref sig .tc := ⟨.hbm, 888, rfl⟩
abbrev main_v803 : Ref sig .tc := ⟨.hbm, 889, rfl⟩
abbrev main_v804 : Ref sig .tc := ⟨.hbm, 890, rfl⟩
abbrev main_v805 : Ref sig .tc := ⟨.hbm, 891, rfl⟩
abbrev main_v806 : Ref sig .tc := ⟨.hbm, 892, rfl⟩
abbrev main_v807 : Ref sig .tc := ⟨.hbm, 893, rfl⟩
abbrev main_v808 : Ref sig .tc := ⟨.hbm, 894, rfl⟩
abbrev main_v809 : Ref sig .tc := ⟨.hbm, 895, rfl⟩
abbrev main_v810 : Ref sig .tc := ⟨.hbm, 896, rfl⟩
abbrev main_v811 : Ref sig .tc := ⟨.hbm, 897, rfl⟩
abbrev main_v812 : Ref sig .tc := ⟨.hbm, 898, rfl⟩
abbrev main_v813 : Ref sig .tc := ⟨.hbm, 899, rfl⟩
abbrev main_v814 : Ref sig .tc := ⟨.hbm, 900, rfl⟩
abbrev main_v815 : Ref sig .tc := ⟨.hbm, 901, rfl⟩
abbrev main_v816 : Ref sig .tc := ⟨.hbm, 902, rfl⟩
abbrev main_v817 : Ref sig .tc := ⟨.hbm, 903, rfl⟩
abbrev main_call27_cst : Ref sig .tc := ⟨.hbm, 904, rfl⟩
abbrev main_call27_v0 : Ref sig .tc := ⟨.hbm, 905, rfl⟩
abbrev main_v818 : Ref sig .tc := ⟨.hbm, 906, rfl⟩
abbrev main_c_30 : Ref sig .tc := ⟨.hbm, 907, rfl⟩
abbrev main_call28_v0 : Ref sig .tc := ⟨.hbm, 908, rfl⟩
abbrev main_v819 : Ref sig .tc := ⟨.hbm, 909, rfl⟩
abbrev main_cst_31 : Ref sig .tc := ⟨.hbm, 910, rfl⟩
abbrev main_v820 : Ref sig .tc := ⟨.hbm, 911, rfl⟩
abbrev main_v821 : Ref sig .tc := ⟨.hbm, 912, rfl⟩
abbrev main_v822 : Ref sig .tc := ⟨.hbm, 913, rfl⟩
abbrev main_v823 : Ref sig .tc := ⟨.hbm, 914, rfl⟩
abbrev main_v824 : Ref sig .tc := ⟨.hbm, 915, rfl⟩
abbrev main_v825 : Ref sig .tc := ⟨.hbm, 916, rfl⟩
abbrev main_v826 : Ref sig .tc := ⟨.hbm, 917, rfl⟩
abbrev main_v827 : Ref sig .tc := ⟨.hbm, 918, rfl⟩
abbrev main_v828 : Ref sig .tc := ⟨.hbm, 919, rfl⟩
abbrev main_v829 : Ref sig .tc := ⟨.hbm, 920, rfl⟩
abbrev main_v830 : Ref sig .tc := ⟨.hbm, 921, rfl⟩
abbrev main_v831 : Ref sig .tc := ⟨.hbm, 922, rfl⟩
abbrev main_v832 : Ref sig .tc := ⟨.hbm, 923, rfl⟩
abbrev main_v833 : Ref sig .tc := ⟨.hbm, 924, rfl⟩
abbrev main_v834 : Ref sig .tc := ⟨.hbm, 925, rfl⟩
abbrev main_v835 : Ref sig .tc := ⟨.hbm, 926, rfl⟩
abbrev main_v836 : Ref sig .tc := ⟨.hbm, 927, rfl⟩
abbrev main_v837 : Ref sig .tc := ⟨.hbm, 928, rfl⟩
abbrev main_v838 : Ref sig .tc := ⟨.hbm, 929, rfl⟩
abbrev main_v839 : Ref sig .tc := ⟨.hbm, 930, rfl⟩
abbrev main_v840 : Ref sig .tc := ⟨.hbm, 931, rfl⟩
abbrev main_v841 : Ref sig .tc := ⟨.hbm, 932, rfl⟩
abbrev main_v842 : Ref sig .tc := ⟨.hbm, 933, rfl⟩
abbrev main_v843 : Ref sig .tc := ⟨.hbm, 934, rfl⟩
abbrev main_v844 : Ref sig .tc := ⟨.hbm, 935, rfl⟩
abbrev main_v845 : Ref sig .tc := ⟨.hbm, 936, rfl⟩
abbrev main_v846 : Ref sig .tc := ⟨.hbm, 937, rfl⟩
abbrev main_v847 : Ref sig .tc := ⟨.hbm, 938, rfl⟩
abbrev main_v848 : Ref sig .tc := ⟨.hbm, 939, rfl⟩
abbrev main_v849 : Ref sig .tc := ⟨.hbm, 940, rfl⟩
abbrev main_v850 : Ref sig .tc := ⟨.hbm, 941, rfl⟩
abbrev main_v851 : Ref sig .tc := ⟨.hbm, 942, rfl⟩
abbrev main_v852 : Ref sig .tc := ⟨.hbm, 943, rfl⟩
abbrev main_v853 : Ref sig .tc := ⟨.hbm, 944, rfl⟩
abbrev main_v854 : Ref sig .tc := ⟨.hbm, 945, rfl⟩
abbrev main_v855 : Ref sig .tc := ⟨.hbm, 946, rfl⟩
abbrev main_v856 : Ref sig .tc := ⟨.hbm, 947, rfl⟩
abbrev main_v857 : Ref sig .tc := ⟨.hbm, 948, rfl⟩
abbrev main_v858 : Ref sig .tc := ⟨.hbm, 949, rfl⟩
abbrev main_v859 : Ref sig .tc := ⟨.hbm, 950, rfl⟩
abbrev main_v860 : Ref sig .tc := ⟨.hbm, 951, rfl⟩
abbrev main_v861 : Ref sig .tc := ⟨.hbm, 952, rfl⟩
abbrev main_v862 : Ref sig .tc := ⟨.hbm, 953, rfl⟩
abbrev main_v863 : Ref sig .tc := ⟨.hbm, 954, rfl⟩
abbrev main_v864 : Ref sig .tc := ⟨.hbm, 955, rfl⟩
abbrev main_v865 : Ref sig .tc := ⟨.hbm, 956, rfl⟩
abbrev main_v866 : Ref sig .tc := ⟨.hbm, 957, rfl⟩
abbrev main_v867 : Ref sig .tc := ⟨.hbm, 958, rfl⟩
abbrev main_v868 : Ref sig .tc := ⟨.hbm, 959, rfl⟩
abbrev main_c_32 : Ref sig .tc := ⟨.hbm, 960, rfl⟩
abbrev main_call29_v0 : Ref sig .tc := ⟨.hbm, 961, rfl⟩
abbrev main_v869 : Ref sig .tc := ⟨.hbm, 962, rfl⟩
abbrev main_cst_33 : Ref sig .tc := ⟨.hbm, 963, rfl⟩
abbrev main_v870 : Ref sig .tc := ⟨.hbm, 964, rfl⟩
abbrev main_v871 : Ref sig .tc := ⟨.hbm, 965, rfl⟩
abbrev main_v872 : Ref sig .tc := ⟨.hbm, 966, rfl⟩
abbrev main_v873 : Ref sig .tc := ⟨.hbm, 967, rfl⟩
abbrev main_v874 : Ref sig .tc := ⟨.hbm, 968, rfl⟩
abbrev main_v875 : Ref sig .tc := ⟨.hbm, 969, rfl⟩
abbrev main_v876 : Ref sig .tc := ⟨.hbm, 970, rfl⟩
abbrev main_v877 : Ref sig .tc := ⟨.hbm, 971, rfl⟩
abbrev main_v878 : Ref sig .tc := ⟨.hbm, 972, rfl⟩
abbrev main_v879 : Ref sig .tc := ⟨.hbm, 973, rfl⟩
abbrev main_v880 : Ref sig .tc := ⟨.hbm, 974, rfl⟩
abbrev main_v881 : Ref sig .tc := ⟨.hbm, 975, rfl⟩
abbrev main_v882 : Ref sig .tc := ⟨.hbm, 976, rfl⟩
abbrev main_v883 : Ref sig .tc := ⟨.hbm, 977, rfl⟩
abbrev main_v884 : Ref sig .tc := ⟨.hbm, 978, rfl⟩
abbrev main_v885 : Ref sig .tc := ⟨.hbm, 979, rfl⟩
abbrev main_v886 : Ref sig .tc := ⟨.hbm, 980, rfl⟩
abbrev main_v887 : Ref sig .tc := ⟨.hbm, 981, rfl⟩
abbrev main_v888 : Ref sig .tc := ⟨.hbm, 982, rfl⟩
abbrev main_v889 : Ref sig .tc := ⟨.hbm, 983, rfl⟩
abbrev main_v890 : Ref sig .tc := ⟨.hbm, 984, rfl⟩
abbrev main_v891 : Ref sig .tc := ⟨.hbm, 985, rfl⟩
abbrev main_v892 : Ref sig .tc := ⟨.hbm, 986, rfl⟩
abbrev main_v893 : Ref sig .tc := ⟨.hbm, 987, rfl⟩
abbrev main_v894 : Ref sig .tc := ⟨.hbm, 988, rfl⟩
abbrev main_v895 : Ref sig .tc := ⟨.hbm, 989, rfl⟩
abbrev main_v896 : Ref sig .tc := ⟨.hbm, 990, rfl⟩
abbrev main_v897 : Ref sig .tc := ⟨.hbm, 991, rfl⟩
abbrev main_v898 : Ref sig .tc := ⟨.hbm, 992, rfl⟩
abbrev main_v899 : Ref sig .tc := ⟨.hbm, 993, rfl⟩
abbrev main_v900 : Ref sig .tc := ⟨.hbm, 994, rfl⟩
abbrev main_v901 : Ref sig .tc := ⟨.hbm, 995, rfl⟩
abbrev main_v902 : Ref sig .tc := ⟨.hbm, 996, rfl⟩
abbrev main_v903 : Ref sig .tc := ⟨.hbm, 997, rfl⟩
abbrev main_v904 : Ref sig .tc := ⟨.hbm, 998, rfl⟩
abbrev main_v905 : Ref sig .tc := ⟨.hbm, 999, rfl⟩
abbrev main_v906 : Ref sig .tc := ⟨.hbm, 1000, rfl⟩
abbrev main_v907 : Ref sig .tc := ⟨.hbm, 1001, rfl⟩
abbrev main_v908 : Ref sig .tc := ⟨.hbm, 1002, rfl⟩
abbrev main_v909 : Ref sig .tc := ⟨.hbm, 1003, rfl⟩
abbrev main_v910 : Ref sig .tc := ⟨.hbm, 1004, rfl⟩
abbrev main_v911 : Ref sig .tc := ⟨.hbm, 1005, rfl⟩
abbrev main_v912 : Ref sig .tc := ⟨.hbm, 1006, rfl⟩
abbrev main_v913 : Ref sig .tc := ⟨.hbm, 1007, rfl⟩
abbrev main_v914 : Ref sig .tc := ⟨.hbm, 1008, rfl⟩
abbrev main_v915 : Ref sig .tc := ⟨.hbm, 1009, rfl⟩
abbrev main_v916 : Ref sig .tc := ⟨.hbm, 1010, rfl⟩
abbrev main_v917 : Ref sig .tc := ⟨.hbm, 1011, rfl⟩
abbrev main_v918 : Ref sig .tc := ⟨.hbm, 1012, rfl⟩
abbrev main_v919 : Ref sig .tc := ⟨.hbm, 1013, rfl⟩
abbrev main_v920 : Ref sig .tc := ⟨.hbm, 1014, rfl⟩
abbrev main_v921 : Ref sig .tc := ⟨.hbm, 1015, rfl⟩
abbrev main_c_34 : Ref sig .tc := ⟨.hbm, 1016, rfl⟩
abbrev main_call30_v0 : Ref sig .tc := ⟨.hbm, 1017, rfl⟩
abbrev main_v922 : Ref sig .tc := ⟨.hbm, 1018, rfl⟩
abbrev main_cst_35 : Ref sig .tc := ⟨.hbm, 1019, rfl⟩
abbrev main_v923 : Ref sig .tc := ⟨.hbm, 1020, rfl⟩
abbrev main_v924 : Ref sig .tc := ⟨.hbm, 1021, rfl⟩
abbrev main_v925 : Ref sig .tc := ⟨.hbm, 1022, rfl⟩
abbrev main_v926 : Ref sig .tc := ⟨.hbm, 1023, rfl⟩
abbrev main_v927 : Ref sig .tc := ⟨.hbm, 1024, rfl⟩
abbrev main_v928 : Ref sig .tc := ⟨.hbm, 1025, rfl⟩
abbrev main_v929 : Ref sig .tc := ⟨.hbm, 1026, rfl⟩
abbrev main_v930 : Ref sig .tc := ⟨.hbm, 1027, rfl⟩
abbrev main_v931 : Ref sig .tc := ⟨.hbm, 1028, rfl⟩
abbrev main_v932 : Ref sig .tc := ⟨.hbm, 1029, rfl⟩
abbrev main_v933 : Ref sig .tc := ⟨.hbm, 1030, rfl⟩
abbrev main_v934 : Ref sig .tc := ⟨.hbm, 1031, rfl⟩
abbrev main_v935 : Ref sig .tc := ⟨.hbm, 1032, rfl⟩
abbrev main_v936 : Ref sig .tc := ⟨.hbm, 1033, rfl⟩
abbrev main_v937 : Ref sig .tc := ⟨.hbm, 1034, rfl⟩
abbrev main_v938 : Ref sig .tc := ⟨.hbm, 1035, rfl⟩
abbrev main_v939 : Ref sig .tc := ⟨.hbm, 1036, rfl⟩
abbrev main_v940 : Ref sig .tc := ⟨.hbm, 1037, rfl⟩
abbrev main_v941 : Ref sig .tc := ⟨.hbm, 1038, rfl⟩
abbrev main_v942 : Ref sig .tc := ⟨.hbm, 1039, rfl⟩
abbrev main_v943 : Ref sig .tc := ⟨.hbm, 1040, rfl⟩
abbrev main_v944 : Ref sig .tc := ⟨.hbm, 1041, rfl⟩
abbrev main_v945 : Ref sig .tc := ⟨.hbm, 1042, rfl⟩
abbrev main_v946 : Ref sig .tc := ⟨.hbm, 1043, rfl⟩
abbrev main_v947 : Ref sig .tc := ⟨.hbm, 1044, rfl⟩
abbrev main_v948 : Ref sig .tc := ⟨.hbm, 1045, rfl⟩
abbrev main_v949 : Ref sig .tc := ⟨.hbm, 1046, rfl⟩
abbrev main_v950 : Ref sig .tc := ⟨.hbm, 1047, rfl⟩
abbrev main_v951 : Ref sig .tc := ⟨.hbm, 1048, rfl⟩
abbrev main_v952 : Ref sig .tc := ⟨.hbm, 1049, rfl⟩
abbrev main_v953 : Ref sig .tc := ⟨.hbm, 1050, rfl⟩
abbrev main_v954 : Ref sig .tc := ⟨.hbm, 1051, rfl⟩
abbrev main_v955 : Ref sig .tc := ⟨.hbm, 1052, rfl⟩
abbrev main_v956 : Ref sig .tc := ⟨.hbm, 1053, rfl⟩
abbrev main_v957 : Ref sig .tc := ⟨.hbm, 1054, rfl⟩
abbrev main_v958 : Ref sig .tc := ⟨.hbm, 1055, rfl⟩
abbrev main_v959 : Ref sig .tc := ⟨.hbm, 1056, rfl⟩
abbrev main_v960 : Ref sig .tc := ⟨.hbm, 1057, rfl⟩
abbrev main_v961 : Ref sig .tc := ⟨.hbm, 1058, rfl⟩
abbrev main_v962 : Ref sig .tc := ⟨.hbm, 1059, rfl⟩
abbrev main_v963 : Ref sig .tc := ⟨.hbm, 1060, rfl⟩
abbrev main_v964 : Ref sig .tc := ⟨.hbm, 1061, rfl⟩
abbrev main_v965 : Ref sig .tc := ⟨.hbm, 1062, rfl⟩
abbrev main_v966 : Ref sig .tc := ⟨.hbm, 1063, rfl⟩
abbrev main_v967 : Ref sig .tc := ⟨.hbm, 1064, rfl⟩
abbrev main_v968 : Ref sig .tc := ⟨.hbm, 1065, rfl⟩
abbrev main_v969 : Ref sig .tc := ⟨.hbm, 1066, rfl⟩
abbrev main_v970 : Ref sig .tc := ⟨.hbm, 1067, rfl⟩
abbrev main_v971 : Ref sig .tc := ⟨.hbm, 1068, rfl⟩
abbrev main_call31_cst : Ref sig .tc := ⟨.hbm, 1069, rfl⟩
abbrev main_call31_v0 : Ref sig .tc := ⟨.hbm, 1070, rfl⟩
abbrev main_v972 : Ref sig .tc := ⟨.hbm, 1071, rfl⟩
abbrev main_c_36 : Ref sig .tc := ⟨.hbm, 1072, rfl⟩
abbrev main_call32_v0 : Ref sig .tc := ⟨.hbm, 1073, rfl⟩
abbrev main_v973 : Ref sig .tc := ⟨.hbm, 1074, rfl⟩
abbrev main_cst_37 : Ref sig .tc := ⟨.hbm, 1075, rfl⟩
abbrev main_v974 : Ref sig .tc := ⟨.hbm, 1076, rfl⟩
abbrev main_v975 : Ref sig .tc := ⟨.hbm, 1077, rfl⟩
abbrev main_v976 : Ref sig .tc := ⟨.hbm, 1078, rfl⟩
abbrev main_v977 : Ref sig .tc := ⟨.hbm, 1079, rfl⟩
abbrev main_v978 : Ref sig .tc := ⟨.hbm, 1080, rfl⟩
abbrev main_v979 : Ref sig .tc := ⟨.hbm, 1081, rfl⟩
abbrev main_v980 : Ref sig .tc := ⟨.hbm, 1082, rfl⟩
abbrev main_v981 : Ref sig .tc := ⟨.hbm, 1083, rfl⟩
abbrev main_v982 : Ref sig .tc := ⟨.hbm, 1084, rfl⟩
abbrev main_v983 : Ref sig .tc := ⟨.hbm, 1085, rfl⟩
abbrev main_v984 : Ref sig .tc := ⟨.hbm, 1086, rfl⟩
abbrev main_v985 : Ref sig .tc := ⟨.hbm, 1087, rfl⟩
abbrev main_v986 : Ref sig .tc := ⟨.hbm, 1088, rfl⟩
abbrev main_v987 : Ref sig .tc := ⟨.hbm, 1089, rfl⟩
abbrev main_v988 : Ref sig .tc := ⟨.hbm, 1090, rfl⟩
abbrev main_v989 : Ref sig .tc := ⟨.hbm, 1091, rfl⟩
abbrev main_v990 : Ref sig .tc := ⟨.hbm, 1092, rfl⟩
abbrev main_v991 : Ref sig .tc := ⟨.hbm, 1093, rfl⟩
abbrev main_v992 : Ref sig .tc := ⟨.hbm, 1094, rfl⟩
abbrev main_v993 : Ref sig .tc := ⟨.hbm, 1095, rfl⟩
abbrev main_v994 : Ref sig .tc := ⟨.hbm, 1096, rfl⟩
abbrev main_v995 : Ref sig .tc := ⟨.hbm, 1097, rfl⟩
abbrev main_v996 : Ref sig .tc := ⟨.hbm, 1098, rfl⟩
abbrev main_v997 : Ref sig .tc := ⟨.hbm, 1099, rfl⟩
abbrev main_v998 : Ref sig .tc := ⟨.hbm, 1100, rfl⟩
abbrev main_v999 : Ref sig .tc := ⟨.hbm, 1101, rfl⟩
abbrev main_v1000 : Ref sig .tc := ⟨.hbm, 1102, rfl⟩
abbrev main_v1001 : Ref sig .tc := ⟨.hbm, 1103, rfl⟩
abbrev main_v1002 : Ref sig .tc := ⟨.hbm, 1104, rfl⟩
abbrev main_v1003 : Ref sig .tc := ⟨.hbm, 1105, rfl⟩
abbrev main_v1004 : Ref sig .tc := ⟨.hbm, 1106, rfl⟩
abbrev main_v1005 : Ref sig .tc := ⟨.hbm, 1107, rfl⟩
abbrev main_v1006 : Ref sig .tc := ⟨.hbm, 1108, rfl⟩
abbrev main_v1007 : Ref sig .tc := ⟨.hbm, 1109, rfl⟩
abbrev main_v1008 : Ref sig .tc := ⟨.hbm, 1110, rfl⟩
abbrev main_v1009 : Ref sig .tc := ⟨.hbm, 1111, rfl⟩
abbrev main_v1010 : Ref sig .tc := ⟨.hbm, 1112, rfl⟩
abbrev main_v1011 : Ref sig .tc := ⟨.hbm, 1113, rfl⟩
abbrev main_v1012 : Ref sig .tc := ⟨.hbm, 1114, rfl⟩
abbrev main_v1013 : Ref sig .tc := ⟨.hbm, 1115, rfl⟩
abbrev main_v1014 : Ref sig .tc := ⟨.hbm, 1116, rfl⟩
abbrev main_v1015 : Ref sig .tc := ⟨.hbm, 1117, rfl⟩
abbrev main_v1016 : Ref sig .tc := ⟨.hbm, 1118, rfl⟩
abbrev main_v1017 : Ref sig .tc := ⟨.hbm, 1119, rfl⟩
abbrev main_v1018 : Ref sig .tc := ⟨.hbm, 1120, rfl⟩
abbrev main_v1019 : Ref sig .tc := ⟨.hbm, 1121, rfl⟩
abbrev main_v1020 : Ref sig .tc := ⟨.hbm, 1122, rfl⟩
abbrev main_v1021 : Ref sig .tc := ⟨.hbm, 1123, rfl⟩
abbrev main_v1022 : Ref sig .tc := ⟨.hbm, 1124, rfl⟩
abbrev main_call33_cst : Ref sig .tc := ⟨.hbm, 1125, rfl⟩
abbrev main_call33_v0 : Ref sig .tc := ⟨.hbm, 1126, rfl⟩
abbrev main_v1023 : Ref sig .tc := ⟨.hbm, 1127, rfl⟩
abbrev main_c_38 : Ref sig .tc := ⟨.hbm, 1128, rfl⟩
abbrev main_call34_v0 : Ref sig .tc := ⟨.hbm, 1129, rfl⟩
abbrev main_v1024 : Ref sig .tc := ⟨.hbm, 1130, rfl⟩
abbrev main_cst_39 : Ref sig .tc := ⟨.hbm, 1131, rfl⟩
abbrev main_v1025 : Ref sig .tc := ⟨.hbm, 1132, rfl⟩
abbrev main_v1026 : Ref sig .tc := ⟨.hbm, 1133, rfl⟩
abbrev main_v1027 : Ref sig .tc := ⟨.hbm, 1134, rfl⟩
abbrev main_v1028 : Ref sig .tc := ⟨.hbm, 1135, rfl⟩
abbrev main_v1029 : Ref sig .tc := ⟨.hbm, 1136, rfl⟩
abbrev main_v1030 : Ref sig .tc := ⟨.hbm, 1137, rfl⟩
abbrev main_v1031 : Ref sig .tc := ⟨.hbm, 1138, rfl⟩
abbrev main_v1032 : Ref sig .tc := ⟨.hbm, 1139, rfl⟩
abbrev main_v1033 : Ref sig .tc := ⟨.hbm, 1140, rfl⟩
abbrev main_v1034 : Ref sig .tc := ⟨.hbm, 1141, rfl⟩
abbrev main_v1035 : Ref sig .tc := ⟨.hbm, 1142, rfl⟩
abbrev main_v1036 : Ref sig .tc := ⟨.hbm, 1143, rfl⟩
abbrev main_v1037 : Ref sig .tc := ⟨.hbm, 1144, rfl⟩
abbrev main_v1038 : Ref sig .tc := ⟨.hbm, 1145, rfl⟩
abbrev main_v1039 : Ref sig .tc := ⟨.hbm, 1146, rfl⟩
abbrev main_v1040 : Ref sig .tc := ⟨.hbm, 1147, rfl⟩
abbrev main_v1041 : Ref sig .tc := ⟨.hbm, 1148, rfl⟩
abbrev main_v1042 : Ref sig .tc := ⟨.hbm, 1149, rfl⟩
abbrev main_v1043 : Ref sig .tc := ⟨.hbm, 1150, rfl⟩
abbrev main_v1044 : Ref sig .tc := ⟨.hbm, 1151, rfl⟩
abbrev main_v1045 : Ref sig .tc := ⟨.hbm, 1152, rfl⟩
abbrev main_v1046 : Ref sig .tc := ⟨.hbm, 1153, rfl⟩
abbrev main_v1047 : Ref sig .tc := ⟨.hbm, 1154, rfl⟩
abbrev main_v1048 : Ref sig .tc := ⟨.hbm, 1155, rfl⟩
abbrev main_v1049 : Ref sig .tc := ⟨.hbm, 1156, rfl⟩
abbrev main_v1050 : Ref sig .tc := ⟨.hbm, 1157, rfl⟩
abbrev main_v1051 : Ref sig .tc := ⟨.hbm, 1158, rfl⟩
abbrev main_v1052 : Ref sig .tc := ⟨.hbm, 1159, rfl⟩
abbrev main_v1053 : Ref sig .tc := ⟨.hbm, 1160, rfl⟩
abbrev main_v1054 : Ref sig .tc := ⟨.hbm, 1161, rfl⟩
abbrev main_v1055 : Ref sig .tc := ⟨.hbm, 1162, rfl⟩
abbrev main_v1056 : Ref sig .tc := ⟨.hbm, 1163, rfl⟩
abbrev main_v1057 : Ref sig .tc := ⟨.hbm, 1164, rfl⟩
abbrev main_v1058 : Ref sig .tc := ⟨.hbm, 1165, rfl⟩
abbrev main_v1059 : Ref sig .tc := ⟨.hbm, 1166, rfl⟩
abbrev main_v1060 : Ref sig .tc := ⟨.hbm, 1167, rfl⟩
abbrev main_v1061 : Ref sig .tc := ⟨.hbm, 1168, rfl⟩
abbrev main_v1062 : Ref sig .tc := ⟨.hbm, 1169, rfl⟩
abbrev main_v1063 : Ref sig .tc := ⟨.hbm, 1170, rfl⟩
abbrev main_v1064 : Ref sig .tc := ⟨.hbm, 1171, rfl⟩
abbrev main_v1065 : Ref sig .tc := ⟨.hbm, 1172, rfl⟩
abbrev main_v1066 : Ref sig .tc := ⟨.hbm, 1173, rfl⟩
abbrev main_v1067 : Ref sig .tc := ⟨.hbm, 1174, rfl⟩
abbrev main_v1068 : Ref sig .tc := ⟨.hbm, 1175, rfl⟩
abbrev main_v1069 : Ref sig .tc := ⟨.hbm, 1176, rfl⟩
abbrev main_v1070 : Ref sig .tc := ⟨.hbm, 1177, rfl⟩
abbrev main_v1071 : Ref sig .tc := ⟨.hbm, 1178, rfl⟩
abbrev main_v1072 : Ref sig .tc := ⟨.hbm, 1179, rfl⟩
abbrev main_v1073 : Ref sig .tc := ⟨.hbm, 1180, rfl⟩
abbrev main_call35_cst : Ref sig .tc := ⟨.hbm, 1181, rfl⟩
abbrev main_call35_v0 : Ref sig .tc := ⟨.hbm, 1182, rfl⟩
abbrev main_v1074 : Ref sig .tc := ⟨.hbm, 1183, rfl⟩
abbrev main_c_40 : Ref sig .tc := ⟨.hbm, 1184, rfl⟩
abbrev main_call36_v0 : Ref sig .tc := ⟨.hbm, 1185, rfl⟩
abbrev main_v1075 : Ref sig .tc := ⟨.hbm, 1186, rfl⟩
abbrev main_cst_41 : Ref sig .tc := ⟨.hbm, 1187, rfl⟩
abbrev main_v1076 : Ref sig .tc := ⟨.hbm, 1188, rfl⟩
abbrev main_v1077 : Ref sig .tc := ⟨.hbm, 1189, rfl⟩
abbrev main_v1078 : Ref sig .tc := ⟨.hbm, 1190, rfl⟩
abbrev main_v1079 : Ref sig .tc := ⟨.hbm, 1191, rfl⟩
abbrev main_v1080 : Ref sig .tc := ⟨.hbm, 1192, rfl⟩
abbrev main_v1081 : Ref sig .tc := ⟨.hbm, 1193, rfl⟩
abbrev main_v1082 : Ref sig .tc := ⟨.hbm, 1194, rfl⟩
abbrev main_v1083 : Ref sig .tc := ⟨.hbm, 1195, rfl⟩
abbrev main_v1084 : Ref sig .tc := ⟨.hbm, 1196, rfl⟩
abbrev main_v1085 : Ref sig .tc := ⟨.hbm, 1197, rfl⟩
abbrev main_v1086 : Ref sig .tc := ⟨.hbm, 1198, rfl⟩
abbrev main_v1087 : Ref sig .tc := ⟨.hbm, 1199, rfl⟩
abbrev main_v1088 : Ref sig .tc := ⟨.hbm, 1200, rfl⟩
abbrev main_v1089 : Ref sig .tc := ⟨.hbm, 1201, rfl⟩
abbrev main_v1090 : Ref sig .tc := ⟨.hbm, 1202, rfl⟩
abbrev main_v1091 : Ref sig .tc := ⟨.hbm, 1203, rfl⟩
abbrev main_v1092 : Ref sig .tc := ⟨.hbm, 1204, rfl⟩
abbrev main_v1093 : Ref sig .tc := ⟨.hbm, 1205, rfl⟩
abbrev main_v1094 : Ref sig .tc := ⟨.hbm, 1206, rfl⟩
abbrev main_v1095 : Ref sig .tc := ⟨.hbm, 1207, rfl⟩
abbrev main_v1096 : Ref sig .tc := ⟨.hbm, 1208, rfl⟩
abbrev main_v1097 : Ref sig .tc := ⟨.hbm, 1209, rfl⟩
abbrev main_v1098 : Ref sig .tc := ⟨.hbm, 1210, rfl⟩
abbrev main_v1099 : Ref sig .tc := ⟨.hbm, 1211, rfl⟩
abbrev main_v1100 : Ref sig .tc := ⟨.hbm, 1212, rfl⟩
abbrev main_v1101 : Ref sig .tc := ⟨.hbm, 1213, rfl⟩
abbrev main_v1102 : Ref sig .tc := ⟨.hbm, 1214, rfl⟩
abbrev main_v1103 : Ref sig .tc := ⟨.hbm, 1215, rfl⟩
abbrev main_v1104 : Ref sig .tc := ⟨.hbm, 1216, rfl⟩
abbrev main_v1105 : Ref sig .tc := ⟨.hbm, 1217, rfl⟩
abbrev main_v1106 : Ref sig .tc := ⟨.hbm, 1218, rfl⟩
abbrev main_v1107 : Ref sig .tc := ⟨.hbm, 1219, rfl⟩
abbrev main_v1108 : Ref sig .tc := ⟨.hbm, 1220, rfl⟩
abbrev main_v1109 : Ref sig .tc := ⟨.hbm, 1221, rfl⟩
abbrev main_v1110 : Ref sig .tc := ⟨.hbm, 1222, rfl⟩
abbrev main_v1111 : Ref sig .tc := ⟨.hbm, 1223, rfl⟩
abbrev main_v1112 : Ref sig .tc := ⟨.hbm, 1224, rfl⟩
abbrev main_v1113 : Ref sig .tc := ⟨.hbm, 1225, rfl⟩
abbrev main_v1114 : Ref sig .tc := ⟨.hbm, 1226, rfl⟩
abbrev main_v1115 : Ref sig .tc := ⟨.hbm, 1227, rfl⟩
abbrev main_v1116 : Ref sig .tc := ⟨.hbm, 1228, rfl⟩
abbrev main_v1117 : Ref sig .tc := ⟨.hbm, 1229, rfl⟩
abbrev main_v1118 : Ref sig .tc := ⟨.hbm, 1230, rfl⟩
abbrev main_v1119 : Ref sig .tc := ⟨.hbm, 1231, rfl⟩
abbrev main_v1120 : Ref sig .tc := ⟨.hbm, 1232, rfl⟩
abbrev main_v1121 : Ref sig .tc := ⟨.hbm, 1233, rfl⟩
abbrev main_v1122 : Ref sig .tc := ⟨.hbm, 1234, rfl⟩
abbrev main_v1123 : Ref sig .tc := ⟨.hbm, 1235, rfl⟩
abbrev main_v1124 : Ref sig .tc := ⟨.hbm, 1236, rfl⟩
abbrev main_call37_cst : Ref sig .tc := ⟨.hbm, 1237, rfl⟩
abbrev main_call37_v0 : Ref sig .tc := ⟨.hbm, 1238, rfl⟩
abbrev main_v1125 : Ref sig .tc := ⟨.hbm, 1239, rfl⟩
abbrev main_c_42 : Ref sig .tc := ⟨.hbm, 1240, rfl⟩
abbrev main_call38_v0 : Ref sig .tc := ⟨.hbm, 1241, rfl⟩
abbrev main_v1126 : Ref sig .tc := ⟨.hbm, 1242, rfl⟩
abbrev main_cst_43 : Ref sig .tc := ⟨.hbm, 1243, rfl⟩
abbrev main_v1127 : Ref sig .tc := ⟨.hbm, 1244, rfl⟩
abbrev main_v1128 : Ref sig .tc := ⟨.hbm, 1245, rfl⟩
abbrev main_v1129 : Ref sig .tc := ⟨.hbm, 1246, rfl⟩
abbrev main_v1130 : Ref sig .tc := ⟨.hbm, 1247, rfl⟩
abbrev main_v1131 : Ref sig .tc := ⟨.hbm, 1248, rfl⟩
abbrev main_v1132 : Ref sig .tc := ⟨.hbm, 1249, rfl⟩
abbrev main_v1133 : Ref sig .tc := ⟨.hbm, 1250, rfl⟩
abbrev main_v1134 : Ref sig .tc := ⟨.hbm, 1251, rfl⟩
abbrev main_v1135 : Ref sig .tc := ⟨.hbm, 1252, rfl⟩
abbrev main_v1136 : Ref sig .tc := ⟨.hbm, 1253, rfl⟩
abbrev main_v1137 : Ref sig .tc := ⟨.hbm, 1254, rfl⟩
abbrev main_v1138 : Ref sig .tc := ⟨.hbm, 1255, rfl⟩
abbrev main_v1139 : Ref sig .tc := ⟨.hbm, 1256, rfl⟩
abbrev main_v1140 : Ref sig .tc := ⟨.hbm, 1257, rfl⟩
abbrev main_v1141 : Ref sig .tc := ⟨.hbm, 1258, rfl⟩
abbrev main_v1142 : Ref sig .tc := ⟨.hbm, 1259, rfl⟩
abbrev main_v1143 : Ref sig .tc := ⟨.hbm, 1260, rfl⟩
abbrev main_v1144 : Ref sig .tc := ⟨.hbm, 1261, rfl⟩
abbrev main_v1145 : Ref sig .tc := ⟨.hbm, 1262, rfl⟩
abbrev main_v1146 : Ref sig .tc := ⟨.hbm, 1263, rfl⟩
abbrev main_v1147 : Ref sig .tc := ⟨.hbm, 1264, rfl⟩
abbrev main_v1148 : Ref sig .tc := ⟨.hbm, 1265, rfl⟩
abbrev main_v1149 : Ref sig .tc := ⟨.hbm, 1266, rfl⟩
abbrev main_v1150 : Ref sig .tc := ⟨.hbm, 1267, rfl⟩
abbrev main_v1151 : Ref sig .tc := ⟨.hbm, 1268, rfl⟩
abbrev main_v1152 : Ref sig .tc := ⟨.hbm, 1269, rfl⟩
abbrev main_v1153 : Ref sig .tc := ⟨.hbm, 1270, rfl⟩
abbrev main_v1154 : Ref sig .tc := ⟨.hbm, 1271, rfl⟩
abbrev main_v1155 : Ref sig .tc := ⟨.hbm, 1272, rfl⟩
abbrev main_v1156 : Ref sig .tc := ⟨.hbm, 1273, rfl⟩
abbrev main_v1157 : Ref sig .tc := ⟨.hbm, 1274, rfl⟩
abbrev main_v1158 : Ref sig .tc := ⟨.hbm, 1275, rfl⟩
abbrev main_v1159 : Ref sig .tc := ⟨.hbm, 1276, rfl⟩
abbrev main_v1160 : Ref sig .tc := ⟨.hbm, 1277, rfl⟩
abbrev main_v1161 : Ref sig .tc := ⟨.hbm, 1278, rfl⟩
abbrev main_v1162 : Ref sig .tc := ⟨.hbm, 1279, rfl⟩
abbrev main_v1163 : Ref sig .tc := ⟨.hbm, 1280, rfl⟩
abbrev main_v1164 : Ref sig .tc := ⟨.hbm, 1281, rfl⟩
abbrev main_v1165 : Ref sig .tc := ⟨.hbm, 1282, rfl⟩
abbrev main_v1166 : Ref sig .tc := ⟨.hbm, 1283, rfl⟩
abbrev main_v1167 : Ref sig .tc := ⟨.hbm, 1284, rfl⟩
abbrev main_v1168 : Ref sig .tc := ⟨.hbm, 1285, rfl⟩
abbrev main_v1169 : Ref sig .tc := ⟨.hbm, 1286, rfl⟩
abbrev main_v1170 : Ref sig .tc := ⟨.hbm, 1287, rfl⟩
abbrev main_v1171 : Ref sig .tc := ⟨.hbm, 1288, rfl⟩
abbrev main_v1172 : Ref sig .tc := ⟨.hbm, 1289, rfl⟩
abbrev main_v1173 : Ref sig .tc := ⟨.hbm, 1290, rfl⟩
abbrev main_v1174 : Ref sig .tc := ⟨.hbm, 1291, rfl⟩
abbrev main_v1175 : Ref sig .tc := ⟨.hbm, 1292, rfl⟩
abbrev main_c_44 : Ref sig .tc := ⟨.hbm, 1293, rfl⟩
abbrev main_call39_v0 : Ref sig .tc := ⟨.hbm, 1294, rfl⟩
abbrev main_v1176 : Ref sig .tc := ⟨.hbm, 1295, rfl⟩
abbrev main_cst_45 : Ref sig .tc := ⟨.hbm, 1296, rfl⟩
abbrev main_v1177 : Ref sig .tc := ⟨.hbm, 1297, rfl⟩
abbrev main_v1178 : Ref sig .tc := ⟨.hbm, 1298, rfl⟩
abbrev main_v1179 : Ref sig .tc := ⟨.hbm, 1299, rfl⟩
abbrev main_v1180 : Ref sig .tc := ⟨.hbm, 1300, rfl⟩
abbrev main_v1181 : Ref sig .tc := ⟨.hbm, 1301, rfl⟩
abbrev main_v1182 : Ref sig .tc := ⟨.hbm, 1302, rfl⟩
abbrev main_v1183 : Ref sig .tc := ⟨.hbm, 1303, rfl⟩
abbrev main_v1184 : Ref sig .tc := ⟨.hbm, 1304, rfl⟩
abbrev main_v1185 : Ref sig .tc := ⟨.hbm, 1305, rfl⟩
abbrev main_v1186 : Ref sig .tc := ⟨.hbm, 1306, rfl⟩
abbrev main_v1187 : Ref sig .tc := ⟨.hbm, 1307, rfl⟩
abbrev main_v1188 : Ref sig .tc := ⟨.hbm, 1308, rfl⟩
abbrev main_v1189 : Ref sig .tc := ⟨.hbm, 1309, rfl⟩
abbrev main_v1190 : Ref sig .tc := ⟨.hbm, 1310, rfl⟩
abbrev main_v1191 : Ref sig .tc := ⟨.hbm, 1311, rfl⟩
abbrev main_v1192 : Ref sig .tc := ⟨.hbm, 1312, rfl⟩
abbrev main_v1193 : Ref sig .tc := ⟨.hbm, 1313, rfl⟩
abbrev main_v1194 : Ref sig .tc := ⟨.hbm, 1314, rfl⟩
abbrev main_v1195 : Ref sig .tc := ⟨.hbm, 1315, rfl⟩
abbrev main_v1196 : Ref sig .tc := ⟨.hbm, 1316, rfl⟩
abbrev main_v1197 : Ref sig .tc := ⟨.hbm, 1317, rfl⟩
abbrev main_v1198 : Ref sig .tc := ⟨.hbm, 1318, rfl⟩
abbrev main_v1199 : Ref sig .tc := ⟨.hbm, 1319, rfl⟩
abbrev main_v1200 : Ref sig .tc := ⟨.hbm, 1320, rfl⟩
abbrev main_v1201 : Ref sig .tc := ⟨.hbm, 1321, rfl⟩
abbrev main_v1202 : Ref sig .tc := ⟨.hbm, 1322, rfl⟩
abbrev main_v1203 : Ref sig .tc := ⟨.hbm, 1323, rfl⟩
abbrev main_v1204 : Ref sig .tc := ⟨.hbm, 1324, rfl⟩
abbrev main_v1205 : Ref sig .tc := ⟨.hbm, 1325, rfl⟩
abbrev main_v1206 : Ref sig .tc := ⟨.hbm, 1326, rfl⟩
abbrev main_v1207 : Ref sig .tc := ⟨.hbm, 1327, rfl⟩
abbrev main_v1208 : Ref sig .tc := ⟨.hbm, 1328, rfl⟩
abbrev main_v1209 : Ref sig .tc := ⟨.hbm, 1329, rfl⟩
abbrev main_v1210 : Ref sig .tc := ⟨.hbm, 1330, rfl⟩
abbrev main_v1211 : Ref sig .tc := ⟨.hbm, 1331, rfl⟩
abbrev main_v1212 : Ref sig .tc := ⟨.hbm, 1332, rfl⟩
abbrev main_v1213 : Ref sig .tc := ⟨.hbm, 1333, rfl⟩
abbrev main_v1214 : Ref sig .tc := ⟨.hbm, 1334, rfl⟩
abbrev main_v1215 : Ref sig .tc := ⟨.hbm, 1335, rfl⟩
abbrev main_v1216 : Ref sig .tc := ⟨.hbm, 1336, rfl⟩
abbrev main_v1217 : Ref sig .tc := ⟨.hbm, 1337, rfl⟩
abbrev main_v1218 : Ref sig .tc := ⟨.hbm, 1338, rfl⟩
abbrev main_v1219 : Ref sig .tc := ⟨.hbm, 1339, rfl⟩
abbrev main_v1220 : Ref sig .tc := ⟨.hbm, 1340, rfl⟩
abbrev main_v1221 : Ref sig .tc := ⟨.hbm, 1341, rfl⟩
abbrev main_v1222 : Ref sig .tc := ⟨.hbm, 1342, rfl⟩
abbrev main_v1223 : Ref sig .tc := ⟨.hbm, 1343, rfl⟩
abbrev main_v1224 : Ref sig .tc := ⟨.hbm, 1344, rfl⟩
abbrev main_v1225 : Ref sig .tc := ⟨.hbm, 1345, rfl⟩
abbrev main_v1226 : Ref sig .tc := ⟨.hbm, 1346, rfl⟩
abbrev main_v1227 : Ref sig .tc := ⟨.hbm, 1347, rfl⟩

abbrev nD : Nat := 1
abbrev τ : Topo := Topo.v7x

variable {F : FTy → Type} [FloatOps F]
-- ==== Proof.Program.lean ====
/-
  The kernel's body written with loops: what the printed program unrolls, said once for any level of the
  pyramid. A level is a geometry (`Geo`); a convolution is a loop over chunks of rows, a chunk a loop over
  the nine taps; the head's rows are copied out by a loop over the picture's rows.
-/
module

public import proofs.«01_k».proof.Proof.Gen.KernelIdeal.Skeleton

@[expose] public section

set_option maxRecDepth 16384

noncomputable section

namespace Fpn

open Idealize.ShloMosaic Idealize.SL.Sem Cert.KernelIdeal

variable {F : FTy → Type} [FloatOps F]

/-- The shape of a matrix. -/
abbrev Mat (r c : ℕ) : Shape := ⟨2, ![r, c]⟩

/-- The geometry of a level: a picture of `H` rows and `W` columns, laid out as rows of `Wp = W + 2`
    positions behind `P` rows of zeros in a buffer of `M` rows, convolved in `n` chunks of `ch` positions. -/
structure Geo where
  H : ℕ
  W : ℕ
  Wp : ℕ
  P : ℕ
  M : ℕ
  ch : ℕ
  n : ℕ

/-- What the proofs need of a geometry. -/
structure Geo.Ok (g : Geo) : Prop where
  wp : g.Wp = g.W + 2
  size : g.n * g.ch = g.H * g.Wp
  front : g.Wp + 1 ≤ g.P
  back : g.P + g.H * g.Wp + g.Wp + 1 ≤ g.M
  evenP : 2 ∣ g.P
  evenM : 2 ∣ g.M
  evenCh : 2 ∣ g.ch
  posCh : 0 < g.ch
  posW : 0 < g.W
  posN : 0 < g.H * g.Wp
  small : g.M < 2 ^ 30
  room : g.H * g.Wp ≤ 4224

/-- The programs of the body. -/
abbrev Body (F : FTy → Type) (α : Type) := Prog (TpuEff nD τ sig (Elt F) Λ₀ .tc) α

theorem rows_inb {M K off n : ℕ} (h : off + n ≤ M) :
    ∀ a, (![off, 0] : Fin 2 → ℕ) a + (Mat n K).size a ≤ (Mat M K).size a := fun a => by
  match a with
  | ⟨0, _⟩ => exact h
  | ⟨1, _⟩ => exact (Nat.zero_add K).le

/-- Rows `[off, off + n)` of a matrix. -/
abbrev rowsRect (M K off n : ℕ) (h : off + n ≤ M) : Rect (Mat M K) :=
  Rect.unit (s := Mat M K) ![off, 0] (Mat n K).size (rows_inb h)

theorem mat_pos {n K : ℕ} (hn : 0 < n) (hK : 0 < K) : 0 < (Mat n K).numel := by
  have : (Mat n K).numel = n * K := by simp [Shape.numel, Fin.prod_univ_two]
  rw [this]; exact Nat.mul_pos hn hK

theorem rows_packed {M K off n : ℕ} (h : off + n ≤ M) (ho : 2 ∣ off) (hn : 2 ∣ n) :
    (rowsRect M K off n h).PackedRows (EltTy.packing .bf16) :=
  .inr ⟨le_rfl, rfl, .inl ⟨ho, hn⟩⟩

/-- Load rows `[off, off + n)`. -/
def loadRows {M K : ℕ} {e : EltTy} (m : Memref sig .tc .vmem (Mat M K) e) (off n : ℕ) (h : off + n ≤ M) (hn : 0 < n) (hK : 0 < K) :
    Body F (Vec F (Mat n K) e) :=
  Prog.lift (.load m (rowsRect M K off n h).toLoadRect (View.loadsAt_vmem (mat_pos hn hK)))

/-- Store rows `[off, off + n)` of 16-bit elements (an even start and an even number of rows). -/
def storeRows {M K : ℕ} (m : Memref sig .tc .vmem (Mat M K) .bf16) (hm : m.IsWhole) (off n : ℕ) (h : off + n ≤ M) (ho : 2 ∣ off) (h2 : 2 ∣ n)
    (hn : 0 < n) (hK : 0 < K) (w : FVec F (Mat n K) .bf16) : Body F PUnit :=
  Prog.lift (.store m (rowsRect M K off n h) w Finset.univ
    (View.stores_vmem (mat_pos hn hK) (hm.storeExact_slice rfl _ (rows_packed h ho h2)) (fun _ => rfl)) (.inl rfl))

/-- Store rows `[off, off + n)` of 32-bit elements. -/
def storeRows32 {M K : ℕ} (m : Memref sig .tc .vmem (Mat M K) .f32) (off n : ℕ) (h : off + n ≤ M) (hn : 0 < n) (hK : 0 < K)
    (w : FVec F (Mat n K) .f32) : Body F PUnit :=
  Prog.lift (.store m (rowsRect M K off n h) w Finset.univ (View.stores_vmem_bits_univ (mat_pos hn hK) rfl) (.inl rfl))

/-- How a chunk loads the weights of tap `t`. -/
abbrev Weights (F : FTy → Type) (C : ℕ) := (t : ℕ) → t < 9 → Body F (FVec F (Mat 256 C) .bf16)

/-- The row a tap reads first, from the row of the first tap. -/
def tapRow (Wp t : ℕ) : ℕ := t / 3 * Wp + t % 3

theorem tapRow_le {Wp t : ℕ} (ht : t < 9) : tapRow Wp t ≤ 2 * Wp + 2 := by
  have h1 : t / 3 ≤ 2 := by omega
  have h2 : t % 3 ≤ 2 := by omega
  exact Nat.add_le_add (Nat.mul_le_mul_right _ h1) h2

/-- One tap more onto the sum. -/
def tapStep {ch C : ℕ} (acc : FVec F (Mat ch C) .f32) (x : FVec F (Mat ch 256) .bf16) (w : FVec F (Mat 256 C) .bf16) : FVec F (Mat ch C) .f32 :=
  addf acc (matmul (DotDims.plain ch 256 C) none x w (constant (Mat ch C) .f32 0x00000000#32))

/-- The last `k` of the nine taps: load a shifted chunk of the source and the tap's weights, add their product. -/
def taps {M C : ℕ} (src : Memref sig .tc .vmem (Mat M 256) .bf16) (ldw : Weights F C) (base ch Wp : ℕ)
    (h : base + (2 * Wp + 2) + ch ≤ M) (hch : 0 < ch) :
    (k : ℕ) → (hk : k ≤ 9) → FVec F (Mat ch C) .f32 → Body F (FVec F (Mat ch C) .f32)
  | 0, _, acc => pure acc
  | k + 1, hk, acc => do
    let x ← loadRows src (base + tapRow Wp (8 - k)) ch
      (le_trans (Nat.add_le_add_right (Nat.add_le_add_left (tapRow_le (by omega)) _) _) h) hch (by omega)
    let w ← ldw (8 - k) (by omega)
    taps src ldw base ch Wp h hch k (by omega) (tapStep acc x w)

/-- The sum the taps start from. -/
def zeroAcc (ch C : ℕ) : FVec F (Mat ch C) .f32 := broadcast (Mat ch C) (Scalar.ofBits .f32 0x00000000#32)

theorem iotas_mat (ch : ℕ) : (Mat ch 256).Iotas .tc 32 [0] := ⟨by simp, fun _ => ⟨.inr rfl, le_rfl⟩, fun h => absurd rfl h⟩

/-- The columns' mask of the chunk that starts at position `r0`: position modulo `Wp` is neither the first nor the last. -/
def maskVec (ch Wp r0 : ℕ) : IVec (Mat ch 256) 1 :=
  let pos : IVec (Mat ch 256) 32 := addi (broadcast (Mat ch 256) (BitVec.ofNat 32 r0)) (iota .tc (Mat ch 256) 32 [0] (iotas_mat ch))
  let d : BitVec 32 := Scalar.select (Scalar.cmpi .eq (BitVec.ofNat 32 Wp) 0#32) 1#32 (BitVec.ofNat 32 Wp)
  let r : IVec (Mat ch 256) 32 := remsi pos (broadcast (Mat ch 256) d)
  let nz : IVec (Mat ch 256) 1 := cmpi .ne r (broadcast (Mat ch 256) 0#32)
  let ng : IVec (Mat ch 256) 1 := cmpi .slt r (broadcast (Mat ch 256) 0#32)
  let nd : IVec (Mat ch 256) 1 := broadcastTo (Mat ch 256) (broadcast (Mat ch 256) (Scalar.cmpi .slt d 0#32)) ⟨le_rfl, fun _ => .inr fun _ => rfl⟩
  let col : IVec (Mat ch 256) 32 := select (andi (xori ng nd) nz) (addi r (broadcast (Mat ch 256) d)) r
  andi (cmpi .sgt col (broadcast (Mat ch 256) 0#32)) (cmpi .slt col (broadcast (Mat ch 256) (BitVec.ofNat 32 (Wp - 1))))

theorem bcast_row (ch C : ℕ) : (Mat 1 C).Broadcasts (Mat ch C) :=
  ⟨le_rfl, fun a => match a with
    | ⟨0, _⟩ => .inl rfl
    | ⟨1, _⟩ => .inr fun _ => rfl⟩

/-- What a trunk chunk stores: bias, rectifier, mask, narrowing. -/
def trunkPay (ch Wp r0 : ℕ) (bias : FVec F (Mat 1 256) .f32) (acc : FVec F (Mat ch 256) .f32) : FVec F (Mat ch 256) .bf16 :=
  shapeCast (Mat ch 256) (truncf .bf16
    (select (maskVec ch Wp r0)
      (maximumf (addf acc (broadcastTo (Mat ch 256) bias (bcast_row ch 256))) (broadcast (Mat ch 256) (Scalar.ofBits .f32 0x00000000#32)))
      (broadcast (Mat ch 256) (Scalar.ofBits .f32 0x00000000#32))) (by decide)) rfl

/-- What a head chunk stores: the sum and the bias. -/
def headPay (ch : ℕ) (bias : FVec F (Mat 1 16) .f32) (acc : FVec F (Mat ch 16) .f32) : FVec F (Mat ch 16) .f32 :=
  shapeCast (Mat ch 16) (addf acc (broadcastTo (Mat ch 16) bias (bcast_row ch 16))) rfl

theorem trunk_inb {l t : ℕ} (hl : l < 4) (ht : t < 9) :
    ∀ a, (![l, t * 256, 0] : Fin 3 → ℕ) a + Shape.size ⟨3, ![1, 256, 256]⟩ a ≤ Shape.size ⟨3, ![4, 2304, 256]⟩ a := fun a => by
  match a with
  | ⟨0, _⟩ => exact Nat.succ_le_of_lt hl
  | ⟨1, _⟩ => show t * 256 + 256 ≤ 2304; omega
  | ⟨2, _⟩ => exact (Nat.zero_add 256).le

/-- The trunk's weights: layer `l`, tap `t`. -/
abbrev trunkRect (l t : ℕ) (hl : l < 4) (ht : t < 9) : Rect ⟨3, ![4, 2304, 256]⟩ :=
  Rect.unit (s := ⟨3, ![4, 2304, 256]⟩) ![l, t * 256, 0] (Shape.size ⟨3, ![1, 256, 256]⟩) (trunk_inb hl ht)

def loadTrunk (wm : Memref sig .tc .vmem ⟨3, ![4, 2304, 256]⟩ .bf16) (l : ℕ) (hl : l < 4) : Weights F 256 := fun t ht => do
  let w : Vec F ⟨3, ![1, 256, 256]⟩ .bf16 ← Prog.lift (.load wm (trunkRect l t hl ht).toLoadRect
    (View.loadsAt_vmem (show 0 < (Shape.mk 3 ![1, 256, 256]).numel by decide +kernel)))
  pure (shapeCast (Mat 256 256) w (by decide +kernel))

/-- The head's weights at tap `t`. -/
def loadHead (wh : Memref sig .tc .vmem (Mat 2304 16) .bf16) : Weights F 16 := fun t ht =>
  loadRows wh (t * 256) 256 (by omega) (by omega) (by omega)

theorem bias_inb {l : ℕ} (hl : l < 4) :
    ∀ a, (![l, 0, 0] : Fin 3 → ℕ) a + Shape.size ⟨3, ![1, 1, 256]⟩ a ≤ Shape.size ⟨3, ![4, 1, 256]⟩ a := fun a => by
  match a with
  | ⟨0, _⟩ => exact Nat.succ_le_of_lt hl
  | ⟨1, _⟩ => exact le_rfl
  | ⟨2, _⟩ => exact (Nat.zero_add 256).le

/-- The trunk's biases of layer `l`. -/
abbrev biasRect (l : ℕ) (hl : l < 4) : Rect ⟨3, ![4, 1, 256]⟩ :=
  Rect.unit (s := ⟨3, ![4, 1, 256]⟩) ![l, 0, 0] (Shape.size ⟨3, ![1, 1, 256]⟩) (bias_inb hl)

def loadBias (bm : Memref sig .tc .vmem ⟨3, ![4, 1, 256]⟩ .f32) (l : ℕ) (hl : l < 4) : Body F (FVec F (Mat 1 256) .f32) := do
  let b : Vec F ⟨3, ![1, 1, 256]⟩ .f32 ← Prog.lift (.load bm (biasRect l hl).toLoadRect
    (View.loadsAt_vmem (show 0 < (Shape.mk 3 ![1, 1, 256]).numel by decide +kernel)))
  pure (shapeCast (Mat 1 256) b (by decide +kernel))

section Level

variable {g : Geo} (hg : g.Ok)

include hg in
theorem Geo.Ok.chunk_le {i : ℕ} (hi : i < g.n) : i * g.ch + g.ch ≤ g.H * g.Wp := by
  rw [← hg.size, ← Nat.succ_mul]; exact Nat.mul_le_mul_right _ hi

include hg in
theorem Geo.Ok.read_le {i : ℕ} (hi : i < g.n) : g.P - (g.Wp + 1) + i * g.ch + (2 * g.Wp + 2) + g.ch ≤ g.M := by
  have := hg.chunk_le hi; have := hg.front; have := hg.back; omega

include hg in
theorem Geo.Ok.write_le {i : ℕ} (hi : i < g.n) : g.P + i * g.ch + g.ch ≤ g.M := by
  have := hg.chunk_le hi; have := hg.back; omega

/-- One chunk of a trunk convolution. -/
def trunkChunk (src dst : Memref sig .tc .vmem (Mat g.M 256) .bf16) (hd : dst.IsWhole) (ldw : Weights F 256) (bias : FVec F (Mat 1 256) .f32)
    (i : ℕ) (hi : i < g.n) : Body F PUnit := do
  let acc ← taps src ldw (g.P - (g.Wp + 1) + i * g.ch) g.ch g.Wp (hg.read_le hi) hg.posCh 9 le_rfl (zeroAcc g.ch 256)
  let _ ← loadRows (F := F) dst (g.P + i * g.ch) g.ch (hg.write_le hi) hg.posCh (by omega)
  storeRows dst hd (g.P + i * g.ch) g.ch (hg.write_le hi) (Nat.dvd_add hg.evenP (Dvd.dvd.mul_left hg.evenCh i)) hg.evenCh hg.posCh (by omega)
    (trunkPay g.ch g.Wp (i * g.ch) bias acc)

/-- The last `k` chunks of a trunk convolution. -/
def trunkFrom (src dst : Memref sig .tc .vmem (Mat g.M 256) .bf16) (hd : dst.IsWhole) (ldw : Weights F 256) (bias : FVec F (Mat 1 256) .f32) :
    (k : ℕ) → k ≤ g.n → Body F PUnit
  | 0, _ => pure ⟨⟩
  | k + 1, hk => do
    trunkChunk hg src dst hd ldw bias (g.n - 1 - k) (by omega)
    trunkFrom src dst hd ldw bias k (by omega)

/-- A trunk convolution: layer `l`'s biases, then every chunk. -/
def trunkConv (wm : Memref sig .tc .vmem ⟨3, ![4, 2304, 256]⟩ .bf16) (bm : Memref sig .tc .vmem ⟨3, ![4, 1, 256]⟩ .f32) (l : ℕ) (hl : l < 4)
    (src dst : Memref sig .tc .vmem (Mat g.M 256) .bf16) (hd : dst.IsWhole) : Body F PUnit := do
  let bias ← loadBias bm l hl
  trunkFrom hg src dst hd (loadTrunk wm l hl) bias g.n le_rfl

/-- One chunk of the head's convolution. -/
def headChunk (src : Memref sig .tc .vmem (Mat g.M 256) .bf16) (o : Memref sig .tc .vmem (Mat 4224 16) .f32)
    (wh : Memref sig .tc .vmem (Mat 2304 16) .bf16) (bias : FVec F (Mat 1 16) .f32) (i : ℕ) (hi : i < g.n) : Body F PUnit := do
  let acc ← taps src (loadHead wh) (g.P - (g.Wp + 1) + i * g.ch) g.ch g.Wp (hg.read_le hi) hg.posCh 9 le_rfl (zeroAcc g.ch 16)
  let _ ← loadRows (F := F) o (i * g.ch) g.ch ((hg.chunk_le hi).trans hg.room) hg.posCh (by omega)
  storeRows32 o (i * g.ch) g.ch ((hg.chunk_le hi).trans hg.room) hg.posCh (by omega) (headPay g.ch bias acc)

/-- The last `k` chunks of the head's convolution. -/
def headFrom (src : Memref sig .tc .vmem (Mat g.M 256) .bf16) (o : Memref sig .tc .vmem (Mat 4224 16) .f32)
    (wh : Memref sig .tc .vmem (Mat 2304 16) .bf16) (bias : FVec F (Mat 1 16) .f32) : (k : ℕ) → k ≤ g.n → Body F PUnit
  | 0, _ => pure ⟨⟩
  | k + 1, hk => do
    headChunk hg src o wh bias (g.n - 1 - k) (by omega)
    headFrom src o wh bias k (by omega)

/-- Zeros stored over the rows `[off, off + n)`. -/
def zeroRows {M : ℕ} (m : Memref sig .tc .vmem (Mat M 256) .bf16) (hm : m.IsWhole) (off n : ℕ) (h : off + n ≤ M) (ho : 2 ∣ off) (h2 : 2 ∣ n)
    (hn : 0 < n) : Body F PUnit := do
  let _ ← loadRows (F := F) m off n h hn (by omega)
  storeRows m hm off n h ho h2 hn (by omega) (shapeCast (Mat n 256) (broadcast (Mat n 256) (Scalar.ofBits .bf16 0x0000#16)) rfl)

include hg in
theorem Geo.Ok.evenN : 2 ∣ g.H * g.Wp := by rw [← hg.size]; exact Dvd.dvd.mul_left hg.evenCh _

/-- Zeros stored over the rows before and after the picture. -/
def zeroEnds (m : Memref sig .tc .vmem (Mat g.M 256) .bf16) (hm : m.IsWhole) : Body F PUnit := do
  zeroRows m hm 0 g.P (by have := hg.back; omega) (dvd_zero 2) hg.evenP (by have := hg.front; omega)
  zeroRows m hm (g.P + g.H * g.Wp) (g.M - g.P - g.H * g.Wp) (by have := hg.back; omega) (Nat.dvd_add hg.evenP hg.evenN)
    (Nat.dvd_sub (Nat.dvd_sub hg.evenM hg.evenP) hg.evenN) (by have := hg.back; omega)

/-- The sixteen channels of one row of the picture. -/
def pictureRow (h : ℕ) (hh : h < g.H) (yt : FVec F (Mat 16 (g.H * g.Wp)) .f32) : FVec F (Mat 16 g.W) .f32 :=
  extractStridedSlice (Mat 16 g.W) ![0, h * g.Wp + 1] yt ⟨rfl, fun a => by
    have h1 : h * g.Wp + g.Wp ≤ g.H * g.Wp := by rw [← Nat.succ_mul]; exact Nat.mul_le_mul_right _ hh
    have h2 := hg.wp
    match a with
    | ⟨0, _⟩ => exact (Nat.zero_add 16).le
    | ⟨1, _⟩ => show h * g.Wp + 1 + g.W ≤ g.H * g.Wp; omega⟩

/-- The shape of the class scores, of the box offsets, and of a row of either. -/
abbrev Cls (H W : ℕ) : Shape := ⟨5, ![1, 3, 1, H, W]⟩
abbrev Box (H W : ℕ) : Shape := ⟨5, ![1, 3, 4, H, W]⟩

theorem cls_inb {H W h : ℕ} (hh : h < H) : ∀ a, (![0, 0, 0, h, 0] : Fin 5 → ℕ) a + (Cls 1 W).size a ≤ (Cls H W).size a := fun a => by
  match a with
  | ⟨0, _⟩ => exact le_rfl
  | ⟨1, _⟩ => exact (Nat.zero_add 3).le
  | ⟨2, _⟩ => exact le_rfl
  | ⟨3, _⟩ => exact Nat.succ_le_of_lt hh
  | ⟨4, _⟩ => exact (Nat.zero_add W).le

theorem box_inb {H W h : ℕ} (hh : h < H) : ∀ a, (![0, 0, 0, h, 0] : Fin 5 → ℕ) a + (Box 1 W).size a ≤ (Box H W).size a := fun a => by
  match a with
  | ⟨0, _⟩ => exact le_rfl
  | ⟨1, _⟩ => exact (Nat.zero_add 3).le
  | ⟨2, _⟩ => exact (Nat.zero_add 4).le
  | ⟨3, _⟩ => exact Nat.succ_le_of_lt hh
  | ⟨4, _⟩ => exact (Nat.zero_add W).le

abbrev clsRect {H : ℕ} (W h : ℕ) (hh : h < H) : Rect (Cls H W) := Rect.unit (s := Cls H W) ![0, 0, 0, h, 0] (Cls 1 W).size (cls_inb hh)
abbrev boxRect {H : ℕ} (W h : ℕ) (hh : h < H) : Rect (Box H W) := Rect.unit (s := Box H W) ![0, 0, 0, h, 0] (Box 1 W).size (box_inb hh)

theorem cls_pos {W : ℕ} (hW : 0 < W) : 0 < (Cls 1 W).numel := by
  have : (Cls 1 W).numel = 3 * W := by simp [Shape.numel, Fin.prod_univ_succ]
  omega

theorem box_pos {W : ℕ} (hW : 0 < W) : 0 < (Box 1 W).numel := by
  have : (Box 1 W).numel = 3 * (4 * W) := by simp [Shape.numel, Fin.prod_univ_succ]
  omega

/-- The class scores of a row, and the box offsets of a row, from its sixteen channels. -/
def clsRow {W : ℕ} (y : FVec F (Mat 16 W) .f32) : FVec F (Cls 1 W) .f32 :=
  shapeCast (Cls 1 W) (extractStridedSlice (Mat 3 W) ![0, 0] y ⟨rfl, fun a => by
    match a with
    | ⟨0, _⟩ => show 0 + 3 ≤ 16; omega
    | ⟨1, _⟩ => exact (Nat.zero_add W).le⟩) (by simp [Shape.ShapeCasts, Shape.numel, Fin.prod_univ_succ])

def boxRow {W : ℕ} (y : FVec F (Mat 16 W) .f32) : FVec F (Box 1 W) .f32 :=
  shapeCast (Box 1 W) (shapeCast ⟨3, ![3, 4, W]⟩ (extractStridedSlice (Mat 12 W) ![3, 0] y ⟨rfl, fun a => by
    match a with
    | ⟨0, _⟩ => show 3 + 12 ≤ 16; omega
    | ⟨1, _⟩ => exact (Nat.zero_add W).le⟩) (by simp [Shape.ShapeCasts, Shape.numel, Fin.prod_univ_succ]; omega))
    (by simp [Shape.ShapeCasts, Shape.numel, Fin.prod_univ_succ])

/-- The last `k` rows of the picture copied out to the level's two results. -/
def rowsFrom (oc : Memref sig .tc .vmem (Cls g.H g.W) .f32) (ob : Memref sig .tc .vmem (Box g.H g.W) .f32) (yt : FVec F (Mat 16 (g.H * g.Wp)) .f32) :
    (k : ℕ) → k ≤ g.H → Body F PUnit
  | 0, _ => pure ⟨⟩
  | k + 1, hk => do
    let _ : Vec F (Cls 1 g.W) .f32 ← Prog.lift (.load oc (clsRect (H := g.H) g.W (g.H - 1 - k) (by omega)).toLoadRect (View.loadsAt_vmem (cls_pos hg.posW)))
    Prog.lift (.store oc (clsRect (H := g.H) g.W (g.H - 1 - k) (by omega)) (clsRow (pictureRow hg (g.H - 1 - k) (by omega) yt)) Finset.univ
      (View.stores_vmem_bits_univ (cls_pos hg.posW) rfl) (.inl rfl))
    let _ : Vec F (Box 1 g.W) .f32 ← Prog.lift (.load ob (boxRect (H := g.H) g.W (g.H - 1 - k) (by omega)).toLoadRect (View.loadsAt_vmem (box_pos hg.posW)))
    Prog.lift (.store ob (boxRect (H := g.H) g.W (g.H - 1 - k) (by omega)) (boxRow (pictureRow hg (g.H - 1 - k) (by omega) yt)) Finset.univ
      (View.stores_vmem_bits_univ (box_pos hg.posW) rfl) (.inl rfl))
    rowsFrom oc ob yt k (by omega)

theorem mat_transposes (r c : ℕ) : (Mat r c).Transposes [1, 0] (Mat c r) :=
  ⟨by show List.Perm [(1 : Fin 2), 0] (List.finRange 2); decide, rfl, fun b => match b with
    | ⟨0, _⟩ => rfl
    | ⟨1, _⟩ => rfl⟩

/-- A level: the four trunk convolutions from the padded picture through the two buffers, the head's convolution, the rows. -/
def level (wm : Memref sig .tc .vmem ⟨3, ![4, 2304, 256]⟩ .bf16) (wh : Memref sig .tc .vmem (Mat 2304 16) .bf16)
    (bm : Memref sig .tc .vmem ⟨3, ![4, 1, 256]⟩ .f32) (bh : Memref sig .tc .vmem (Mat 1 16) .f32) (o : Memref sig .tc .vmem (Mat 4224 16) .f32)
    (x a b : Memref sig .tc .vmem (Mat g.M 256) .bf16) (ha : a.IsWhole) (hb : b.IsWhole)
    (oc : Memref sig .tc .vmem (Cls g.H g.W) .f32) (ob : Memref sig .tc .vmem (Box g.H g.W) .f32) : Body F PUnit := do
  zeroEnds hg a ha
  zeroEnds hg b hb
  trunkConv hg wm bm 0 (by omega) x a ha
  trunkConv hg wm bm 1 (by omega) a b hb
  trunkConv hg wm bm 2 (by omega) b a ha
  trunkConv hg wm bm 3 (by omega) a b hb
  let bias ← loadRows bh 0 1 le_rfl (by omega) (by omega)
  headFrom hg b o wh bias g.n le_rfl
  let y ← loadRows o 0 (g.H * g.Wp) (by rw [Nat.zero_add]; exact hg.room) hg.posN (by omega)
  rowsFrom hg oc ob (transpose (Mat 16 (g.H * g.Wp)) [1, 0] y (mat_transposes _ _)) g.H le_rfl

end Level

/-! ### The copies in, and the whole body -/

abbrev Sems := DmaSems sig S8

/-- The `k`-th of the eight semaphores. -/
def sem8 (s : Sems) (k : ℕ) (hk : k < 8) : DmaSems sig S_ :=
  (s.slice (Rect.unit (s := S8) ![k] S1.size (fun a => by
    match a with
    | ⟨0, _⟩ => exact Nat.succ_le_of_lt hk))).squeeze S_ (show S1.Squeezes S_ by decide)

/-- Start a copy from the array `x` to the scratch `y` on the `k`-th semaphore. -/
def start {s : Shape} {e : EltTy} (sem : Sems) (k : ℕ) (hk : k < 8) (x : Memref sig .tc .hbm s e) (hx : x.IsWhole) (y : Memref sig .tc .vmem s e)
    (hy : y.IsWhole) : Body F PUnit :=
  Prog.lift (.enqueueDma x (.here y) (.dma (sem8 sem k hk).sem) hx.wordExact hy.wordExact ⟨Or.inl rfl, trivial⟩)

/-- Wait for it. -/
def await {s : Shape} {e : EltTy} (sem : Sems) (k : ℕ) (hk : k < 8) (x : Memref sig .tc .hbm s e) (hx : x.IsWhole) (y : Memref sig .tc .vmem s e)
    (hy : y.IsWhole) : Body F PUnit :=
  Prog.lift (.waitDma2 (sem8 sem k hk).sem x y hx.wordExact hy.wordExact)

/-- The four levels: pictures of 64, 32, 16 and 8 rows and columns. -/
def g0 : Geo := ⟨64, 64, 66, 72, 4368, 528, 8⟩
def g1 : Geo := ⟨32, 32, 34, 40, 1168, 544, 2⟩
def g2 : Geo := ⟨16, 16, 18, 24, 336, 288, 1⟩
def g3 : Geo := ⟨8, 8, 10, 16, 112, 80, 1⟩

theorem g0_ok : g0.Ok := by constructor <;> decide
theorem g1_ok : g1.Ok := by constructor <;> decide
theorem g2_ok : g2.Ok := by constructor <;> decide
theorem g3_ok : g3.Ok := by constructor <;> decide

/-- The eight copies started, then the eight awaited. -/
def copies (arg0 : Memref sig .tc .hbm S4368x256 .bf16) (harg0 : arg0.IsWhole)
    (arg1 : Memref sig .tc .hbm S1168x256 .bf16) (harg1 : arg1.IsWhole)
    (arg2 : Memref sig .tc .hbm S336x256 .bf16) (harg2 : arg2.IsWhole)
    (arg3 : Memref sig .tc .hbm S112x256 .bf16) (harg3 : arg3.IsWhole)
    (arg4 : Memref sig .tc .hbm S4x2304x256 .bf16) (harg4 : arg4.IsWhole)
    (arg5 : Memref sig .tc .hbm S2304x16 .bf16) (harg5 : arg5.IsWhole)
    (arg6 : Memref sig .tc .hbm S4x1x256 .f32) (harg6 : arg6.IsWhole)
    (arg7 : Memref sig .tc .hbm S1x16 .f32) (harg7 : arg7.IsWhole)
    (arg16 : Memref sig .tc .vmem S4368x256 .bf16) (harg16 : arg16.IsWhole)
    (arg17 : Memref sig .tc .vmem S1168x256 .bf16) (harg17 : arg17.IsWhole)
    (arg18 : Memref sig .tc .vmem S336x256 .bf16) (harg18 : arg18.IsWhole)
    (arg19 : Memref sig .tc .vmem S112x256 .bf16) (harg19 : arg19.IsWhole)
    (arg20 : Memref sig .tc .vmem S4x2304x256 .bf16) (harg20 : arg20.IsWhole)
    (arg21 : Memref sig .tc .vmem S2304x16 .bf16) (harg21 : arg21.IsWhole)
    (arg22 : Memref sig .tc .vmem S4x1x256 .f32) (harg22 : arg22.IsWhole)
    (arg23 : Memref sig .tc .vmem S1x16 .f32) (harg23 : arg23.IsWhole)
    (arg25 : Sems) : Body F PUnit := do
  start arg25 0 (by omega) arg0 harg0 arg16 harg16
  start arg25 1 (by omega) arg1 harg1 arg17 harg17
  start arg25 2 (by omega) arg2 harg2 arg18 harg18
  start arg25 3 (by omega) arg3 harg3 arg19 harg19
  start arg25 4 (by omega) arg4 harg4 arg20 harg20
  start arg25 5 (by omega) arg5 harg5 arg21 harg21
  start arg25 6 (by omega) arg6 harg6 arg22 harg22
  start arg25 7 (by omega) arg7 harg7 arg23 harg23
  await arg25 0 (by omega) arg0 harg0 arg16 harg16
  await arg25 1 (by omega) arg1 harg1 arg17 harg17
  await arg25 2 (by omega) arg2 harg2 arg18 harg18
  await arg25 3 (by omega) arg3 harg3 arg19 harg19
  await arg25 4 (by omega) arg4 harg4 arg20 harg20
  await arg25 5 (by omega) arg5 harg5 arg21 harg21
  await arg25 6 (by omega) arg6 harg6 arg22 harg22
  await arg25 7 (by omega) arg7 harg7 arg23 harg23

/-- The whole body: the copies, then the levels. -/
def body (arg0 : Memref sig .tc .hbm S4368x256 .bf16) (harg0 : arg0.IsWhole)
    (arg1 : Memref sig .tc .hbm S1168x256 .bf16) (harg1 : arg1.IsWhole)
    (arg2 : Memref sig .tc .hbm S336x256 .bf16) (harg2 : arg2.IsWhole)
    (arg3 : Memref sig .tc .hbm S112x256 .bf16) (harg3 : arg3.IsWhole)
    (arg4 : Memref sig .tc .hbm S4x2304x256 .bf16) (harg4 : arg4.IsWhole)
    (arg5 : Memref sig .tc .hbm S2304x16 .bf16) (harg5 : arg5.IsWhole)
    (arg6 : Memref sig .tc .hbm S4x1x256 .f32) (harg6 : arg6.IsWhole)
    (arg7 : Memref sig .tc .hbm S1x16 .f32) (harg7 : arg7.IsWhole)
    (arg8 : Memref sig .tc .vmem S1x3x1x64x64 .f32) (harg8 : arg8.IsWhole)
    (arg9 : Memref sig .tc .vmem S1x3x4x64x64 .f32) (harg9 : arg9.IsWhole)
    (arg10 : Memref sig .tc .vmem S1x3x1x32x32 .f32) (harg10 : arg10.IsWhole)
    (arg11 : Memref sig .tc .vmem S1x3x4x32x32 .f32) (harg11 : arg11.IsWhole)
    (arg12 : Memref sig .tc .vmem S1x3x1x16x16 .f32) (harg12 : arg12.IsWhole)
    (arg13 : Memref sig .tc .vmem S1x3x4x16x16 .f32) (harg13 : arg13.IsWhole)
    (arg14 : Memref sig .tc .vmem S1x3x1x8x8 .f32) (harg14 : arg14.IsWhole)
    (arg15 : Memref sig .tc .vmem S1x3x4x8x8 .f32) (harg15 : arg15.IsWhole)
    (arg16 : Memref sig .tc .vmem S4368x256 .bf16) (harg16 : arg16.IsWhole)
    (arg17 : Memref sig .tc .vmem S1168x256 .bf16) (harg17 : arg17.IsWhole)
    (arg18 : Memref sig .tc .vmem S336x256 .bf16) (harg18 : arg18.IsWhole)
    (arg19 : Memref sig .tc .vmem S112x256 .bf16) (harg19 : arg19.IsWhole)
    (arg20 : Memref sig .tc .vmem S4x2304x256 .bf16) (harg20 : arg20.IsWhole)
    (arg21 : Memref sig .tc .vmem S2304x16 .bf16) (harg21 : arg21.IsWhole)
    (arg22 : Memref sig .tc .vmem S4x1x256 .f32) (harg22 : arg22.IsWhole)
    (arg23 : Memref sig .tc .vmem S1x16 .f32) (harg23 : arg23.IsWhole)
    (arg24 : Memref sig .tc .vmem S4224x16 .f32) (harg24 : arg24.IsWhole)
    (arg25 : Sems)
    (arg26 : Memref sig .tc .vmem S4368x256 .bf16) (harg26 : arg26.IsWhole)
    (arg27 : Memref sig .tc .vmem S4368x256 .bf16) (harg27 : arg27.IsWhole)
    (arg28 : Memref sig .tc .vmem S1168x256 .bf16) (harg28 : arg28.IsWhole)
    (arg29 : Memref sig .tc .vmem S1168x256 .bf16) (harg29 : arg29.IsWhole)
    (arg30 : Memref sig .tc .vmem S336x256 .bf16) (harg30 : arg30.IsWhole)
    (arg31 : Memref sig .tc .vmem S336x256 .bf16) (harg31 : arg31.IsWhole)
    (arg32 : Memref sig .tc .vmem S112x256 .bf16) (harg32 : arg32.IsWhole)
    (arg33 : Memref sig .tc .vmem S112x256 .bf16) (harg33 : arg33.IsWhole) : Body F PUnit := do
  copies arg0 harg0 arg1 harg1 arg2 harg2 arg3 harg3 arg4 harg4 arg5 harg5 arg6 harg6 arg7 harg7 arg16 harg16 arg17 harg17 arg18 harg18 arg19 harg19 arg20 harg20 arg21 harg21 arg22 harg22 arg23 harg23 arg25
  level g0_ok arg20 arg21 arg22 arg23 arg24 arg16 arg26 arg27 harg26 harg27 arg8 arg9
  level g1_ok arg20 arg21 arg22 arg23 arg24 arg17 arg28 arg29 harg28 harg29 arg10 arg11
  level g2_ok arg20 arg21 arg22 arg23 arg24 arg18 arg30 arg31 harg30 harg31 arg12 arg13
  level g3_ok arg20 arg21 arg22 arg23 arg24 arg19 arg32 arg33 harg32 harg33 arg14 arg15

end Fpn

end
-- ==== Proof.Unroll.lean ====
/-
  The printed body is the body written with loops: unrolled, the two are the same sequence of loads and stores.
-/
module

public import proofs.«01_k».proof.Proof.Program
public import Idealize.ShloMosaic.Lib.Tactic

@[expose] public section

set_option maxRecDepth 16384

noncomputable section

namespace Fpn

open Idealize.ShloMosaic Idealize.SL.Sem Cert.KernelIdeal Cert.KernelIdeal.Gen

variable {F : FTy → Type} [FloatOps F]

theorem body_eq (arg0 : Memref sig .tc .hbm S4368x256 .bf16) (harg0 : arg0.IsWhole)
    (arg1 : Memref sig .tc .hbm S1168x256 .bf16) (harg1 : arg1.IsWhole)
    (arg2 : Memref sig .tc .hbm S336x256 .bf16) (harg2 : arg2.IsWhole)
    (arg3 : Memref sig .tc .hbm S112x256 .bf16) (harg3 : arg3.IsWhole)
    (arg4 : Memref sig .tc .hbm S4x2304x256 .bf16) (harg4 : arg4.IsWhole)
    (arg5 : Memref sig .tc .hbm S2304x16 .bf16) (harg5 : arg5.IsWhole)
    (arg6 : Memref sig .tc .hbm S4x1x256 .f32) (harg6 : arg6.IsWhole)
    (arg7 : Memref sig .tc .hbm S1x16 .f32) (harg7 : arg7.IsWhole)
    (arg8 : Memref sig .tc .vmem S1x3x1x64x64 .f32) (harg8 : arg8.IsWhole)
    (arg9 : Memref sig .tc .vmem S1x3x4x64x64 .f32) (harg9 : arg9.IsWhole)
    (arg10 : Memref sig .tc .vmem S1x3x1x32x32 .f32) (harg10 : arg10.IsWhole)
    (arg11 : Memref sig .tc .vmem S1x3x4x32x32 .f32) (harg11 : arg11.IsWhole)
    (arg12 : Memref sig .tc .vmem S1x3x1x16x16 .f32) (harg12 : arg12.IsWhole)
    (arg13 : Memref sig .tc .vmem S1x3x4x16x16 .f32) (harg13 : arg13.IsWhole)
    (arg14 : Memref sig .tc .vmem S1x3x1x8x8 .f32) (harg14 : arg14.IsWhole)
    (arg15 : Memref sig .tc .vmem S1x3x4x8x8 .f32) (harg15 : arg15.IsWhole)
    (arg16 : Memref sig .tc .vmem S4368x256 .bf16) (harg16 : arg16.IsWhole)
    (arg17 : Memref sig .tc .vmem S1168x256 .bf16) (harg17 : arg17.IsWhole)
    (arg18 : Memref sig .tc .vmem S336x256 .bf16) (harg18 : arg18.IsWhole)
    (arg19 : Memref sig .tc .vmem S112x256 .bf16) (harg19 : arg19.IsWhole)
    (arg20 : Memref sig .tc .vmem S4x2304x256 .bf16) (harg20 : arg20.IsWhole)
    (arg21 : Memref sig .tc .vmem S2304x16 .bf16) (harg21 : arg21.IsWhole)
    (arg22 : Memref sig .tc .vmem S4x1x256 .f32) (harg22 : arg22.IsWhole)
    (arg23 : Memref sig .tc .vmem S1x16 .f32) (harg23 : arg23.IsWhole)
    (arg24 : Memref sig .tc .vmem S4224x16 .f32) (harg24 : arg24.IsWhole)
    (arg25 : Sems)
    (arg26 : Memref sig .tc .vmem S4368x256 .bf16) (harg26 : arg26.IsWhole)
    (arg27 : Memref sig .tc .vmem S4368x256 .bf16) (harg27 : arg27.IsWhole)
    (arg28 : Memref sig .tc .vmem S1168x256 .bf16) (harg28 : arg28.IsWhole)
    (arg29 : Memref sig .tc .vmem S1168x256 .bf16) (harg29 : arg29.IsWhole)
    (arg30 : Memref sig .tc .vmem S336x256 .bf16) (harg30 : arg30.IsWhole)
    (arg31 : Memref sig .tc .vmem S336x256 .bf16) (harg31 : arg31.IsWhole)
    (arg32 : Memref sig .tc .vmem S112x256 .bf16) (harg32 : arg32.IsWhole)
    (arg33 : Memref sig .tc .vmem S112x256 .bf16) (harg33 : arg33.IsWhole) :
    cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 harg26 arg27 harg27 arg28 harg28 arg29 harg29 arg30 harg30 arg31 harg31 arg32 harg32 arg33 harg33
      = body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 arg26 harg26 arg27 harg27 arg28 harg28 arg29 harg29 arg30 harg30 arg31 harg31 arg32 harg32 arg33 harg33 := by sl_kernel_rfl

end Fpn

end
-- ==== Proof.Rules.lean ====
/-
  The two memory rules the body's triples are built from, by values: a buffer that holds `x` is read through a
  window of `x`, and after a store holds `x` with the stored value put over a window.
-/
module

public import proofs.«01_k».proof.Proof.Program
public import Idealize.ShloMosaic.Lib.VecWindow

@[expose] public section

set_option maxRecDepth 16384

noncomputable section

namespace Fpn

open Idealize.ShloMosaic Idealize.ShloMosaic.TcCoe Cert.KernelIdeal
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The weakest precondition of a program of the body on core `c`. -/
abbrev Wp (c : Dev nD) {α : Type} (p : Body F α) (K : α → sProp 𝕄) : sProp 𝕄 :=
  wp frame (wpE (defs₀ (F := F)) Variants.none (c : Thread nD τ) none) Set.univ p K

/-- Core `c` holds the whole of the buffer behind `m`, and reads `x` through it. -/
abbrev Has (c : Dev nD) {s : Shape} {e : EltTy} (m : Memref sig .tc .vmem s e) (x : Vec F s e) : sProp 𝕄 :=
  owns (c : Thread nD τ) m fullShare x

theorem wp_bind' (c : Dev nD) {α β : Type} (p : Body F α) (k : α → Body F β) (K : β → sProp 𝕄) :
    Wp c (p >>= k) K = Wp c p (fun a => Wp c (k a) K) := wp_bind _ _ _ _ _ _

theorem wp_pure' (c : Dev nD) {α : Type} (a : α) (K : α → sProp 𝕄) : K a ⊢ Wp c (pure a : Body F α) K :=
  le_wp_ret _ _ _ _ _

/-- A load reads a window. -/
theorem wp_load_window (c : Dev nD) {s : Shape} {e : EltTy} (m : Memref sig .tc .vmem s e) (off size : Fin s.rank → ℕ)
    (inb : ∀ a, off a + size a ≤ s.size a) (hl : m.view.LoadsAt (Rect.unit off size inb).toLoadRect) (x : Vec F s e)
    (K : ((Rect.unit off size inb).toLoadRect.shape.Idx → Elt F e) → sProp 𝕄) :
    iprop(Has c m x ∗ (Has c m x -∗ K (VecWindow.window x off size inb)))
      ⊢ Wp c (Prog.lift (.load m (Rect.unit off size inb).toLoadRect hl)) K := by
  unfold Has owns
  iintro ⟨⟨%f, %hf, H⟩, Hk⟩
  iapply (wp_load (defs := defs₀ (F := F)) Variants.none (c : Thread nD τ) none Set.univ (m := m) (View.setOn_subset_set _ _)) $$ [H]
  · iexact H
  iintro H
  iapply (le_wp_ret frame (wpE (defs₀ (F := F)) Variants.none (c : Thread nD τ) none) Set.univ)
  rw [View.readAt_unit m.view f inb rfl inb, hf]
  iapply Hk
  iexists f
  isplitr; · ipureintro; exact hf
  iexact H

/-- What a memref reads after a store through a rectangle of it. -/
theorem read_access_write {s : Shape} {e : EltTy} (m : Memref sig .tc .vmem s e) (f : m.view.ty.Contents (Elt F)) (off size : Fin s.rank → ℕ)
    (inb : ∀ a, off a + size a ≤ s.size a) (w : (Rect.unit off size inb).shape.Idx → Elt F e) (x : Vec F s e) (hf : m.view.read (Elt F) f = x) :
    m.view.read (Elt F) ((m.access (Rect.unit off size inb)).write (Elt F) f w Finset.univ) = VecWindow.put x off size w := by
  subst hf
  exact View.read_writes_cons_put m.view f inb w [] rfl

/-- A store puts its value over a window. -/
theorem wp_store_put (c : Dev nD) {s : Shape} {e : EltTy} (m : Memref sig .tc .vmem s e) (off size : Fin s.rank → ℕ)
    (inb : ∀ a, off a + size a ≤ s.size a) (w : (Rect.unit off size inb).shape.Idx → Elt F e)
    (hx : (m.access (Rect.unit off size inb)).Stores Finset.univ) (hm : Finset.univ = Finset.univ ∨ ∀ a, (Rect.unit off size inb).stride a = 1)
    (x : Vec F s e) (K : PUnit → sProp 𝕄) :
    iprop(Has c m x ∗ (Has c m (VecWindow.put x off size w) -∗ K ⟨⟩))
      ⊢ Wp c (Prog.lift (.store m (Rect.unit off size inb) w Finset.univ hx hm)) K := by
  unfold Has owns
  iintro ⟨⟨%f, %hf, H⟩, Hk⟩
  iapply (wp_store (defs := defs₀ (F := F)) Variants.none (c : Thread nD τ) none Set.univ (m := m) (r := Rect.unit off size inb) (S := m.view.set)
    ((View.setOn_subset_set _ _).trans (View.set_slice_subset _ _))) $$ [H]
  · iexact H
  iintro H
  iapply (le_wp_ret frame (wpE (defs₀ (F := F)) Variants.none (c : Thread nD τ) none) Set.univ)
  iapply Hk
  iexists ((m.access (Rect.unit off size inb)).write (Elt F) f w Finset.univ)
  isplitr
  · ipureintro; exact read_access_write m f off size inb w x hf
  iexact H

end Fpn

end
-- ==== Proof.Values.lean ====
/-
  What the body's pieces compute, as plain functions of what the buffers hold: the sum over the taps, a chunk, a trunk
  convolution, the head's convolution, and the two results of a level.
-/
module

public import proofs.«01_k».proof.Proof.Program
public import Idealize.ShloMosaic.Lib.VecWindow
public import Idealize.ShloMosaic.Lib.ValueIdxCore

@[expose] public section

set_option maxRecDepth 16384

noncomputable section

namespace Fpn

open Idealize.ShloMosaic Idealize.ShloMosaic.ValueIdx Cert.KernelIdeal

variable {F : FTy → Type} [FloatOps F]

/-- Rows `[off, off + n)` of `x`. -/
abbrev rowsOf {M K : ℕ} {α : Type} (x : (Mat M K).Idx → α) (off n : ℕ) (h : off + n ≤ M) : (Mat n K).Idx → α :=
  VecWindow.window x ![off, 0] (Mat n K).size (rows_inb h)

/-- The taps' weights as values. -/
abbrev Taps (F : FTy → Type) (C : ℕ) := (t : ℕ) → t < 9 → FVec F (Mat 256 C) .bf16

/-- The taps' weights of layer `l` of the trunk, in the stack of all weights. -/
def trunkW (w : FVec F ⟨3, ![4, 2304, 256]⟩ .bf16) (l : ℕ) (hl : l < 4) : Taps F 256 := fun t ht =>
  shapeCast (s := ⟨3, ![1, 256, 256]⟩) (Mat 256 256) (VecWindow.window w ![l, t * 256, 0] (Shape.size ⟨3, ![1, 256, 256]⟩) (trunk_inb hl ht)) (by decide +kernel)

/-- The taps' weights of the head. -/
def headW (w : FVec F (Mat 2304 16) .bf16) : Taps F 16 := fun t ht => rowsOf w (t * 256) 256 (by omega)

/-- The biases of layer `l` of the trunk. -/
def trunkB (b : FVec F ⟨3, ![4, 1, 256]⟩ .f32) (l : ℕ) (hl : l < 4) : FVec F (Mat 1 256) .f32 :=
  shapeCast (s := ⟨3, ![1, 1, 256]⟩) (Mat 1 256) (VecWindow.window b ![l, 0, 0] (Shape.size ⟨3, ![1, 1, 256]⟩) (bias_inb hl)) (by decide +kernel)

/-- What `taps` returns. -/
def tapsVal {M C : ℕ} (x : FVec F (Mat M 256) .bf16) (wv : Taps F C) (base ch Wp : ℕ) (h : base + (2 * Wp + 2) + ch ≤ M) :
    (k : ℕ) → (hk : k ≤ 9) → FVec F (Mat ch C) .f32 → FVec F (Mat ch C) .f32
  | 0, _, acc => acc
  | k + 1, hk, acc => tapsVal x wv base ch Wp h k (by omega)
      (tapStep acc (rowsOf x (base + tapRow Wp (8 - k)) ch
        (le_trans (Nat.add_le_add_right (Nat.add_le_add_left (tapRow_le (by omega)) _) _) h)) (wv (8 - k) (by omega)))

section Level

variable {g : Geo} (hg : g.Ok)

/-- The sum over the taps for chunk `i`. -/
def chunkVal {C : ℕ} (x : FVec F (Mat g.M 256) .bf16) (wv : Taps F C) (i : ℕ) (hi : i < g.n) : FVec F (Mat g.ch C) .f32 :=
  tapsVal x wv (g.P - (g.Wp + 1) + i * g.ch) g.ch g.Wp (hg.read_le hi) 9 le_rfl (zeroAcc g.ch C)

include hg in
theorem Geo.Ok.div_lt {q : ℕ} (hq : q < g.H * g.Wp) : q / g.ch < g.n :=
  Nat.div_lt_of_lt_mul (by rw [Nat.mul_comm, hg.size]; exact hq)

/-- What a trunk convolution leaves in the buffer it writes: zeros before and after the picture, and the chunks' values. -/
def trunkOut (x : FVec F (Mat g.M 256) .bf16) (wv : Taps F 256) (bias : FVec F (Mat 1 256) .f32) : FVec F (Mat g.M 256) .bf16 := fun j =>
  if h : g.P ≤ (j 0).val ∧ (j 0).val < g.P + g.H * g.Wp then
    trunkPay g.ch g.Wp (((j 0).val - g.P) / g.ch * g.ch) bias (chunkVal hg x wv (((j 0).val - g.P) / g.ch) (hg.div_lt (by omega)))
      (ix2 ⟨((j 0).val - g.P) % g.ch, Nat.mod_lt _ hg.posCh⟩ (j 1))
  else Scalar.ofBits .bf16 0x0000#16

/-- What the head's convolution leaves at the picture's positions. -/
def headOut (x : FVec F (Mat g.M 256) .bf16) (wv : Taps F 16) (bias : FVec F (Mat 1 16) .f32) : FVec F (Mat (g.H * g.Wp) 16) .f32 := fun j =>
  headPay g.ch bias (chunkVal hg x wv ((j 0).val / g.ch) (hg.div_lt (idx2_lt0 j))) (ix2 ⟨(j 0).val % g.ch, Nat.mod_lt _ hg.posCh⟩ (j 1))

/-- The class scores and the box offsets, from the head's sixteen channels by positions. -/
def clsOut (yt : FVec F (Mat 16 (g.H * g.Wp)) .f32) : FVec F (Cls g.H g.W) .f32 := fun j =>
  clsRow (pictureRow hg (j 3).val (j 3).isLt yt) (ix5 (j 0) (j 1) (j 2) (0 : Fin 1) (j 4))

def boxOut (yt : FVec F (Mat 16 (g.H * g.Wp)) .f32) : FVec F (Box g.H g.W) .f32 := fun j =>
  boxRow (pictureRow hg (j 3).val (j 3).isLt yt) (ix5 (j 0) (j 1) (j 2) (0 : Fin 1) (j 4))

/-- The head's channels by positions, of a level: four trunk convolutions, the head's convolution, transposed. -/
def levelOut (wm : FVec F ⟨3, ![4, 2304, 256]⟩ .bf16) (wh : FVec F (Mat 2304 16) .bf16) (bm : FVec F ⟨3, ![4, 1, 256]⟩ .f32)
    (bh : FVec F (Mat 1 16) .f32) (x : FVec F (Mat g.M 256) .bf16) : FVec F (Mat 16 (g.H * g.Wp)) .f32 :=
  let x1 := trunkOut hg x (trunkW wm 0 (by omega)) (trunkB bm 0 (by omega))
  let x2 := trunkOut hg x1 (trunkW wm 1 (by omega)) (trunkB bm 1 (by omega))
  let x3 := trunkOut hg x2 (trunkW wm 2 (by omega)) (trunkB bm 2 (by omega))
  let x4 := trunkOut hg x3 (trunkW wm 3 (by omega)) (trunkB bm 3 (by omega))
  transpose (Mat 16 (g.H * g.Wp)) [1, 0] (headOut hg x4 (headW wh) (rowsOf bh 0 1 le_rfl)) (mat_transposes _ _)

end Level

/-! ### Rows put over a matrix -/

/-- A matrix with rows put over it, read in the rows put, -/
theorem put_rows_in {M K n off : ℕ} {α : Type} (y : (Mat M K).Idx → α) (w : (Mat n K).Idx → α) (j : (Mat M K).Idx)
    (h1 : off ≤ (j 0).val) (h2 : (j 0).val - off < n) :
    VecWindow.put y ![off, 0] (Mat n K).size w j = w (ix2 ⟨(j 0).val - off, h2⟩ (j 1)) := by
  have h : ∀ a, (![off, 0] : Fin 2 → ℕ) a ≤ (j a).val ∧ (j a).val < (![off, 0] : Fin 2 → ℕ) a + (Mat n K).size a := fun a => by
    match a with
    | ⟨0, _⟩ => exact ⟨h1, show (j 0).val < off + n by omega⟩
    | ⟨1, _⟩ => exact ⟨Nat.zero_le _, show (j 1).val < 0 + K by have : (j 1).val < K := (j 1).isLt; omega⟩
  refine (dif_pos h).trans (congrArg w (funext fun a => ?_))
  match a with
  | ⟨0, _⟩ => rfl
  | ⟨1, _⟩ => rfl

/-- and elsewhere. -/
theorem put_rows_out {M K n off : ℕ} {α : Type} (y : (Mat M K).Idx → α) (w : (Mat n K).Idx → α) (j : (Mat M K).Idx)
    (h : (j 0).val < off ∨ off + n ≤ (j 0).val) : VecWindow.put y ![off, 0] (Mat n K).size w j = y j := by
  refine dif_neg fun hall => ?_
  have h0 : off ≤ (j 0).val ∧ (j 0).val < off + n := hall 0
  omega

end Fpn

end
-- ==== Proof.Run.lean ====
/-
  The triples of the body's pieces: what each loop leaves in the buffers it writes, as the plain functions of
  `Values`. Each loop keeps the invariant that the rows written so far already hold the final value.
-/
module

public import proofs.«01_k».proof.Proof.Rules
public import proofs.«01_k».proof.Proof.Values

@[expose] public section

set_option maxRecDepth 16384

noncomputable section

namespace Fpn

open Idealize.ShloMosaic Idealize.ShloMosaic.TcCoe Idealize.ShloMosaic.ValueIdx Cert.KernelIdeal
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### Rows of matrices -/

theorem wp_loadRows (c : Dev nD) {M K : ℕ} {e : EltTy} (m : Memref sig .tc .vmem (Mat M K) e) (off n : ℕ) (h : off + n ≤ M) (hn : 0 < n) (hK : 0 < K)
    (x : Vec F (Mat M K) e) (Q : Vec F (Mat n K) e → sProp 𝕄) :
    iprop(Has c m x ∗ (Has c m x -∗ Q (rowsOf x off n h))) ⊢ Wp c (loadRows m off n h hn hK) Q :=
  wp_load_window c m ![off, 0] (Mat n K).size (rows_inb h) _ x Q

theorem wp_storeRows (c : Dev nD) {M K : ℕ} (m : Memref sig .tc .vmem (Mat M K) .bf16) (hm : m.IsWhole) (off n : ℕ) (h : off + n ≤ M) (ho : 2 ∣ off)
    (h2 : 2 ∣ n) (hn : 0 < n) (hK : 0 < K) (w : FVec F (Mat n K) .bf16) (x : Vec F (Mat M K) .bf16) (Q : PUnit → sProp 𝕄) :
    iprop(Has c m x ∗ (Has c m (VecWindow.put x ![off, 0] (Mat n K).size w) -∗ Q ⟨⟩)) ⊢ Wp c (storeRows m hm off n h ho h2 hn hK w) Q :=
  wp_store_put c m ![off, 0] (Mat n K).size (rows_inb h) w _ _ x Q

theorem wp_storeRows32 (c : Dev nD) {M K : ℕ} (m : Memref sig .tc .vmem (Mat M K) .f32) (off n : ℕ) (h : off + n ≤ M) (hn : 0 < n) (hK : 0 < K)
    (w : FVec F (Mat n K) .f32) (x : Vec F (Mat M K) .f32) (Q : PUnit → sProp 𝕄) :
    iprop(Has c m x ∗ (Has c m (VecWindow.put x ![off, 0] (Mat n K).size w) -∗ Q ⟨⟩)) ⊢ Wp c (storeRows32 m off n h hn hK w) Q :=
  wp_store_put c m ![off, 0] (Mat n K).size (rows_inb h) w _ _ x Q

/-! ### The taps -/

/-- Holding `R`, the loads `ldw` return the weights `wv`. -/
def Loads (c : Dev nD) {C : ℕ} (R : sProp 𝕄) (ldw : Weights F C) (wv : Taps F C) : Prop :=
  ∀ (t : ℕ) (ht : t < 9) (Q : FVec F (Mat 256 C) .bf16 → sProp 𝕄), iprop(R ∗ (R -∗ Q (wv t ht))) ⊢ Wp c (ldw t ht) Q

theorem loads_trunk (c : Dev nD) (wm : Memref sig .tc .vmem ⟨3, ![4, 2304, 256]⟩ .bf16) (w : FVec F ⟨3, ![4, 2304, 256]⟩ .bf16) (l : ℕ) (hl : l < 4) :
    Loads c (Has c wm w) (loadTrunk wm l hl) (trunkW w l hl) := by
  intro t ht Q
  unfold loadTrunk trunkW
  rw [wp_bind']
  iintro ⟨H, Hk⟩
  iapply (wp_load_window c wm ![l, t * 256, 0] (Shape.size ⟨3, ![1, 256, 256]⟩) (trunk_inb hl ht) _ w _)
  isplitl [H]; · iexact H
  iintro H
  iapply (wp_pure' c)
  iapply Hk
  iexact H

theorem loads_head (c : Dev nD) (wh : Memref sig .tc .vmem (Mat 2304 16) .bf16) (w : FVec F (Mat 2304 16) .bf16) :
    Loads c (Has c wh w) (loadHead wh) (headW w) := by
  intro t ht Q
  exact wp_loadRows c wh (t * 256) 256 _ _ _ w Q

theorem wp_loadBias (c : Dev nD) (bm : Memref sig .tc .vmem ⟨3, ![4, 1, 256]⟩ .f32) (b : FVec F ⟨3, ![4, 1, 256]⟩ .f32) (l : ℕ) (hl : l < 4)
    (Q : FVec F (Mat 1 256) .f32 → sProp 𝕄) :
    iprop(Has c bm b ∗ (Has c bm b -∗ Q (trunkB b l hl))) ⊢ Wp c (loadBias bm l hl) Q := by
  unfold loadBias trunkB
  rw [wp_bind']
  iintro ⟨H, Hk⟩
  iapply (wp_load_window c bm ![l, 0, 0] (Shape.size ⟨3, ![1, 1, 256]⟩) (bias_inb hl) _ b _)
  isplitl [H]; · iexact H
  iintro H
  iapply (wp_pure' c)
  iapply Hk
  iexact H

theorem wp_taps (c : Dev nD) {M C : ℕ} (src : Memref sig .tc .vmem (Mat M 256) .bf16) (x : FVec F (Mat M 256) .bf16) (R : sProp 𝕄) (ldw : Weights F C)
    (wv : Taps F C) (hR : Loads c R ldw wv) (base ch Wp' : ℕ) (h : base + (2 * Wp' + 2) + ch ≤ M) (hch : 0 < ch)
    (Q : FVec F (Mat ch C) .f32 → sProp 𝕄) :
    ∀ (k : ℕ) (hk : k ≤ 9) (acc : FVec F (Mat ch C) .f32),
      iprop(Has c src x ∗ R ∗ (Has c src x ∗ R -∗ Q (tapsVal x wv base ch Wp' h k hk acc))) ⊢ Wp c (taps src ldw base ch Wp' h hch k hk acc) Q := by
  intro k
  induction k with
  | zero =>
    intro hk acc
    unfold taps tapsVal
    iintro ⟨Hx, HR, Hk⟩
    iapply (wp_pure' c)
    iapply Hk
    isplitl [Hx]; · iexact Hx
    iexact HR
  | succ k ih =>
    intro hk acc
    unfold taps tapsVal
    rw [wp_bind']
    iintro ⟨Hx, HR, Hk⟩
    iapply (wp_loadRows c src _ ch _ _ _ x _)
    isplitl [Hx]; · iexact Hx
    iintro Hx
    rw [wp_bind']
    iapply (hR (8 - k) _ _)
    isplitl [HR]; · iexact HR
    iintro HR
    iapply (ih _ _)
    isplitl [Hx]; · iexact Hx
    isplitl [HR]; · iexact HR
    iexact Hk

/-! ### A trunk convolution -/

section Level

variable {g : Geo} (hg : g.Ok)

theorem wp_trunkChunk (c : Dev nD) (src dst : Memref sig .tc .vmem (Mat g.M 256) .bf16) (hd : dst.IsWhole) (x y : FVec F (Mat g.M 256) .bf16)
    (R : sProp 𝕄) (ldw : Weights F 256) (wv : Taps F 256) (hR : Loads c R ldw wv) (bias : FVec F (Mat 1 256) .f32) (i : ℕ) (hi : i < g.n)
    (Q : PUnit → sProp 𝕄) :
    iprop(Has c src x ∗ R ∗ Has c dst y
      ∗ (Has c src x ∗ R ∗ Has c dst (VecWindow.put y ![g.P + i * g.ch, 0] (Mat g.ch 256).size
          (trunkPay g.ch g.Wp (i * g.ch) bias (chunkVal hg x wv i hi))) -∗ Q ⟨⟩))
      ⊢ Wp c (trunkChunk hg src dst hd ldw bias i hi) Q := by
  unfold trunkChunk
  rw [wp_bind']
  iintro ⟨Hx, HR, Hy, Hk⟩
  iapply (wp_taps c src x R ldw wv hR _ _ _ _ _ _ 9 le_rfl _)
  isplitl [Hx]; · iexact Hx
  isplitl [HR]; · iexact HR
  iintro ⟨Hx, HR⟩
  rw [wp_bind']
  iapply (wp_loadRows c dst _ g.ch _ _ _ y _)
  isplitl [Hy]; · iexact Hy
  iintro Hy
  iapply (wp_storeRows c dst hd _ g.ch _ _ _ _ _ _ y _)
  isplitl [Hy]; · iexact Hy
  iintro Hy
  iapply Hk
  isplitl [Hx]; · iexact Hx
  isplitl [HR]; · iexact HR
  iexact Hy

/-- The buffer `y` already holds `z` outside the picture and in its first `m` chunks. -/
def Upto (g : Geo) (y z : FVec F (Mat g.M 256) .bf16) (m : ℕ) : Prop :=
  ∀ j, ((j 0).val < g.P + m * g.ch ∨ g.P + g.H * g.Wp ≤ (j 0).val) → y j = z j

theorem chunkVal_congr {C : ℕ} (x : FVec F (Mat g.M 256) .bf16) (wv : Taps F C) {i i' : ℕ} (h : i = i') (hi : i < g.n) (hi' : i' < g.n) :
    chunkVal hg x wv i hi = chunkVal hg x wv i' hi' := by subst h; rfl

include hg in
theorem trunk_step {x y : FVec F (Mat g.M 256) .bf16} {wv : Taps F 256} {bias : FVec F (Mat 1 256) .f32} {i : ℕ} (hi : i < g.n)
    (h : Upto g y (trunkOut hg x wv bias) i) :
    Upto g (VecWindow.put y ![g.P + i * g.ch, 0] (Mat g.ch 256).size (trunkPay g.ch g.Wp (i * g.ch) bias (chunkVal hg x wv i hi)))
      (trunkOut hg x wv bias) (i + 1) := by
  intro j hj
  have hc := hg.chunk_le hi
  rw [Nat.succ_mul] at hj
  by_cases hin : g.P + i * g.ch ≤ (j 0).val ∧ (j 0).val < g.P + i * g.ch + g.ch
  · rw [put_rows_in y _ j hin.1 (by omega)]
    unfold trunkOut
    rw [dif_pos (by omega)]
    obtain ⟨q, hq⟩ : ∃ q, (j 0).val - g.P = i * g.ch + q := ⟨(j 0).val - g.P - i * g.ch, by omega⟩
    have hqc : q < g.ch := by omega
    have e1 : ((j 0).val - g.P) / g.ch = i := by
      rw [hq, Nat.mul_comm, Nat.mul_add_div hg.posCh, Nat.div_eq_of_lt hqc, Nat.add_zero]
    have e2 : ((j 0).val - g.P) % g.ch = q := by
      rw [hq, Nat.mul_comm, Nat.mul_add_mod, Nat.mod_eq_of_lt hqc]
    have e3 : (j 0).val - (g.P + i * g.ch) = q := by omega
    rw [chunkVal_congr hg x wv e1 _ hi]
    simp only [e1, e2, e3]
  · rw [put_rows_out y _ j (by omega)]
    exact h j (by omega)

theorem wp_trunkFrom (c : Dev nD) (src dst : Memref sig .tc .vmem (Mat g.M 256) .bf16) (hd : dst.IsWhole) (x : FVec F (Mat g.M 256) .bf16)
    (R : sProp 𝕄) (ldw : Weights F 256) (wv : Taps F 256) (hR : Loads c R ldw wv) (bias : FVec F (Mat 1 256) .f32) (Q : PUnit → sProp 𝕄) :
    ∀ (k : ℕ) (hk : k ≤ g.n) (y : FVec F (Mat g.M 256) .bf16), Upto g y (trunkOut hg x wv bias) (g.n - k) →
      iprop(Has c src x ∗ R ∗ Has c dst y ∗ (Has c src x ∗ R ∗ Has c dst (trunkOut hg x wv bias) -∗ Q ⟨⟩))
      ⊢ Wp c (trunkFrom hg src dst hd ldw bias k hk) Q := by
  intro k
  induction k with
  | zero =>
    intro hk y hy
    obtain rfl : y = trunkOut hg x wv bias := funext fun j => hy j (by rw [Nat.sub_zero, hg.size]; omega)
    unfold trunkFrom
    iintro ⟨Hx, HR, Hy, Hk⟩
    iapply (wp_pure' c)
    iapply Hk
    isplitl [Hx]; · iexact Hx
    isplitl [HR]; · iexact HR
    iexact Hy
  | succ k ih =>
    intro hk y hy
    have hs := trunk_step hg (x := x) (wv := wv) (bias := bias) (i := g.n - 1 - k) (by omega)
      (by rwa [show g.n - 1 - k = g.n - (k + 1) by omega])
    rw [show g.n - 1 - k + 1 = g.n - k by omega] at hs
    unfold trunkFrom
    rw [wp_bind']
    iintro ⟨Hx, HR, Hy, Hk⟩
    iapply (wp_trunkChunk hg c src dst hd x y R ldw wv hR bias (g.n - 1 - k) _ _)
    isplitl [Hx]; · iexact Hx
    isplitl [HR]; · iexact HR
    isplitl [Hy]; · iexact Hy
    iintro ⟨Hx, HR, Hy⟩
    iapply (ih _ _ hs)
    isplitl [Hx]; · iexact Hx
    isplitl [HR]; · iexact HR
    isplitl [Hy]; · iexact Hy
    iexact Hk

/-- The buffer `y` holds zeros before and after the picture. -/
def ZeroEnds (g : Geo) (y : FVec F (Mat g.M 256) .bf16) : Prop :=
  ∀ j, ((j 0).val < g.P ∨ g.P + g.H * g.Wp ≤ (j 0).val) → y j = Scalar.ofBits .bf16 0x0000#16

theorem trunkOut_ends (x : FVec F (Mat g.M 256) .bf16) (wv : Taps F 256) (bias : FVec F (Mat 1 256) .f32) : ZeroEnds g (trunkOut hg x wv bias) :=
  fun j hj => dif_neg (by omega)

theorem wp_trunkConv (c : Dev nD) (wm : Memref sig .tc .vmem ⟨3, ![4, 2304, 256]⟩ .bf16) (bm : Memref sig .tc .vmem ⟨3, ![4, 1, 256]⟩ .f32)
    (l : ℕ) (hl : l < 4) (src dst : Memref sig .tc .vmem (Mat g.M 256) .bf16) (hd : dst.IsWhole)
    (w : FVec F ⟨3, ![4, 2304, 256]⟩ .bf16) (b : FVec F ⟨3, ![4, 1, 256]⟩ .f32) (x y : FVec F (Mat g.M 256) .bf16) (hy : ZeroEnds g y)
    (Q : PUnit → sProp 𝕄) :
    iprop(Has c wm w ∗ Has c bm b ∗ Has c src x ∗ Has c dst y
      ∗ (Has c wm w ∗ Has c bm b ∗ Has c src x ∗ Has c dst (trunkOut hg x (trunkW w l hl) (trunkB b l hl)) -∗ Q ⟨⟩))
      ⊢ Wp c (trunkConv hg wm bm l hl src dst hd) Q := by
  unfold trunkConv
  rw [wp_bind']
  iintro ⟨Hw, Hb, Hx, Hy, Hk⟩
  iapply (wp_loadBias c bm b l hl _)
  isplitl [Hb]; · iexact Hb
  iintro Hb
  iapply (wp_trunkFrom hg c src dst hd x (Has c wm w) (loadTrunk wm l hl) (trunkW w l hl) (loads_trunk c wm w l hl) _ _ g.n le_rfl y
    (fun j hj => (hy j (by rw [Nat.sub_self, Nat.zero_mul] at hj; omega)).trans
      (trunkOut_ends hg x _ _ j (by rw [Nat.sub_self, Nat.zero_mul] at hj; omega)).symm))
  isplitl [Hx]; · iexact Hx
  isplitl [Hw]; · iexact Hw
  isplitl [Hy]; · iexact Hy
  iintro ⟨Hx, Hw, Hy⟩
  iapply Hk
  isplitl [Hw]; · iexact Hw
  isplitl [Hb]; · iexact Hb
  isplitl [Hx]; · iexact Hx
  iexact Hy

/-! ### The zeros -/

theorem wp_zeroRows (c : Dev nD) {M : ℕ} (m : Memref sig .tc .vmem (Mat M 256) .bf16) (hm : m.IsWhole) (off n : ℕ) (h : off + n ≤ M) (ho : 2 ∣ off)
    (h2 : 2 ∣ n) (hn : 0 < n) (y : FVec F (Mat M 256) .bf16) (Q : PUnit → sProp 𝕄) :
    iprop(Has c m y ∗ (Has c m (VecWindow.put y ![off, 0] (Mat n 256).size (fun _ => Scalar.ofBits .bf16 0x0000#16)) -∗ Q ⟨⟩))
      ⊢ Wp c (zeroRows m hm off n h ho h2 hn) Q := by
  unfold zeroRows
  rw [wp_bind']
  iintro ⟨Hy, Hk⟩
  iapply (wp_loadRows c m off n _ _ _ y _)
  isplitl [Hy]; · iexact Hy
  iintro Hy
  iapply (wp_storeRows c m hm off n _ _ _ _ _ _ y _)
  isplitl [Hy]; · iexact Hy
  iexact Hk

theorem wp_zeroEnds (c : Dev nD) (m : Memref sig .tc .vmem (Mat g.M 256) .bf16) (hm : m.IsWhole) (y : FVec F (Mat g.M 256) .bf16) (Q : PUnit → sProp 𝕄) :
    iprop(Has c m y ∗ (∀ y', ⌜ZeroEnds g y'⌝ -∗ Has c m y' -∗ Q ⟨⟩)) ⊢ Wp c (zeroEnds hg m hm) Q := by
  unfold zeroEnds
  rw [wp_bind']
  iintro ⟨Hy, Hk⟩
  iapply (wp_zeroRows c m hm _ _ _ _ _ _ y _)
  isplitl [Hy]; · iexact Hy
  iintro Hy
  iapply (wp_zeroRows c m hm _ _ _ _ _ _ _ _)
  isplitl [Hy]; · iexact Hy
  iintro Hy
  iapply Hk
  swap; · iexact Hy
  ipureintro
  intro j hj
  have hM := idx2_lt0 j
  have hb := hg.back
  by_cases h1 : g.P + g.H * g.Wp ≤ (j 0).val
  · exact put_rows_in _ _ j h1 (by omega)
  · rw [put_rows_out _ _ j (by omega)]
    exact put_rows_in _ _ j (Nat.zero_le _) (by omega)

end Level

end Fpn

end
-- ==== Proof.Level.lean ====
/-
  The triples of the head's convolution, of the rows copied out, and of a whole level.
-/
module

public import proofs.«01_k».proof.Proof.Run

@[expose] public section

set_option maxRecDepth 16384

noncomputable section

namespace Fpn

open Idealize.ShloMosaic Idealize.ShloMosaic.TcCoe Idealize.ShloMosaic.ValueIdx Cert.KernelIdeal
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable {g : Geo} (hg : g.Ok)

/-! ### The head's convolution -/

/-- The first `m` chunks of the head's values are in `y`. -/
def HeadUpto (g : Geo) (y : FVec F (Mat 4224 16) .f32) (z : FVec F (Mat (g.H * g.Wp) 16) .f32) (m : ℕ) : Prop :=
  ∀ (j : (Mat 4224 16).Idx) (h : (j 0).val < g.H * g.Wp), (j 0).val < m * g.ch → y j = z (ix2 ⟨(j 0).val, h⟩ (j 1))

theorem head_step {x : FVec F (Mat g.M 256) .bf16} {y : FVec F (Mat 4224 16) .f32} {wv : Taps F 16} {bias : FVec F (Mat 1 16) .f32} {i : ℕ}
    (hi : i < g.n) (h : HeadUpto g y (headOut hg x wv bias) i) :
    HeadUpto g (VecWindow.put y ![i * g.ch, 0] (Mat g.ch 16).size (headPay g.ch bias (chunkVal hg x wv i hi))) (headOut hg x wv bias) (i + 1) := by
  intro j hj hm
  have hc := hg.chunk_le hi
  rw [Nat.succ_mul] at hm
  by_cases hin : i * g.ch ≤ (j 0).val ∧ (j 0).val < i * g.ch + g.ch
  · rw [put_rows_in y _ j hin.1 (by omega)]
    obtain ⟨q, hq⟩ : ∃ q, (j 0).val = i * g.ch + q := ⟨(j 0).val - i * g.ch, by omega⟩
    have hqc : q < g.ch := by omega
    have e1 : (j 0).val / g.ch = i := by
      rw [hq, Nat.mul_comm, Nat.mul_add_div hg.posCh, Nat.div_eq_of_lt hqc, Nat.add_zero]
    have e2 : (j 0).val % g.ch = q := by
      rw [hq, Nat.mul_comm, Nat.mul_add_mod, Nat.mod_eq_of_lt hqc]
    have e3 : (j 0).val - i * g.ch = q := by omega
    exact (congrArg (headPay g.ch bias (chunkVal hg x wv i hi)) (congrArg (fun r : Fin g.ch => ix2 r (j 1)) (Fin.ext (e3.trans e2.symm)))).trans
      (congrFun (congrArg (headPay g.ch bias) (chunkVal_congr hg x wv e1.symm hi _)) _)
  · rw [put_rows_out y _ j (by omega)]
    exact h j hj (by omega)

theorem wp_headChunk (c : Dev nD) (src : Memref sig .tc .vmem (Mat g.M 256) .bf16) (o : Memref sig .tc .vmem (Mat 4224 16) .f32)
    (wh : Memref sig .tc .vmem (Mat 2304 16) .bf16) (x : FVec F (Mat g.M 256) .bf16) (y : FVec F (Mat 4224 16) .f32) (w : FVec F (Mat 2304 16) .bf16)
    (bias : FVec F (Mat 1 16) .f32) (i : ℕ) (hi : i < g.n) (Q : PUnit → sProp 𝕄) :
    iprop(Has c src x ∗ Has c wh w ∗ Has c o y
      ∗ (Has c src x ∗ Has c wh w ∗ Has c o (VecWindow.put y ![i * g.ch, 0] (Mat g.ch 16).size (headPay g.ch bias (chunkVal hg x (headW w) i hi))) -∗ Q ⟨⟩))
      ⊢ Wp c (headChunk hg src o wh bias i hi) Q := by
  unfold headChunk
  rw [wp_bind']
  iintro ⟨Hx, Hw, Hy, Hk⟩
  iapply (wp_taps c src x (Has c wh w) _ (headW w) (loads_head c wh w) _ _ _ _ _ _ 9 le_rfl _)
  isplitl [Hx]; · iexact Hx
  isplitl [Hw]; · iexact Hw
  iintro ⟨Hx, Hw⟩
  rw [wp_bind']
  iapply (wp_loadRows c o _ g.ch _ _ _ y _)
  isplitl [Hy]; · iexact Hy
  iintro Hy
  iapply (wp_storeRows32 c o _ g.ch _ _ _ _ y _)
  isplitl [Hy]; · iexact Hy
  iintro Hy
  iapply Hk
  isplitl [Hx]; · iexact Hx
  isplitl [Hw]; · iexact Hw
  iexact Hy

theorem wp_headFrom (c : Dev nD) (src : Memref sig .tc .vmem (Mat g.M 256) .bf16) (o : Memref sig .tc .vmem (Mat 4224 16) .f32)
    (wh : Memref sig .tc .vmem (Mat 2304 16) .bf16) (x : FVec F (Mat g.M 256) .bf16) (w : FVec F (Mat 2304 16) .bf16)
    (bias : FVec F (Mat 1 16) .f32) (Q : PUnit → sProp 𝕄) :
    ∀ (k : ℕ) (hk : k ≤ g.n) (y : FVec F (Mat 4224 16) .f32), HeadUpto g y (headOut hg x (headW w) bias) (g.n - k) →
      iprop(Has c src x ∗ Has c wh w ∗ Has c o y
        ∗ (∀ y', ⌜HeadUpto g y' (headOut hg x (headW w) bias) g.n⌝ -∗ Has c src x ∗ Has c wh w ∗ Has c o y' -∗ Q ⟨⟩))
      ⊢ Wp c (headFrom hg src o wh bias k hk) Q := by
  intro k
  induction k with
  | zero =>
    intro hk y hy
    unfold headFrom
    iintro ⟨Hx, Hw, Hy, Hk⟩
    iapply (wp_pure' c)
    iapply Hk
    · ipureintro; exact hy
    isplitl [Hx]; · iexact Hx
    isplitl [Hw]; · iexact Hw
    iexact Hy
  | succ k ih =>
    intro hk y hy
    have hs := head_step hg (x := x) (wv := headW w) (bias := bias) (i := g.n - 1 - k) (by omega)
      (by rwa [show g.n - 1 - k = g.n - (k + 1) by omega])
    rw [show g.n - 1 - k + 1 = g.n - k by omega] at hs
    unfold headFrom
    rw [wp_bind']
    iintro ⟨Hx, Hw, Hy, Hk⟩
    iapply (wp_headChunk hg c src o wh x y w bias (g.n - 1 - k) _ _)
    isplitl [Hx]; · iexact Hx
    isplitl [Hw]; · iexact Hw
    isplitl [Hy]; · iexact Hy
    iintro ⟨Hx, Hw, Hy⟩
    iapply (ih _ _ hs)
    isplitl [Hx]; · iexact Hx
    isplitl [Hw]; · iexact Hw
    isplitl [Hy]; · iexact Hy
    iexact Hk

theorem head_rows {y : FVec F (Mat 4224 16) .f32} {z : FVec F (Mat (g.H * g.Wp) 16) .f32} (hy : HeadUpto g y z g.n) (h : 0 + g.H * g.Wp ≤ 4224)
    (hs : g.n * g.ch = g.H * g.Wp) : rowsOf y 0 (g.H * g.Wp) h = z := by
  funext j
  have hj := idx2_lt0 j
  refine Eq.trans (b := y (ix2 ⟨(j 0).val, by omega⟩ (j 1))) (congrArg y (funext fun a => Fin.ext ?_)) ((hy _ hj (by rw [hs]; exact hj)).trans ?_)
  · match a with
    | ⟨0, _⟩ => show 0 + 1 * (j 0).val = (j 0).val; omega
    | ⟨1, _⟩ => show 0 + 1 * (j 1).val = (j 1).val; omega
  · exact congrArg z (eq_ix2 j).symm

/-! ### The rows copied out -/

/-- A picture with one of its rows put over it, read in that row, -/
theorem put_pic_in {A B H W h : ℕ} {α : Type} (y : (⟨5, ![1, A, B, H, W]⟩ : Shape).Idx → α) (w : (⟨5, ![1, A, B, 1, W]⟩ : Shape).Idx → α)
    (j : (⟨5, ![1, A, B, H, W]⟩ : Shape).Idx) (hj : (j 3).val = h) :
    VecWindow.put y ![0, 0, 0, h, 0] (Shape.size ⟨5, ![1, A, B, 1, W]⟩) w j = w (ix5 (j 0) (j 1) (j 2) (0 : Fin 1) (j 4)) := by
  have hh : ∀ a, (![0, 0, 0, h, 0] : Fin 5 → ℕ) a ≤ (j a).val ∧ (j a).val < (![0, 0, 0, h, 0] : Fin 5 → ℕ) a + Shape.size ⟨5, ![1, A, B, 1, W]⟩ a := fun a => by
    match a with
    | ⟨0, _⟩ => exact ⟨Nat.zero_le _, (Nat.zero_add _).symm ▸ (j 0).isLt⟩
    | ⟨1, _⟩ => exact ⟨Nat.zero_le _, (Nat.zero_add _).symm ▸ (j 1).isLt⟩
    | ⟨2, _⟩ => exact ⟨Nat.zero_le _, (Nat.zero_add _).symm ▸ (j 2).isLt⟩
    | ⟨3, _⟩ => exact ⟨hj.ge, show (j 3).val < h + 1 by omega⟩
    | ⟨4, _⟩ => exact ⟨Nat.zero_le _, (Nat.zero_add _).symm ▸ (j 4).isLt⟩
  refine (dif_pos hh).trans (congrArg w (funext fun a => Fin.ext ?_))
  match a with
  | ⟨0, _⟩ => rfl
  | ⟨1, _⟩ => rfl
  | ⟨2, _⟩ => rfl
  | ⟨3, _⟩ => show (j 3).val - h = 0; omega
  | ⟨4, _⟩ => rfl

/-- and in another. -/
theorem put_pic_out {A B H W h : ℕ} {α : Type} (y : (⟨5, ![1, A, B, H, W]⟩ : Shape).Idx → α) (w : (⟨5, ![1, A, B, 1, W]⟩ : Shape).Idx → α)
    (j : (⟨5, ![1, A, B, H, W]⟩ : Shape).Idx) (hj : (j 3).val ≠ h) :
    VecWindow.put y ![0, 0, 0, h, 0] (Shape.size ⟨5, ![1, A, B, 1, W]⟩) w j = y j := by
  refine dif_neg fun hall => ?_
  have h3 : h ≤ (j 3).val ∧ (j 3).val < h + 1 := hall 3
  omega

theorem cls_step (yt : FVec F (Mat 16 (g.H * g.Wp)) .f32) (y : FVec F (Cls g.H g.W) .f32) (h : ℕ) (hh : h < g.H)
    (hy : ∀ j, (j 3).val < h → y j = clsOut hg yt j) (j : (Cls g.H g.W).Idx) (hj : (j 3).val < h + 1) :
    VecWindow.put y ![0, 0, 0, h, 0] (Cls 1 g.W).size (clsRow (pictureRow hg h hh yt)) j = clsOut hg yt j := by
  by_cases e : (j 3).val = h
  · rw [put_pic_in y _ j e]; subst e; rfl
  · rw [put_pic_out y _ j e]; exact hy j (by omega)

theorem box_step (yt : FVec F (Mat 16 (g.H * g.Wp)) .f32) (y : FVec F (Box g.H g.W) .f32) (h : ℕ) (hh : h < g.H)
    (hy : ∀ j, (j 3).val < h → y j = boxOut hg yt j) (j : (Box g.H g.W).Idx) (hj : (j 3).val < h + 1) :
    VecWindow.put y ![0, 0, 0, h, 0] (Box 1 g.W).size (boxRow (pictureRow hg h hh yt)) j = boxOut hg yt j := by
  by_cases e : (j 3).val = h
  · rw [put_pic_in y _ j e]; subst e; rfl
  · rw [put_pic_out y _ j e]; exact hy j (by omega)

theorem wp_rowsFrom (c : Dev nD) (oc : Memref sig .tc .vmem (Cls g.H g.W) .f32) (ob : Memref sig .tc .vmem (Box g.H g.W) .f32)
    (yt : FVec F (Mat 16 (g.H * g.Wp)) .f32) (Q : PUnit → sProp 𝕄) :
    ∀ (k : ℕ) (hk : k ≤ g.H) (y : FVec F (Cls g.H g.W) .f32) (z : FVec F (Box g.H g.W) .f32),
      (∀ j, (j 3).val < g.H - k → y j = clsOut hg yt j) → (∀ j, (j 3).val < g.H - k → z j = boxOut hg yt j) →
      iprop(Has c oc y ∗ Has c ob z ∗ (Has c oc (clsOut hg yt) ∗ Has c ob (boxOut hg yt) -∗ Q ⟨⟩))
      ⊢ Wp c (rowsFrom hg oc ob yt k hk) Q := by
  intro k
  induction k with
  | zero =>
    intro hk y z hy hz
    obtain rfl : y = clsOut hg yt := funext fun j => hy j (by have : (j 3).val < g.H := (j 3).isLt; omega)
    obtain rfl : z = boxOut hg yt := funext fun j => hz j (by have : (j 3).val < g.H := (j 3).isLt; omega)
    unfold rowsFrom
    iintro ⟨Hy, Hz, Hk⟩
    iapply (wp_pure' c)
    iapply Hk
    isplitl [Hy]; · iexact Hy
    iexact Hz
  | succ k ih =>
    intro hk y z hy hz
    have hy' := cls_step hg yt y (g.H - 1 - k) (by omega) (fun j hj => hy j (by omega))
    have hz' := box_step hg yt z (g.H - 1 - k) (by omega) (fun j hj => hz j (by omega))
    unfold rowsFrom
    rw [wp_bind']
    iintro ⟨Hy, Hz, Hk⟩
    iapply (wp_load_window c oc ![0, 0, 0, g.H - 1 - k, 0] (Cls 1 g.W).size (cls_inb (by omega)) _ y _)
    isplitl [Hy]; · iexact Hy
    iintro Hy
    rw [wp_bind']
    iapply (wp_store_put c oc ![0, 0, 0, g.H - 1 - k, 0] (Cls 1 g.W).size (cls_inb (by omega)) _ _ _ y _)
    isplitl [Hy]; · iexact Hy
    iintro Hy
    rw [wp_bind']
    iapply (wp_load_window c ob ![0, 0, 0, g.H - 1 - k, 0] (Box 1 g.W).size (box_inb (by omega)) _ z _)
    isplitl [Hz]; · iexact Hz
    iintro Hz
    rw [wp_bind']
    iapply (wp_store_put c ob ![0, 0, 0, g.H - 1 - k, 0] (Box 1 g.W).size (box_inb (by omega)) _ _ _ z _)
    isplitl [Hz]; · iexact Hz
    iintro Hz
    iapply (ih _ _ _ (fun j hj => hy' j (by omega)) (fun j hj => hz' j (by omega)))
    isplitl [Hy]; · iexact Hy
    isplitl [Hz]; · iexact Hz
    iexact Hk

/-! ### A level -/

/-- A level, run: its two results from the padded picture, the weights and the biases; the scratch at anything. -/
theorem wp_level (c : Dev nD) (wm : Memref sig .tc .vmem ⟨3, ![4, 2304, 256]⟩ .bf16) (wh : Memref sig .tc .vmem (Mat 2304 16) .bf16)
    (bm : Memref sig .tc .vmem ⟨3, ![4, 1, 256]⟩ .f32) (bh : Memref sig .tc .vmem (Mat 1 16) .f32) (o : Memref sig .tc .vmem (Mat 4224 16) .f32)
    (x a b : Memref sig .tc .vmem (Mat g.M 256) .bf16) (ha : a.IsWhole) (hb : b.IsWhole)
    (oc : Memref sig .tc .vmem (Cls g.H g.W) .f32) (ob : Memref sig .tc .vmem (Box g.H g.W) .f32)
    (vwm : FVec F ⟨3, ![4, 2304, 256]⟩ .bf16) (vwh : FVec F (Mat 2304 16) .bf16) (vbm : FVec F ⟨3, ![4, 1, 256]⟩ .f32) (vbh : FVec F (Mat 1 16) .f32)
    (vx : FVec F (Mat g.M 256) .bf16) (Q : PUnit → sProp 𝕄) :
    iprop(Has c wm vwm ∗ Has c wh vwh ∗ Has c bm vbm ∗ Has c bh vbh ∗ (∃ d, Has c o d) ∗ Has c x vx ∗ (∃ d, Has c a d) ∗ (∃ d, Has c b d)
        ∗ (∃ d, Has c oc d) ∗ (∃ d, Has c ob d)
        ∗ (Has c wm vwm ∗ Has c wh vwh ∗ Has c bm vbm ∗ Has c bh vbh ∗ (∃ d, Has c o d) ∗ Has c x vx ∗ (∃ d, Has c a d) ∗ (∃ d, Has c b d)
          ∗ Has c oc (clsOut hg (levelOut hg vwm vwh vbm vbh vx)) ∗ Has c ob (boxOut hg (levelOut hg vwm vwh vbm vbh vx)) -∗ Q ⟨⟩))
      ⊢ Wp c (level hg wm wh bm bh o x a b ha hb oc ob) Q := by
  unfold level
  rw [wp_bind']
  iintro ⟨Hwm, Hwh, Hbm, Hbh, ⟨%vo, Ho⟩, Hx, ⟨%va, Ha⟩, ⟨%vb, Hb⟩, ⟨%vc, Hc⟩, ⟨%vd, Hd⟩, Hk⟩
  iapply (wp_zeroEnds hg c a ha va _)
  isplitl [Ha]; · iexact Ha
  iintro %va1
  iintro %hva
  iintro Ha
  rw [wp_bind']
  iapply (wp_zeroEnds hg c b hb vb _)
  isplitl [Hb]; · iexact Hb
  iintro %vb1
  iintro %hvb
  iintro Hb
  rw [wp_bind']
  iapply (wp_trunkConv hg c wm bm 0 _ x a ha vwm vbm vx va1 hva _)
  isplitl [Hwm]; · iexact Hwm
  isplitl [Hbm]; · iexact Hbm
  isplitl [Hx]; · iexact Hx
  isplitl [Ha]; · iexact Ha
  iintro ⟨Hwm, Hbm, Hx, Ha⟩
  rw [wp_bind']
  iapply (wp_trunkConv hg c wm bm 1 _ a b hb vwm vbm _ vb1 hvb _)
  isplitl [Hwm]; · iexact Hwm
  isplitl [Hbm]; · iexact Hbm
  isplitl [Ha]; · iexact Ha
  isplitl [Hb]; · iexact Hb
  iintro ⟨Hwm, Hbm, Ha, Hb⟩
  rw [wp_bind']
  iapply (wp_trunkConv hg c wm bm 2 _ b a ha vwm vbm _ _ (trunkOut_ends hg _ _ _) _)
  isplitl [Hwm]; · iexact Hwm
  isplitl [Hbm]; · iexact Hbm
  isplitl [Hb]; · iexact Hb
  isplitl [Ha]; · iexact Ha
  iintro ⟨Hwm, Hbm, Hb, Ha⟩
  rw [wp_bind']
  iapply (wp_trunkConv hg c wm bm 3 _ a b hb vwm vbm _ _ (trunkOut_ends hg _ _ _) _)
  isplitl [Hwm]; · iexact Hwm
  isplitl [Hbm]; · iexact Hbm
  isplitl [Ha]; · iexact Ha
  isplitl [Hb]; · iexact Hb
  iintro ⟨Hwm, Hbm, Ha, Hb⟩
  rw [wp_bind']
  iapply (wp_loadRows c bh 0 1 _ _ _ vbh _)
  isplitl [Hbh]; · iexact Hbh
  iintro Hbh
  rw [wp_bind']
  iapply (wp_headFrom hg c b o wh _ vwh _ _ g.n le_rfl vo (fun j h hj => absurd hj (by rw [Nat.sub_self, Nat.zero_mul]; omega)))
  isplitl [Hb]; · iexact Hb
  isplitl [Hwh]; · iexact Hwh
  isplitl [Ho]; · iexact Ho
  iintro %vo1
  iintro %hvo
  iintro ⟨Hb, Hwh, Ho⟩
  rw [wp_bind']
  iapply (wp_loadRows c o 0 (g.H * g.Wp) _ _ _ vo1 _)
  isplitl [Ho]; · iexact Ho
  iintro Ho
  rw [head_rows hvo _ hg.size]
  iapply (wp_rowsFrom hg c oc ob _ _ g.H le_rfl vc vd (fun j hj => absurd hj (by rw [Nat.sub_self]; omega)) (fun j hj => absurd hj (by rw [Nat.sub_self]; omega)))
  isplitl [Hc]; · iexact Hc
  isplitl [Hd]; · iexact Hd
  iintro ⟨Hc, Hd⟩
  iapply Hk
  isplitl [Hwm]; · iexact Hwm
  isplitl [Hwh]; · iexact Hwh
  isplitl [Hbm]; · iexact Hbm
  isplitl [Hbh]; · iexact Hbh
  isplitl [Ho]; · iexists _; iexact Ho
  isplitl [Hx]; · iexact Hx
  isplitl [Ha]; · iexists _; iexact Ha
  isplitl [Hb]; · iexists _; iexact Hb
  isplitl [Hc]; · iexact Hc
  iexact Hd

end Fpn

end
-- ==== Proof.Copies.lean ====
/-
  The copies in, run: each of the eight scratch buffers ends with what its array holds.
-/
module

public import proofs.«01_k».proof.Proof.Rules
public import proofs.«01_k».proof.Proof.Gen.KernelIdeal.Frame.Runs

@[expose] public section

set_option maxRecDepth 16384

noncomputable section

namespace Fpn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The copies' own semaphores at zero. -/
abbrev Sems0 (c : Dev nD) : sProp 𝕄 :=
  iprop(semVal ((c : Thread nD τ), SemLoc.dma 8) 0 ∗ semVal ((c : Thread nD τ), SemLoc.dma 9) 0 ∗ semVal ((c : Thread nD τ), SemLoc.dma 10) 0
    ∗ semVal ((c : Thread nD τ), SemLoc.dma 11) 0 ∗ semVal ((c : Thread nD τ), SemLoc.dma 12) 0 ∗ semVal ((c : Thread nD τ), SemLoc.dma 13) 0
    ∗ semVal ((c : Thread nD τ), SemLoc.dma 14) 0 ∗ semVal ((c : Thread nD τ), SemLoc.dma 15) 0)

/-- The arrays the body copies in, at their contents. -/
abbrev Arrays (c : Dev nD) (f0 : HbBuf0 (F := F) c hbM0_0) (f1 : HbBuf0 (F := F) c hbM0_1) (f2 : HbBuf0 (F := F) c hbM0_2) (f3 : HbBuf0 (F := F) c hbM0_3)
    (f4 : HbBuf0 (F := F) c hbM0_4) (f5 : HbBuf0 (F := F) c hbM0_5) (f6 : HbBuf0 (F := F) c hbM0_6) (f7 : HbBuf0 (F := F) c hbM0_7) : sProp 𝕄 :=
  iprop(hbPt0 c hbM0_0 f0 ∗ hbPt0 c hbM0_1 f1 ∗ hbPt0 c hbM0_2 f2 ∗ hbPt0 c hbM0_3 f3 ∗ hbPt0 c hbM0_4 f4 ∗ hbPt0 c hbM0_5 f5 ∗ hbPt0 c hbM0_6 f6
    ∗ hbPt0 c hbM0_7 f7)

set_option maxHeartbeats 4000000 in
theorem wp_copies (c : Dev nD) (f0 : HbBuf0 (F := F) c hbM0_0) (f1 : HbBuf0 (F := F) c hbM0_1) (f2 : HbBuf0 (F := F) c hbM0_2) (f3 : HbBuf0 (F := F) c hbM0_3)
    (f4 : HbBuf0 (F := F) c hbM0_4) (f5 : HbBuf0 (F := F) c hbM0_5) (f6 : HbBuf0 (F := F) c hbM0_6) (f7 : HbBuf0 (F := F) c hbM0_7)
    (W : Waits sig Unit) (Q : PUnit → sProp 𝕄) :
    iprop((∃ d, Has c scM0_0 d) ∗ (∃ d, Has c scM0_1 d) ∗ (∃ d, Has c scM0_2 d) ∗ (∃ d, Has c scM0_3 d) ∗ (∃ d, Has c scM0_4 d) ∗ (∃ d, Has c scM0_5 d)
        ∗ (∃ d, Has c scM0_6 d) ∗ (∃ d, Has c scM0_7 d) ∗ Sems0 c ∗ Arrays c f0 f1 f2 f3 f4 f5 f6 f7 ∗ owes (c : Thread nD τ) 0 W
        ∗ (Has c scM0_0 (hbM0_0.view.read (Elt F) f0) ∗ Has c scM0_1 (hbM0_1.view.read (Elt F) f1) ∗ Has c scM0_2 (hbM0_2.view.read (Elt F) f2) ∗ Has c scM0_3 (hbM0_3.view.read (Elt F) f3)
          ∗ Has c scM0_4 (hbM0_4.view.read (Elt F) f4) ∗ Has c scM0_5 (hbM0_5.view.read (Elt F) f5) ∗ Has c scM0_6 (hbM0_6.view.read (Elt F) f6) ∗ Has c scM0_7 (hbM0_7.view.read (Elt F) f7) ∗ Sems0 c
          ∗ Arrays c f0 f1 f2 f3 f4 f5 f6 f7 ∗ (∃ W', owes (c : Thread nD τ) 0 W') -∗ Q ⟨⟩))
      ⊢ Wp c (copies hbM0_0 (Memref.isWhole_whole _) hbM0_1 (Memref.isWhole_whole _) hbM0_2 (Memref.isWhole_whole _) hbM0_3 (Memref.isWhole_whole _)
          hbM0_4 (Memref.isWhole_whole _) hbM0_5 (Memref.isWhole_whole _) hbM0_6 (Memref.isWhole_whole _) hbM0_7 (Memref.isWhole_whole _)
          scM0_0 (Memref.isWhole_whole _) scM0_1 (Memref.isWhole_whole _) scM0_2 (Memref.isWhole_whole _) scM0_3 (Memref.isWhole_whole _)
          scM0_4 (Memref.isWhole_whole _) scM0_5 (Memref.isWhole_whole _) scM0_6 (Memref.isWhole_whole _) scM0_7 (Memref.isWhole_whole _) cc0_scratch9) Q := by
  unfold Wp copies start await sem8 Has owns Sems0 Arrays
  iintro ⟨⟨%d0, %g0, -, H0⟩, ⟨%d1, %g1, -, H1⟩, ⟨%d2, %g2, -, H2⟩, ⟨%d3, %g3, -, H3⟩, ⟨%d4, %g4, -, H4⟩, ⟨%d5, %g5, -, H5⟩, ⟨%d6, %g6, -, H6⟩, ⟨%d7, %g7, -, H7⟩,
    ⟨Hq0, Hq1, Hq2, Hq3, Hq4, Hq5, Hq6, Hq7⟩, ⟨Hh0, Hh1, Hh2, Hh3, Hh4, Hh5, Hh6, Hh7⟩, HW, Hk⟩
  sl_exec
  sl_step
  iapply Hk
  isplitl [H0]
  · iexists _; isplitr
    swap; · iexact H0
    ipureintro; exact View.read_writes_whole _ _ _
  isplitl [H1]
  · iexists _; isplitr
    swap; · iexact H1
    ipureintro; exact View.read_writes_whole _ _ _
  isplitl [H2]
  · iexists _; isplitr
    swap; · iexact H2
    ipureintro; exact View.read_writes_whole _ _ _
  isplitl [H3]
  · iexists _; isplitr
    swap; · iexact H3
    ipureintro; exact View.read_writes_whole _ _ _
  isplitl [H4]
  · iexists _; isplitr
    swap; · iexact H4
    ipureintro; exact View.read_writes_whole _ _ _
  isplitl [H5]
  · iexists _; isplitr
    swap; · iexact H5
    ipureintro; exact View.read_writes_whole _ _ _
  isplitl [H6]
  · iexists _; isplitr
    swap; · iexact H6
    ipureintro; exact View.read_writes_whole _ _ _
  isplitl [H7]
  · iexists _; isplitr
    swap; · iexact H7
    ipureintro; exact View.read_writes_whole _ _ _
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0 Hh1 Hh2 Hh3 Hh4 Hh5 Hh6 Hh7]
  · isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    iexact Hh7
  iexists _; iexact HW

end Fpn

end
-- ==== Proof.Launch.lean ====
/-
  The launch: the whole body's triple, the pipeline's proof data with each result at its plain function, and the run
  of the program with every argument unchanged.
-/
module

public import proofs.«01_k».proof.Proof.Unroll
public import proofs.«01_k».proof.Proof.Level
public import proofs.«01_k».proof.Proof.Copies

@[expose] public section

set_option maxRecDepth 16384

noncomputable section

namespace Fpn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weights and the biases as the body copies them in. -/
abbrev inWm (c : Dev nD) : FVec F S4x2304x256 .bf16 := hbM0_4.view.read (Elt F) (V m c main_v40)
abbrev inWh (c : Dev nD) : FVec F S2304x16 .bf16 := hbM0_5.view.read (Elt F) (V m c main_v45)
abbrev inBm (c : Dev nD) : FVec F S4x1x256 .f32 := hbM0_6.view.read (Elt F) (V m c main_v54)
abbrev inBh (c : Dev nD) : FVec F S1x16 .f32 := hbM0_7.view.read (Elt F) (V m c main_v57)

/-- The head's channels by positions of each level. -/
def out0 (c : Dev nD) : FVec F (Mat 16 (g0.H * g0.Wp)) .f32 :=
  levelOut g0_ok (inWm m c) (inWh m c) (inBm m c) (inBh m c) (hbM0_0.view.read (Elt F) (V m c main_v5))
def out1 (c : Dev nD) : FVec F (Mat 16 (g1.H * g1.Wp)) .f32 :=
  levelOut g1_ok (inWm m c) (inWh m c) (inBm m c) (inBh m c) (hbM0_1.view.read (Elt F) (V m c main_v11))
def out2 (c : Dev nD) : FVec F (Mat 16 (g2.H * g2.Wp)) .f32 :=
  levelOut g2_ok (inWm m c) (inWh m c) (inBm m c) (inBh m c) (hbM0_2.view.read (Elt F) (V m c main_v17))
def out3 (c : Dev nD) : FVec F (Mat 16 (g3.H * g3.Wp)) .f32 :=
  levelOut g3_ok (inWm m c) (inWh m c) (inBm m c) (inBh m c) (hbM0_3.view.read (Elt F) (V m c main_v23))

/-- The proof data of the pipeline: the arrays as the region finds them, each result at its plain function. -/
def dats (_ : Fin 1) (c : Dev nD) : Dat τ (Elt F) Unit ℕ (Pipeline.UD sig nD τ) ℕ cfg0 c where
  A w := V m c (Pipeline.arrRef spec0 w)
  after w t := match w with
    | ⟨0, _⟩ => clsOut g0_ok (out0 m c)
    | ⟨1, _⟩ => boxOut g0_ok (out0 m c)
    | ⟨2, _⟩ => clsOut g1_ok (out1 m c)
    | ⟨3, _⟩ => boxOut g1_ok (out1 m c)
    | ⟨4, _⟩ => clsOut g2_ok (out2 m c)
    | ⟨5, _⟩ => boxOut g2_ok (out2 m c)
    | ⟨6, _⟩ => clsOut g3_ok (out3 m c)
    | ⟨7, _⟩ => boxOut g3_ok (out3 m c)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = clsOut g0_ok (out0 m c) := by dsimp only [dats]
theorem after_1 (c : Dev nD) (t : Fin cfg0.N) : (dats m 0 c).after 1 t = boxOut g0_ok (out0 m c) := by dsimp only [dats]
theorem after_2 (c : Dev nD) (t : Fin cfg0.N) : (dats m 0 c).after 2 t = clsOut g1_ok (out1 m c) := by dsimp only [dats]
theorem after_3 (c : Dev nD) (t : Fin cfg0.N) : (dats m 0 c).after 3 t = boxOut g1_ok (out1 m c) := by dsimp only [dats]
theorem after_4 (c : Dev nD) (t : Fin cfg0.N) : (dats m 0 c).after 4 t = clsOut g2_ok (out2 m c) := by dsimp only [dats]
theorem after_5 (c : Dev nD) (t : Fin cfg0.N) : (dats m 0 c).after 5 t = boxOut g2_ok (out2 m c) := by dsimp only [dats]
theorem after_6 (c : Dev nD) (t : Fin cfg0.N) : (dats m 0 c).after 6 t = clsOut g3_ok (out3 m c) := by dsimp only [dats]
theorem after_7 (c : Dev nD) (t : Fin cfg0.N) : (dats m 0 c).after 7 t = boxOut g3_ok (out3 m c) := by dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 2400000 in
/-- The body at any point: the copies in, then the four levels one after another. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  unfold body
  rw [show (dats m 0 c).Φ t.succ = (dats m 0 c).Φ t.castSucc from rfl,
    after_0, after_1, after_2, after_3, after_4, after_5, after_6, after_7]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold out0 out1 out2 out3
  iintro ⟨⟨⟨HS0, HS1, HS2, HS3, HS4, HS5, HS6, HS7, HS8, HS9, HS10, HS11, HS12, HS13, HS14, HS15, HS16⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  rw [wp_bind]
  iapply (wp_copies c (V m c main_v5) (V m c main_v11) (V m c main_v17) (V m c main_v23) (V m c main_v40) (V m c main_v45) (V m c main_v54) (V m c main_v57) W _)
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq]; · iexact Hq
  isplitl [Hh]; · iexact Hh
  isplitl [HW]; · iexact HW
  iintro ⟨HS0, HS1, HS2, HS3, HS4, HS5, HS6, HS7, Hq, Hh, ⟨%W', HW⟩⟩
  rw [wp_bind]
  iapply (wp_level g0_ok c _ _ _ _ _ _ _ _ _ _ _ _ (inWm m c) (inWh m c) (inBm m c) (inBh m c) _ _)
  isplitl [HS4]; · iexact HS4
  isplitl [HS5]; · iexact HS5
  isplitl [HS6]; · iexact HS6
  isplitl [HS7]; · iexact HS7
  isplitl [HS8]; · iexact HS8
  isplitl [HS0]; · iexact HS0
  isplitl [HS9]; · iexact HS9
  isplitl [HS10]; · iexact HS10
  isplitl [H0]; · iexists _; iexact H0
  isplitl [H1]; · iexists _; iexact H1
  iintro ⟨HS4, HS5, HS6, HS7, HS8, HS0, HS9, HS10, H0, H1⟩
  rw [wp_bind]
  iapply (wp_level g1_ok c _ _ _ _ _ _ _ _ _ _ _ _ (inWm m c) (inWh m c) (inBm m c) (inBh m c) _ _)
  isplitl [HS4]; · iexact HS4
  isplitl [HS5]; · iexact HS5
  isplitl [HS6]; · iexact HS6
  isplitl [HS7]; · iexact HS7
  isplitl [HS8]; · iexact HS8
  isplitl [HS1]; · iexact HS1
  isplitl [HS11]; · iexact HS11
  isplitl [HS12]; · iexact HS12
  isplitl [H2]; · iexists _; iexact H2
  isplitl [H3]; · iexists _; iexact H3
  iintro ⟨HS4, HS5, HS6, HS7, HS8, HS1, HS11, HS12, H2, H3⟩
  rw [wp_bind]
  iapply (wp_level g2_ok c _ _ _ _ _ _ _ _ _ _ _ _ (inWm m c) (inWh m c) (inBm m c) (inBh m c) _ _)
  isplitl [HS4]; · iexact HS4
  isplitl [HS5]; · iexact HS5
  isplitl [HS6]; · iexact HS6
  isplitl [HS7]; · iexact HS7
  isplitl [HS8]; · iexact HS8
  isplitl [HS2]; · iexact HS2
  isplitl [HS13]; · iexact HS13
  isplitl [HS14]; · iexact HS14
  isplitl [H4]; · iexists _; iexact H4
  isplitl [H5]; · iexists _; iexact H5
  iintro ⟨HS4, HS5, HS6, HS7, HS8, HS2, HS13, HS14, H4, H5⟩
  iapply (wp_level g3_ok c _ _ _ _ _ _ _ _ _ _ _ _ (inWm m c) (inWh m c) (inBm m c) (inBh m c) _ _)
  isplitl [HS4]; · iexact HS4
  isplitl [HS5]; · iexact HS5
  isplitl [HS6]; · iexact HS6
  isplitl [HS7]; · iexact HS7
  isplitl [HS8]; · iexact HS8
  isplitl [HS3]; · iexact HS3
  isplitl [HS15]; · iexact HS15
  isplitl [HS16]; · iexact HS16
  isplitl [H6]; · iexists _; iexact H6
  isplitl [H7]; · iexists _; iexact H7
  iintro ⟨HS4, HS5, HS6, HS7, HS8, HS3, HS15, HS16, H6, H7⟩
  isplitl [HS0 HS1 HS2 HS3 HS4 HS5 HS6 HS7 HS8 HS9 HS10 HS11 HS12 HS13 HS14 HS15 HS16 Hg Hq Hh]
  · isplitl [HS0 HS1 HS2 HS3 HS4 HS5 HS6 HS7 HS8 HS9 HS10 HS11 HS12 HS13 HS14 HS15 HS16]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      iexact HS16
    isplitl [Hg]; · iexact Hg
    isplitl [Hq]; · iexact Hq
    iexact Hh
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, to the proof data's arrays, with every semaphore's counter at zero at the end. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_quiescent m ρ)

end Fpn

end
-- ==== Proof.Frames.lean ====
/-
  The frames: the program ends with its arguments unchanged and every semaphore's counter at zero, at any reading of the
  floats. The program before its printing for the value claims has the same text, so its frame is the same statement.
-/
module

public import proofs.«01_k».proof.Proof.Launch
public import proofs.«01_k».proof.Proof.Gen.Kernel
public import Idealize.ShloMosaic.Lib.Claim

@[expose] public section

set_option maxRecDepth 16384

noncomputable section

namespace Fpn

open Idealize.ShloMosaic Idealize.ShloMosaic.TcCoe Idealize.ShloMosaic.Tactic
open Idealize.SL Idealize.SL.Sem

/-- The frame of the program as it was first printed. -/
def FrameKernel (F : FTy → Type) [FloatOps F] : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

/-- The frame of the program the value claim is about. -/
def FrameIdeal (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

theorem frameIdeal (F : FTy → Type) [FloatOps F] : FrameIdeal F := fun m ρ =>
  θ_run_and (Cert.KernelIdeal.Gen.frame_of m ρ (dats m) (A_eq m) (run_main m ρ))
    ((θ_run Cert.KernelIdeal.defs _ _).mono (fun _ h => h.2) (run_quiescent m ρ))

/-- The two programs have the same text. -/
theorem frame_twin (F : FTy → Type) [FloatOps F] : FrameKernel F = FrameIdeal F := by sl_kernel_rfl

theorem frameKernel (F : FTy → Type) [FloatOps F] : FrameKernel F := (frame_twin F).mpr (frameIdeal F)

end Fpn

end
-- ==== Proof.Spec.lean ====
/-
  The mathematics both programs compute, over extended reals: a picture of 256 channels with zeros around it, a 3×3
  convolution as the sum of its nine taps from the first to the last, a layer of the trunk.
-/
module

public import Idealize.ShloMosaic.PureOps.Ideal.Laws

@[expose] public section

noncomputable section

namespace Fpn

open scoped BigOperators

/-- A picture of 256 channels. -/
abbrev Feat (H W : ℕ) := Fin 256 → Fin H → Fin W → EReal

/-- The picture with a frame of zeros, one wide: its own rows and columns are counted from one. -/
def padded {H W : ℕ} (f : Feat H W) (a b : ℕ) (c : Fin 256) : EReal :=
  if h : (1 ≤ a ∧ a ≤ H) ∧ (1 ≤ b ∧ b ≤ W) then f c ⟨a - 1, by omega⟩ ⟨b - 1, by omega⟩ else 0

theorem padded_in {H W : ℕ} (f : Feat H W) {a b : ℕ} (c : Fin 256) (h : Fin H) (w : Fin W) (ha : a = h.val + 1) (hb : b = w.val + 1) :
    padded f a b c = f c h w := by
  have := h.isLt; have := w.isLt
  subst ha hb
  exact dif_pos ⟨⟨by omega, by omega⟩, by omega, by omega⟩

theorem padded_out {H W : ℕ} (f : Feat H W) {a b : ℕ} (c : Fin 256) (h : ¬((1 ≤ a ∧ a ≤ H) ∧ (1 ≤ b ∧ b ≤ W))) : padded f a b c = 0 :=
  dif_neg h

/-- Weights of a convolution to `C` channels: tap, channel in, channel out. -/
abbrev Wts (C : ℕ) := ℕ → Fin 256 → Fin C → EReal

/-- The last `k` of the nine taps added onto `acc`, at row `h` and column `w`. -/
def sumTaps {C : ℕ} (p : ℕ → ℕ → Fin 256 → EReal) (wt : Wts C) (h w : ℕ) (o : Fin C) : ℕ → EReal → EReal
  | 0, acc => acc
  | k + 1, acc => sumTaps p wt h w o k (acc + ∑ c, p (h + (8 - k) / 3) (w + (8 - k) % 3) c * wt (8 - k) c o)

/-- The convolution and its bias. -/
def convAt {C : ℕ} (p : ℕ → ℕ → Fin 256 → EReal) (wt : Wts C) (b : Fin C → EReal) (h w : ℕ) (o : Fin C) : EReal :=
  sumTaps p wt h w o 9 0 + b o

/-- A layer of the trunk: a convolution, its bias, the rectifier. -/
def layer {H W : ℕ} (wt : Wts 256) (b : Fin 256 → EReal) (f : Feat H W) : Feat H W := fun o h w =>
  max (convAt (padded f) wt b h.val w.val o) 0

/-- The four layers of the trunk. -/
def trunk {H W : ℕ} (wt : ℕ → Wts 256) (b : ℕ → Fin 256 → EReal) (f : Feat H W) : Feat H W :=
  layer (wt 3) (b 3) (layer (wt 2) (b 2) (layer (wt 1) (b 1) (layer (wt 0) (b 0) f)))

end Fpn

end
-- ==== Proof.Reference.lean ====
/-
  The reference's convolution, written for any sizes, read at an index: the sum of the nine products of a tap's weights
  with a shifted piece of the padded picture is the convolution of `Spec`.
-/
module

public import proofs.«01_k».proof.Proof.Spec
public import Idealize.ShloMosaic.Lib.IdealHost
public import Idealize.ShloMosaic.Lib.KernelVsHost
public import Idealize.ShloMosaic.Lib.ValueLayout

@[expose] public section

set_option maxRecDepth 16384

noncomputable section

namespace Fpn

open Idealize.ShloMosaic Idealize.ShloMosaic.ValueIdx
open scoped BigOperators

/-- The shapes of a picture of `C` channels, of a convolution's weights, of a vector. -/
abbrev Pic (C H W : ℕ) : Shape := ⟨3, ![C, H, W]⟩
abbrev Wgt (O k : ℕ) : Shape := ⟨4, ![O, 256, k, k]⟩
abbrev Row (n : ℕ) : Shape := ⟨1, ![n]⟩

/-- A matrix of weights by a picture, over the channels. -/
def convDims (O H W : ℕ) : DotDims ⟨2, ![O, 256]⟩ (Pic 256 H W) (Pic O H W) where
  lhsContracting := [1]
  rhsContracting := [0]
  lhsNonContracting := [0]
  rhsNonContracting := [1, 2]
  lhsBatch := []
  rhsBatch := []
  wf := ⟨rfl, by simp, rfl, by simp, by simp, by simp, by simp [List.finRange], by
      show List.Perm [(1 : Fin 3), 2, 0] (List.finRange 3); decide,
    rfl, by show 0 < 3; omega, fun b => match b with
      | ⟨0, _⟩ => rfl
      | ⟨1, _⟩ => rfl
      | ⟨2, _⟩ => rfl⟩

theorem convDims_apply {O H W : ℕ} (A : FVec Ideal ⟨2, ![O, 256]⟩ .f32) (B : FVec Ideal (Pic 256 H W) .f32) (o : Fin O) (h : Fin H) (w : Fin W) :
    Host.dotGeneral (convDims O H W) none A B (ix3 o h w) = ∑ c : Fin 256, A (ix2 o c) * B (ix3 c h w) := by
  show FloatOps.dotGeneral _ none _ A B (ix3 o h w) = _
  rw [Ideal.dotGeneral_apply, ← Equiv.sum_comp (contrEquiv1 (convDims O H W) 256 rfl rfl).symm]
  refine Finset.sum_congr rfl fun c _ => ?_
  have hc := contrEquiv1_symm_val (convDims O H W) 256 rfl rfl c
  have l : (convDims O H W).lhsIdx (ix3 o h w) ((contrEquiv1 _ 256 rfl rfl).symm c) = ix2 o c := by
    funext ax; apply Fin.ext
    match ax with
    | ⟨0, _⟩ => rfl
    | ⟨1, _⟩ => exact hc
  have r : (convDims O H W).rhsIdx (ix3 o h w) ((contrEquiv1 _ 256 rfl rfl).symm c) = ix3 c h w := by
    funext ax; apply Fin.ext
    match ax with
    | ⟨0, _⟩ => exact hc
    | ⟨1, _⟩ => rfl
    | ⟨2, _⟩ => rfl
  rw [l, r]

section
variable {F : FTy → Type} [FloatOps F]

theorem slices_wgt {O ky kx : ℕ} (hy : ky < 3) (hx : kx < 3) : (Wgt O 3).Slices ![0, 0, ky, kx] (Wgt O 1) :=
  ⟨rfl, fun a => match a with
    | ⟨0, _⟩ => (Nat.zero_add O).le
    | ⟨1, _⟩ => (Nat.zero_add 256).le
    | ⟨2, _⟩ => hy
    | ⟨3, _⟩ => hx⟩

theorem slices_pic {H W ky kx : ℕ} (hy : ky < 3) (hx : kx < 3) : (Pic 256 (H + 2) (W + 2)).Slices ![0, ky, kx] (Pic 256 H W) :=
  ⟨rfl, fun a => match a with
    | ⟨0, _⟩ => (Nat.zero_add 256).le
    | ⟨1, _⟩ => show ky + H ≤ H + 2 by omega
    | ⟨2, _⟩ => show kx + W ≤ W + 2 by omega⟩

theorem casts_wgt (O : ℕ) : (Wgt O 1).ShapeCasts ⟨2, ![O, 256]⟩ := by
  simp [Shape.ShapeCasts, Shape.numel, Fin.prod_univ_succ]

/-- One tap. -/
def refTap {O H W : ℕ} (w : FVec F (Wgt O 3) .f32) (xp : FVec F (Pic 256 (H + 2) (W + 2)) .f32) (ky kx : ℕ) (hy : ky < 3) (hx : kx < 3) :
    FVec F (Pic O H W) .f32 :=
  Host.dotGeneral (convDims O H W) none (shapeCast ⟨2, ![O, 256]⟩ (extractStridedSlice (Wgt O 1) ![0, 0, ky, kx] w (slices_wgt hy hx)) (casts_wgt O))
    (extractStridedSlice (Pic 256 H W) ![0, ky, kx] xp (slices_pic hy hx))

theorem scalar_bcast (t : Shape) : (⟨0, ![]⟩ : Shape).BroadcastsInDim t ![] := ⟨fun a => a.elim0, fun a => a.elim0⟩

theorem bcast_bias1 (O : ℕ) : (Row O).BroadcastsInDim (Pic O 1 1) ![0] :=
  ⟨fun a b _ => Subsingleton.elim a b, fun a => match a with | ⟨0, _⟩ => .inr rfl⟩

theorem bcast_bias2 (O H W : ℕ) : (Pic O 1 1).BroadcastsInDim (Pic O H W) ![0, 1, 2] :=
  ⟨by show Function.Injective (![0, 1, 2] : Fin 3 → Fin 3); decide, fun a => match a with
    | ⟨0, _⟩ => .inr rfl
    | ⟨1, _⟩ => .inl rfl
    | ⟨2, _⟩ => .inl rfl⟩

/-- Zeros. -/
def refZero (t : Shape) : FVec F t .f32 := broadcastInDim t ![] (scalar_bcast t) (constant ⟨0, ![]⟩ .f32 0x00000000#32)

/-- The nine taps from zero, and the bias. -/
def refConv {O H W : ℕ} (w : FVec F (Wgt O 3) .f32) (b : FVec F (Row O) .f32) (xp : FVec F (Pic 256 (H + 2) (W + 2)) .f32) : FVec F (Pic O H W) .f32 :=
  addf (addf (addf (addf (addf (addf (addf (addf (addf (addf (refZero (Pic O H W))
    (refTap w xp 0 0 (by omega) (by omega))) (refTap w xp 0 1 (by omega) (by omega))) (refTap w xp 0 2 (by omega) (by omega)))
    (refTap w xp 1 0 (by omega) (by omega))) (refTap w xp 1 1 (by omega) (by omega))) (refTap w xp 1 2 (by omega) (by omega)))
    (refTap w xp 2 0 (by omega) (by omega))) (refTap w xp 2 1 (by omega) (by omega))) (refTap w xp 2 2 (by omega) (by omega)))
    (broadcastInDim (Pic O H W) ![0, 1, 2] (bcast_bias2 O H W) (broadcastInDim (Pic O 1 1) ![0] (bcast_bias1 O) b))

theorem pads_pic (H W : ℕ) : (Pic 256 H W).Pads ![0, 1, 1] ![0, 1, 1] ![0, 0, 0] (Pic 256 (H + 2) (W + 2)) :=
  ⟨rfl, fun a => match a with
    | ⟨0, _⟩ => by show 256 = _; simp
    | ⟨1, _⟩ => by show H + 2 = _; simp; omega
    | ⟨2, _⟩ => by show W + 2 = _; simp; omega⟩

/-- The frame of zeros. -/
def refPad {H W : ℕ} (x : FVec F (Pic 256 H W) .f32) : FVec F (Pic 256 (H + 2) (W + 2)) .f32 :=
  pad (Pic 256 (H + 2) (W + 2)) ![0, 1, 1] ![0, 1, 1] ![0, 0, 0] x (sitofp .f32 (constantI ⟨0, ![]⟩ 32 0#32) : FVec F ⟨0, ![]⟩ .f32) (pads_pic H W) (by decide)

/-- A layer of the trunk. -/
def refLayer {H W : ℕ} (w : FVec F (Wgt 256 3) .f32) (b : FVec F (Row 256) .f32) (xp : FVec F (Pic 256 (H + 2) (W + 2)) .f32) :
    FVec F (Pic 256 (H + 2) (W + 2)) .f32 := refPad (maximumf (refConv w b xp) (refZero (Pic 256 H W)))

/-- The trunk, with its frame. -/
def refTrunk {H W : ℕ} (x : FVec F ⟨4, ![1, 256, H, W]⟩ .f32) (w0 w1 w2 w3 : FVec F (Wgt 256 3) .f32) (b0 b1 b2 b3 : FVec F (Row 256) .f32) :
    FVec F (Pic 256 (H + 2) (W + 2)) .f32 :=
  refLayer w3 b3 (refLayer w2 b2 (refLayer w1 b1 (refLayer w0 b0
    (refPad (shapeCast (Pic 256 H W) x (by simp [Shape.ShapeCasts, Shape.numel, Fin.prod_univ_succ]))))))

/-- The class scores and the box offsets. -/
def refCls {H W : ℕ} (xp : FVec F (Pic 256 (H + 2) (W + 2)) .f32) (wc : FVec F (Wgt 3 3) .f32) (bc : FVec F (Row 3) .f32) :
    FVec F ⟨5, ![1, 3, 1, H, W]⟩ .f32 :=
  shapeCast ⟨5, ![1, 3, 1, H, W]⟩ (refConv wc bc xp) (by simp [Shape.ShapeCasts, Shape.numel, Fin.prod_univ_succ])

def refBox {H W : ℕ} (xp : FVec F (Pic 256 (H + 2) (W + 2)) .f32) (wb : FVec F (Wgt 12 3) .f32) (bb : FVec F (Row 12) .f32) :
    FVec F ⟨5, ![1, 3, 4, H, W]⟩ .f32 :=
  shapeCast ⟨5, ![1, 3, 4, H, W]⟩ (refConv wb bb xp) (by simp [Shape.ShapeCasts, Shape.numel, Fin.prod_univ_succ]; omega)

end

/-! ### Read at an index -/

/-- The weights by tap. -/
def wts {O : ℕ} (w : FVec Ideal (Wgt O 3) .f32) : Wts O := fun t c o =>
  w (ix4 o c ⟨t / 3 % 3, Nat.mod_lt _ (by omega)⟩ ⟨t % 3, Nat.mod_lt _ (by omega)⟩)

/-- The padded array holds the framed picture. -/
def PicHolds {H W : ℕ} (xp : FVec Ideal (Pic 256 (H + 2) (W + 2)) .f32) (f : Feat H W) : Prop :=
  ∀ (c : Fin 256) (a : Fin (H + 2)) (b : Fin (W + 2)), xp (ix3 c a b) = padded f a.val b.val c

section
variable {O H W : ℕ}

theorem refZero_apply (t : Shape) (j : t.Idx) : refZero (F := Ideal) t j = 0 := Ideal.ofBits_zero_f32

theorem refTap_apply (w : FVec Ideal (Wgt O 3) .f32) {xp : FVec Ideal (Pic 256 (H + 2) (W + 2)) .f32} {f : Feat H W} (hx : PicHolds xp f)
    (t : ℕ) (ht : t < 9) (o : Fin O) (h : Fin H) (v : Fin W) :
    refTap w xp (t / 3) (t % 3) (by omega) (by omega) (ix3 o h v) = ∑ c, padded f (h.val + t / 3) (v.val + t % 3) c * wts w t c o := by
  refine (convDims_apply _ _ o h v).trans (Finset.sum_congr rfl fun c _ => ?_)
  rw [mul_comm]
  refine congrArg₂ (· * ·) ?_ ?_
  · refine Eq.trans (congrArg xp (funext fun a => Fin.ext ?_))
      (hx c ⟨h.val + t / 3, by omega⟩ ⟨v.val + t % 3, by omega⟩)
    match a with
    | ⟨0, _⟩ => exact Nat.zero_add _
    | ⟨1, _⟩ => exact Nat.add_comm _ _
    | ⟨2, _⟩ => exact Nat.add_comm _ _
  · refine (shapeCast_apply _ _ _ (ix4 o c 0 0) ?_).trans (congrArg w (funext fun a => Fin.ext ?_))
    · rw [Shape.rowMajor_val_four, Shape.rowMajor_val_two]
      show ((o.val * 256 + c.val) * 1 + 0) * 1 + 0 = o.val * 256 + c.val
      omega
    · match a with
      | ⟨0, _⟩ => exact Nat.zero_add _
      | ⟨1, _⟩ => exact Nat.zero_add _
      | ⟨2, _⟩ => show t / 3 + 0 = t / 3 % 3; omega
      | ⟨3, _⟩ => rfl

theorem refConv_apply (w : FVec Ideal (Wgt O 3) .f32) (b : FVec Ideal (Row O) .f32) {xp : FVec Ideal (Pic 256 (H + 2) (W + 2)) .f32} {f : Feat H W}
    (hx : PicHolds xp f) (o : Fin O) (h : Fin H) (v : Fin W) :
    refConv w b xp (ix3 o h v) = convAt (padded f) (wts w) (fun o => b (ix1 o)) h.val v.val o := by
  have hb : broadcastInDim (Pic O H W) ![0, 1, 2] (bcast_bias2 O H W) (broadcastInDim (Pic O 1 1) ![0] (bcast_bias1 O) b) (ix3 o h v) = b (ix1 o) := by
    refine congrArg b (funext fun a => Fin.ext ?_)
    match a with
    | ⟨0, _⟩ =>
      by_cases hO : O = 1
      · subst hO
        have : o.val = 0 := by omega
        simpa using this.symm
      · simp [hO]; rfl
  unfold refConv convAt
  simp only [addf_apply]
  rw [hb, refZero_apply]
  refine congrArg (· + b (ix1 o)) ?_
  have e := fun t ht => refTap_apply w hx t ht o h v
  rw [e 0 (by omega), e 1 (by omega), e 2 (by omega), e 3 (by omega), e 4 (by omega), e 5 (by omega), e 6 (by omega), e 7 (by omega), e 8 (by omega)]
  rfl

theorem refPad_holds (x : FVec Ideal (Pic 256 H W) .f32) (f : Feat H W) (hx : ∀ c h w, x (ix3 c h w) = f c h w) : PicHolds (refPad x) f := by
  intro c a b
  unfold refPad
  by_cases hab : (1 ≤ a.val ∧ a.val ≤ H) ∧ (1 ≤ b.val ∧ b.val ≤ W)
  · refine (pad_apply_of_inside _ _ _ _ _ _ _ _ (ix3 c (⟨a.val - 1, by omega⟩ : Fin H) (⟨b.val - 1, by omega⟩ : Fin W)) fun ax => ?_).trans ?_
    · match ax with
      | ⟨0, _⟩ => show c.val = 0 + c.val * 1; omega
      | ⟨1, _⟩ => show a.val = 1 + (a.val - 1) * 1; omega
      | ⟨2, _⟩ => show b.val = 1 + (b.val - 1) * 1; omega
    · exact (hx _ _ _).trans (padded_in f c _ _ (by show a.val = a.val - 1 + 1; omega) (by show b.val = b.val - 1 + 1; omega)).symm
  · rw [padded_out f c hab]
    have hz : (sitofp .f32 (constantI ⟨0, ![]⟩ 32 0#32) : FVec Ideal ⟨0, ![]⟩ .f32) (Shape.Idx.first (by decide)) = 0 := sitofp_zero
    by_cases ha : 1 ≤ a.val ∧ a.val ≤ H
    · refine (pad_apply_of_not_inside _ _ _ _ _ _ _ _ ⟨2, by show 2 < 3; omega⟩ fun hin => hab ⟨ha, ?_⟩).trans hz
      have h1 : 1 ≤ b.val := hin.1
      have h2 : (b.val - 1) / 1 < W := hin.2.2
      omega
    · refine (pad_apply_of_not_inside _ _ _ _ _ _ _ _ ⟨1, by show 1 < 3; omega⟩ fun hin => ha ?_).trans hz
      have h1 : 1 ≤ a.val := hin.1
      have h2 : (a.val - 1) / 1 < H := hin.2.2
      omega

theorem refLayer_holds (w : FVec Ideal (Wgt 256 3) .f32) (b : FVec Ideal (Row 256) .f32) {xp : FVec Ideal (Pic 256 (H + 2) (W + 2)) .f32} {f : Feat H W}
    (hx : PicHolds xp f) : PicHolds (refLayer w b xp) (layer (wts w) (fun o => b (ix1 o)) f) :=
  refPad_holds _ _ fun c h v => by
    rw [maximumf_apply, refConv_apply w b hx, refZero_apply]
    rfl

/-- The picture a level starts from. -/
def feat (x : FVec Ideal ⟨4, ![1, 256, H, W]⟩ .f32) : Feat H W := fun c h w => x (ix4 0 c h w)

/-- Four layers' weights, four layers' biases. -/
def four {α : Type} (a0 a1 a2 a3 : α) : ℕ → α
  | 0 => a0
  | 1 => a1
  | 2 => a2
  | _ => a3

theorem refTrunk_holds (x : FVec Ideal ⟨4, ![1, 256, H, W]⟩ .f32) (w0 w1 w2 w3 : FVec Ideal (Wgt 256 3) .f32) (b0 b1 b2 b3 : FVec Ideal (Row 256) .f32) :
    PicHolds (refTrunk x w0 w1 w2 w3 b0 b1 b2 b3)
      (trunk (fun l => wts (four w0 w1 w2 w3 l)) (fun l o => four b0 b1 b2 b3 l (ix1 o)) (feat x)) :=
  refLayer_holds w3 b3 (refLayer_holds w2 b2 (refLayer_holds w1 b1 (refLayer_holds w0 b0
    (refPad_holds _ _ fun c h w => shapeCast_1abc_abc_apply x _ c h w))))

theorem refCls_apply {xp : FVec Ideal (Pic 256 (H + 2) (W + 2)) .f32} {f : Feat H W} (hx : PicHolds xp f) (wc : FVec Ideal (Wgt 3 3) .f32)
    (bc : FVec Ideal (Row 3) .f32) (u : Fin 1) (a : Fin 3) (v : Fin 1) (h : Fin H) (w : Fin W) :
    refCls xp wc bc (ix5 u a v h w) = convAt (padded f) (wts wc) (fun o => bc (ix1 o)) h.val w.val a := by
  refine (shapeCast_apply _ _ _ (ix3 a h w) ?_).trans (refConv_apply wc bc hx a h w)
  rw [Shape.rowMajor_val_five, Shape.rowMajor_val_three]
  show (a.val * H + h.val) * W + w.val = (((u.val * 3 + a.val) * 1 + v.val) * H + h.val) * W + w.val
  rw [show (u.val * 3 + a.val) * 1 + v.val = a.val by omega]

theorem refBox_apply {xp : FVec Ideal (Pic 256 (H + 2) (W + 2)) .f32} {f : Feat H W} (hx : PicHolds xp f) (wb : FVec Ideal (Wgt 12 3) .f32)
    (bb : FVec Ideal (Row 12) .f32) (u : Fin 1) (a : Fin 3) (v : Fin 4) (h : Fin H) (w : Fin W) :
    refBox xp wb bb (ix5 u a v h w) = convAt (padded f) (wts wb) (fun o => bb (ix1 o)) h.val w.val ⟨a.val * 4 + v.val, by omega⟩ := by
  refine (shapeCast_apply _ _ _ (ix3 ⟨a.val * 4 + v.val, by omega⟩ h w) ?_).trans (refConv_apply wb bb hx _ h w)
  rw [Shape.rowMajor_val_five, Shape.rowMajor_val_three]
  show ((a.val * 4 + v.val) * H + h.val) * W + w.val = (((u.val * 3 + a.val) * 4 + v.val) * H + h.val) * W + w.val
  rw [show (u.val * 3 + a.val) * 4 + v.val = a.val * 4 + v.val by omega]

end

end Fpn

end
-- ==== Proof.Trunk.lean ====
/-
  The kernel's convolutions over the extended reals: a buffer that holds a padded picture is convolved into one that
  holds the next layer's padded picture, and the head's sixteen channels are convolutions of the last one.
-/
module

public import proofs.«01_k».proof.Proof.Values
public import proofs.«01_k».proof.Proof.Spec
public import Idealize.ShloMosaic.Lib.MatmulPlain
public import Idealize.ShloMosaic.Lib.IdealHost
public import Idealize.ShloMosaic.Lib.ValueLayout
public import Idealize.ShloMosaic.Lib.Routing.Words

@[expose] public section

set_option maxRecDepth 16384

noncomputable section

namespace Fpn

open Idealize.ShloMosaic Idealize.ShloMosaic.ValueIdx Idealize.ShloMosaic.Routing
open scoped BigOperators

/-! ### The columns' mask -/

/-- The mask as words: the remainder is not negative, so it is not moved, and it is compared with the two ends. -/
def maskWord (p d e : BitVec 32) : BitVec 1 :=
  let d' : BitVec 32 := Scalar.select (Scalar.cmpi .eq d 0#32) 1#32 d
  let r : BitVec 32 := IntOp.remsi .vector p d'
  let col : BitVec 32 := Scalar.select ((IntOp.cmpi .slt r 0#32 ^^^ Scalar.cmpi .slt d' 0#32) &&& IntOp.cmpi .ne r 0#32) (r + d') r
  IntOp.cmpi .sgt col 0#32 &&& IntOp.cmpi .slt col e

theorem maskWord_eq (p Wp : ℕ) (hW : 0 < Wp) (hW' : Wp < 2 ^ 31) (hp : p < 2 ^ 31) :
    maskWord (BitVec.ofNat 32 p) (BitVec.ofNat 32 Wp) (BitVec.ofNat 32 (Wp - 1)) = if 0 < p % Wp ∧ p % Wp < Wp - 1 then 1#1 else 0#1 := by
  have hlt : p % Wp < Wp := Nat.mod_lt _ hW
  have h0 : BitVec.ofNat 32 Wp ≠ 0#32 := ofNat32_ne_zero hW (by omega)
  have hd : Scalar.select (Scalar.cmpi .eq (BitVec.ofNat 32 Wp) 0#32) 1#32 (BitVec.ofNat 32 Wp) = BitVec.ofNat 32 Wp := by
    have : Scalar.cmpi .eq (BitVec.ofNat 32 Wp) 0#32 = 0#1 := by
      show BitVec.ofBool (BitVec.ofNat 32 Wp == 0#32) = 0#1
      rw [beq_false_of_ne h0]; rfl
    rw [this]; exact select_zero _ _
  have hrem : IntOp.remsi .vector (BitVec.ofNat 32 p) (BitVec.ofNat 32 Wp) = BitVec.ofNat 32 (p % Wp) := remsi_word _ hp hW hW'
  have hneg : ∀ x : ℕ, x < 2 ^ 31 → IntOp.cmpi .slt (BitVec.ofNat 32 x) 0#32 = 0#1 := fun x hx => by
    unfold IntOp.cmpi
    rw [show (0#32) = BitVec.ofNat 32 0 from rfl]
    dsimp only
    rw [slt_ofNat32 hx (by omega)]; simp
  have h1 := hneg (p % Wp) (by omega)
  have h2 : Scalar.cmpi .slt (BitVec.ofNat 32 Wp) 0#32 = 0#1 := hneg Wp hW'
  have h3 : IntOp.cmpi .sgt (BitVec.ofNat 32 (p % Wp)) 0#32 = BitVec.ofBool (decide (0 < p % Wp)) := by
    unfold IntOp.cmpi
    rw [show (0#32) = BitVec.ofNat 32 0 from rfl]
    dsimp only
    rw [slt_ofNat32 (by omega) (by omega)]
  have h4 : IntOp.cmpi .slt (BitVec.ofNat 32 (p % Wp)) (BitVec.ofNat 32 (Wp - 1)) = BitVec.ofBool (decide (p % Wp < Wp - 1)) := by
    unfold IntOp.cmpi
    dsimp only
    rw [slt_ofNat32 (by omega) (by omega)]
  unfold maskWord
  dsimp only
  rw [hd, hrem, h1, h2, show ((0#1 ^^^ 0#1) : BitVec 1) = 0#1 from rfl, BitVec.zero_and, select_zero, h3, h4]
  by_cases ha : 0 < p % Wp <;> by_cases hb : p % Wp < Wp - 1 <;> simp [ha, hb]

theorem maskVec_apply (ch Wp r0 : ℕ) (q : Fin ch) (c : Fin 256) (hW : 0 < Wp) (hW' : Wp < 2 ^ 31) (hr : r0 + q.val < 2 ^ 31) :
    maskVec ch Wp r0 (ix2 q c) = if 0 < (r0 + q.val) % Wp ∧ (r0 + q.val) % Wp < Wp - 1 then 1#1 else 0#1 := by
  rw [← maskWord_eq (r0 + q.val) Wp hW hW' hr, ← BitVec.ofNat_add_ofNat]
  show maskWord (BitVec.ofNat 32 r0 + BitVec.ofNat 32 (0 * ch + q.val)) _ (BitVec.ofNat 32 (Wp - 1)) = _
  rw [Nat.zero_mul, Nat.zero_add]

/-! ### A buffer holding a padded picture -/

/-- The buffer holds the picture, with zeros wherever the picture's frame or the rows around it are. -/
def Holds (g : Geo) (x : FVec Ideal (Mat g.M 256) .bf16) (f : Feat g.H g.W) : Prop :=
  ∀ j : (Mat g.M 256).Idx, x j = if g.P ≤ (j 0).val ∧ (j 0).val < g.P + g.H * g.Wp then
    padded f (((j 0).val - g.P) / g.Wp + 1) (((j 0).val - g.P) % g.Wp) (j 1) else 0

section
variable {g : Geo} (hg : g.Ok)

/-- A read of the buffer at row `a` and column `b` of the framed picture. -/
theorem Holds.read {x : FVec Ideal (Mat g.M 256) .bf16} {f : Feat g.H g.W} (hx : Holds g x f) (r : Fin g.M) (c : Fin 256) (a b : ℕ)
    (hb : b < g.Wp) (hr : r.val + g.Wp = g.P + a * g.Wp + b) : x (ix2 r c) = padded f a b c := by
  refine (hx (ix2 r c)).trans ?_
  show (if g.P ≤ r.val ∧ r.val < g.P + g.H * g.Wp then padded f ((r.val - g.P) / g.Wp + 1) ((r.val - g.P) % g.Wp) c else 0) = _
  rcases a with _ | a
  · rw [if_neg (by omega), padded_out _ _ (by omega)]
  · have hm : (a + 1) * g.Wp = a * g.Wp + g.Wp := Nat.succ_mul _ _
    have hs : r.val - g.P = b + g.Wp * a := by rw [Nat.mul_comm g.Wp a]; omega
    have hdiv : (r.val - g.P) / g.Wp = a := by rw [hs, Nat.add_mul_div_left _ _ (by omega), Nat.div_eq_of_lt hb, Nat.zero_add]
    have hmod : (r.val - g.P) % g.Wp = b := by rw [hs, Nat.add_mul_mod_self_left, Nat.mod_eq_of_lt hb]
    rw [hdiv, hmod]
    by_cases ha : a < g.H
    · rw [if_pos]
      have : (a + 1) * g.Wp ≤ g.H * g.Wp := Nat.mul_le_mul_right _ ha
      omega
    · rw [if_neg, padded_out _ _ (by omega)]
      have : g.H * g.Wp ≤ a * g.Wp := Nat.mul_le_mul_right _ (by omega)
      omega

theorem tapStep_apply {ch C : ℕ} (acc : FVec Ideal (Mat ch C) .f32) (x : FVec Ideal (Mat ch 256) .bf16) (w : FVec Ideal (Mat 256 C) .bf16)
    (q : Fin ch) (o : Fin C) : tapStep acc x w (ix2 q o) = acc (ix2 q o) + ∑ k : Fin 256, x (ix2 q k) * w (ix2 k o) := by
  refine congrArg (acc (ix2 q o) + ·) ?_
  refine (Ideal.matmul_plain_apply none x w _ q o).trans ?_
  rw [constant_apply, Ideal.ofBits_zero_f32, zero_add]

theorem rowsOf_apply {M K : ℕ} {α : Type} (x : (Mat M K).Idx → α) (off n : ℕ) (h : off + n ≤ M) (q : Fin n) (k : Fin K) :
    rowsOf x off n h (ix2 q k) = x (ix2 ⟨off + q.val, by omega⟩ k) := by
  refine congrArg x (funext fun a => Fin.ext ?_)
  match a with
  | ⟨0, _⟩ => show off + 1 * q.val = off + q.val; omega
  | ⟨1, _⟩ => show 0 + 1 * k.val = k.val; omega

/-- The sum over the taps at a position of the picture. -/
theorem tapsVal_apply {C : ℕ} {x : FVec Ideal (Mat g.M 256) .bf16} {f : Feat g.H g.W} (hx : Holds g x f)
    (wv : Taps Ideal C) (wt : Wts C) (hw : ∀ t ht k o, wv t ht (ix2 k o) = wt t k o) (base : ℕ)
    (hbase : base + (2 * g.Wp + 2) + g.ch ≤ g.M) (q : Fin g.ch) (o : Fin C) (h w : ℕ) (hw' : w + 2 < g.Wp)
    (hp : base + q.val + g.Wp = g.P + h * g.Wp + w) (k : ℕ) (hk : k ≤ 9) (acc : FVec Ideal (Mat g.ch C) .f32) :
    tapsVal x wv base g.ch g.Wp hbase k hk acc (ix2 q o) = sumTaps (padded f) wt h w o k (acc (ix2 q o)) := by
  induction k generalizing acc with
  | zero => rfl
  | succ k ih =>
    refine (ih (by omega) _).trans (congrArg (sumTaps (padded f) wt h w o k) ?_)
    refine (tapStep_apply _ _ _ q o).trans (congrArg (acc (ix2 q o) + ·) (Finset.sum_congr rfl fun c _ => ?_))
    rw [hw, rowsOf_apply]
    refine congrArg (· * wt (8 - k) c o) (hx.read _ c _ _ (by omega) ?_)
    have hm : (h + (8 - k) / 3) * g.Wp = h * g.Wp + (8 - k) / 3 * g.Wp := Nat.add_mul _ _ _
    show base + tapRow g.Wp (8 - k) + q.val + g.Wp = _
    unfold tapRow
    omega

include hg in
theorem chunkVal_apply {C : ℕ} {x : FVec Ideal (Mat g.M 256) .bf16} {f : Feat g.H g.W} (hx : Holds g x f)
    (wv : Taps Ideal C) (wt : Wts C) (hw : ∀ t ht k o, wv t ht (ix2 k o) = wt t k o) (i : ℕ) (hi : i < g.n) (q : Fin g.ch) (o : Fin C)
    (h w : ℕ) (hw' : w + 2 < g.Wp) (hp : i * g.ch + q.val = h * g.Wp + (w + 1)) :
    chunkVal hg x wv i hi (ix2 q o) = sumTaps (padded f) wt h w o 9 0 := by
  have hf := hg.front
  refine (tapsVal_apply hx wv wt hw _ _ q o h w hw' (by omega) 9 le_rfl _).trans ?_
  exact congrArg (sumTaps (padded f) wt h w o 9) Ideal.ofBits_zero_f32

theorem trunkPay_apply (ch Wp r0 : ℕ) (bias : FVec Ideal (Mat 1 256) .f32) (acc : FVec Ideal (Mat ch 256) .f32) (q : Fin ch) (c : Fin 256)
    (hW : 0 < Wp) (hW' : Wp < 2 ^ 31) (hr : r0 + q.val < 2 ^ 31) :
    trunkPay ch Wp r0 bias acc (ix2 q c)
      = if 0 < (r0 + q.val) % Wp ∧ (r0 + q.val) % Wp < Wp - 1 then max (acc (ix2 q c) + bias (ix2 0 c)) 0 else 0 := by
  unfold trunkPay
  rw [shapeCast_self, truncf_apply, select_apply, maskVec_apply ch Wp r0 q c hW hW' hr, maximumf_apply, addf_apply, broadcastTo_1b_ab_apply,
    broadcast_apply, show (Scalar.ofBits .f32 0x00000000#32 : Ideal .f32) = 0 from Ideal.ofBits_zero_f32]
  split
  · exact select_one _ _
  · exact select_zero _ _

theorem headPay_apply (ch : ℕ) (bias : FVec Ideal (Mat 1 16) .f32) (acc : FVec Ideal (Mat ch 16) .f32) (q : Fin ch) (c : Fin 16) :
    headPay ch bias acc (ix2 q c) = acc (ix2 q c) + bias (ix2 0 c) := by
  unfold headPay
  rw [shapeCast_self, addf_apply, broadcastTo_1b_ab_apply]

/-- A trunk convolution of a buffer that holds a picture leaves a buffer that holds the next layer. -/
theorem trunkOut_holds {x : FVec Ideal (Mat g.M 256) .bf16} {f : Feat g.H g.W} (hx : Holds g x f)
    (wv : Taps Ideal 256) (wt : Wts 256) (hw : ∀ t ht k o, wv t ht (ix2 k o) = wt t k o)
    (bias : FVec Ideal (Mat 1 256) .f32) (b : Fin 256 → EReal) (hb : ∀ c, bias (ix2 0 c) = b c) :
    Holds g (trunkOut hg x wv bias) (layer wt b f) := by
  intro j
  have hW := hg.wp
  have hf := hg.front
  have hbk := hg.back
  have hs := hg.small
  unfold trunkOut
  by_cases hj : g.P ≤ (j 0).val ∧ (j 0).val < g.P + g.H * g.Wp
  · rw [dif_pos hj, if_pos hj]
    have hp : ((j 0).val - g.P) / g.ch * g.ch + ((j 0).val - g.P) % g.ch = (j 0).val - g.P := by
      rw [Nat.mul_comm]; exact Nat.div_add_mod _ _
    refine (trunkPay_apply _ _ _ _ _ ⟨((j 0).val - g.P) % g.ch, Nat.mod_lt _ hg.posCh⟩ (j 1) (by omega) (by omega) (by
      show ((j 0).val - g.P) / g.ch * g.ch + ((j 0).val - g.P) % g.ch < 2 ^ 31; omega)).trans ?_
    rw [show ((j 0).val - g.P) / g.ch * g.ch + (⟨((j 0).val - g.P) % g.ch, Nat.mod_lt _ hg.posCh⟩ : Fin g.ch).val = (j 0).val - g.P from hp]
    have hq : ((j 0).val - g.P) / g.Wp < g.H := Nat.div_lt_of_lt_mul (by rw [Nat.mul_comm]; omega)
    by_cases hm : 0 < ((j 0).val - g.P) % g.Wp ∧ ((j 0).val - g.P) % g.Wp < g.Wp - 1
    · rw [if_pos hm, padded_in (layer wt b f) (j 1) ⟨((j 0).val - g.P) / g.Wp, hq⟩ ⟨((j 0).val - g.P) % g.Wp - 1, by omega⟩ rfl (by
        show _ = ((j 0).val - g.P) % g.Wp - 1 + 1; omega)]
      unfold layer convAt
      refine congrArg (max · 0) (congrArg₂ (· + ·) ?_ (hb (j 1)))
      refine chunkVal_apply hg hx wv wt hw _ _ _ _ _ _ (by omega) (hp.trans ?_)
      have := Nat.div_add_mod ((j 0).val - g.P) g.Wp
      rw [Nat.mul_comm] at this
      show _ = ((j 0).val - g.P) / g.Wp * g.Wp + (((j 0).val - g.P) % g.Wp - 1 + 1)
      omega
    · rw [if_neg hm]
      exact (padded_out _ (j 1) (by omega)).symm
  · rw [dif_neg hj, if_neg hj]
    exact Ideal.ofBits_zero_bf16

/-- The head's convolution at a position of the picture. -/
theorem headOut_apply {x : FVec Ideal (Mat g.M 256) .bf16} {f : Feat g.H g.W} (hx : Holds g x f)
    (wv : Taps Ideal 16) (wt : Wts 16) (hw : ∀ t ht k o, wv t ht (ix2 k o) = wt t k o)
    (bias : FVec Ideal (Mat 1 16) .f32) (b : Fin 16 → EReal) (hb : ∀ c, bias (ix2 0 c) = b c)
    (r : Fin (g.H * g.Wp)) (o : Fin 16) (h w : ℕ) (hw' : w < g.W) (hr : r.val = h * g.Wp + 1 + w) :
    headOut hg x wv bias (ix2 r o) = convAt (padded f) wt b h w o := by
  have hW := hg.wp
  refine (headPay_apply _ _ _ ⟨r.val % g.ch, Nat.mod_lt _ hg.posCh⟩ o).trans (congrArg₂ (· + ·) ?_ (hb o))
  refine chunkVal_apply hg hx wv wt hw _ _ _ _ h w (by omega) ?_
  have := Nat.div_add_mod r.val g.ch
  rw [Nat.mul_comm] at this
  show r.val / g.ch * g.ch + r.val % g.ch = _
  omega

end

end Fpn

end
-- ==== Proof.Picture.lean ====
/-
  A level over the extended reals: its class scores and box offsets are the head's convolutions of the trunk's last
  layer, at every position of the picture.
-/
module

public import proofs.«01_k».proof.Proof.Trunk

@[expose] public section

set_option maxRecDepth 16384

noncomputable section

namespace Fpn

open Idealize.ShloMosaic Idealize.ShloMosaic.ValueIdx

theorem trunkW_apply (w : FVec Ideal ⟨3, ![4, 2304, 256]⟩ .bf16) (l : ℕ) (hl : l < 4) (t : ℕ) (ht : t < 9) (k o : Fin 256) :
    trunkW w l hl t ht (ix2 k o) = w (ix3 ⟨l, hl⟩ ⟨t * 256 + k.val, by omega⟩ o) := by
  refine (shapeCast_1ab_ab_apply _ _ k o).trans (congrArg w (funext fun a => Fin.ext ?_))
  match a with
  | ⟨0, _⟩ => show l + 1 * 0 = l; omega
  | ⟨1, _⟩ => show t * 256 + 1 * k.val = t * 256 + k.val; omega
  | ⟨2, _⟩ => show 0 + 1 * o.val = o.val; omega

theorem trunkB_apply (b : FVec Ideal ⟨3, ![4, 1, 256]⟩ .f32) (l : ℕ) (hl : l < 4) (o : Fin 256) :
    trunkB b l hl (ix2 0 o) = b (ix3 ⟨l, hl⟩ 0 o) := by
  refine (shapeCast_1ab_ab_apply _ _ 0 o).trans (congrArg b (funext fun a => Fin.ext ?_))
  match a with
  | ⟨0, _⟩ => show l + 1 * 0 = l; omega
  | ⟨1, _⟩ => rfl
  | ⟨2, _⟩ => show 0 + 1 * o.val = o.val; omega

theorem headW_apply (w : FVec Ideal (Mat 2304 16) .bf16) (t : ℕ) (ht : t < 9) (k : Fin 256) (o : Fin 16) :
    headW w t ht (ix2 k o) = w (ix2 ⟨t * 256 + k.val, by omega⟩ o) := rowsOf_apply w _ _ (by omega) k o

/-- The buffers of weights and biases hold the convolutions' weights and biases. -/
structure Params (wm : FVec Ideal ⟨3, ![4, 2304, 256]⟩ .bf16) (wh : FVec Ideal (Mat 2304 16) .bf16) (bm : FVec Ideal ⟨3, ![4, 1, 256]⟩ .f32)
    (bh : FVec Ideal (Mat 1 16) .f32) (wt : ℕ → Wts 256) (b : ℕ → Fin 256 → EReal) (hwt : Wts 16) (hb : Fin 16 → EReal) : Prop where
  wm : ∀ (l : Fin 4) (t : ℕ) (ht : t < 9) (k o : Fin 256), wm (ix3 l ⟨t * 256 + k.val, by omega⟩ o) = wt l.val t k o
  wh : ∀ (t : ℕ) (ht : t < 9) (k : Fin 256) (o : Fin 16), wh (ix2 ⟨t * 256 + k.val, by omega⟩ o) = hwt t k o
  bm : ∀ (l : Fin 4) (o : Fin 256), bm (ix3 l 0 o) = b l.val o
  bh : ∀ o : Fin 16, bh (ix2 0 o) = hb o

section
variable {g : Geo} (hg : g.Ok)

include hg in
theorem Geo.Ok.pos_lt (h : Fin g.H) (w : Fin g.W) : h.val * g.Wp + 1 + w.val < g.H * g.Wp := by
  have h1 : (h.val + 1) * g.Wp ≤ g.H * g.Wp := Nat.mul_le_mul_right _ h.isLt
  have h2 : (h.val + 1) * g.Wp = h.val * g.Wp + g.Wp := Nat.succ_mul _ _
  have := hg.wp
  omega

theorem levelOut_apply {wm wh bm bh} {wt : ℕ → Wts 256} {b : ℕ → Fin 256 → EReal} {hwt : Wts 16} {hb : Fin 16 → EReal}
    (hp : Params wm wh bm bh wt b hwt hb) {x : FVec Ideal (Mat g.M 256) .bf16} {f : Feat g.H g.W} (hx : Holds g x f)
    (o : Fin 16) (h : Fin g.H) (w : Fin g.W) :
    levelOut hg wm wh bm bh x (ix2 o ⟨h.val * g.Wp + 1 + w.val, hg.pos_lt h w⟩) = convAt (padded (trunk wt b f)) hwt hb h.val w.val o := by
  have step : ∀ (l : Fin 4) {y : FVec Ideal (Mat g.M 256) .bf16} {f : Feat g.H g.W}, Holds g y f →
      Holds g (trunkOut hg y (trunkW wm l.val l.isLt) (trunkB bm l.val l.isLt)) (layer (wt l.val) (b l.val) f) := fun l _ _ hy =>
    trunkOut_holds hg hy _ _ (fun t ht k o => (trunkW_apply wm _ _ t ht k o).trans (hp.wm l t ht k o)) _ _
      (fun o => (trunkB_apply bm _ _ o).trans (hp.bm l o))
  unfold levelOut
  dsimp only
  refine (transpose_ix2_apply _ _ o _).trans ?_
  refine headOut_apply hg (step 3 (step 2 (step 1 (step 0 hx)))) _ _ (fun t ht k o => (headW_apply wh t ht k o).trans (hp.wh t ht k o)) _ _
    (fun o => ?_) _ o _ _ w.isLt rfl
  exact (rowsOf_apply bh _ _ _ 0 o).trans (hp.bh o)

theorem pictureRow_apply (h : Fin g.H) (yt : FVec Ideal (Mat 16 (g.H * g.Wp)) .f32) (o : Fin 16) (w : Fin g.W) :
    pictureRow hg h.val h.isLt yt (ix2 o w) = yt (ix2 o ⟨h.val * g.Wp + 1 + w.val, hg.pos_lt h w⟩) := by
  refine congrArg yt (funext fun a => Fin.ext ?_)
  match a with
  | ⟨0, _⟩ => exact Nat.zero_add _
  | ⟨1, _⟩ => rfl

theorem clsRow_apply {W : ℕ} (y : FVec Ideal (Mat 16 W) .f32) (u : Fin 1) (a : Fin 3) (v z : Fin 1) (w : Fin W) :
    clsRow y (ix5 u a v z w) = y (ix2 ⟨a.val, by omega⟩ w) := by
  refine (shapeCast_apply _ _ _ (ix2 a w) ?_).trans (congrArg y (funext fun i => Fin.ext ?_))
  · rw [Shape.rowMajor_val_five, Shape.rowMajor_val_two]
    show a.val * W + w.val = (((u.val * 3 + a.val) * 1 + v.val) * 1 + z.val) * W + w.val
    have : ((u.val * 3 + a.val) * 1 + v.val) * 1 + z.val = a.val := by omega
    rw [this]
  · match i with
    | ⟨0, _⟩ => exact Nat.zero_add _
    | ⟨1, _⟩ => exact Nat.zero_add _

theorem boxRow_apply {W : ℕ} (y : FVec Ideal (Mat 16 W) .f32) (u : Fin 1) (a : Fin 3) (v : Fin 4) (z : Fin 1) (w : Fin W) :
    boxRow y (ix5 u a v z w) = y (ix2 ⟨3 + (a.val * 4 + v.val), by omega⟩ w) := by
  refine (shapeCast_apply _ _ _ (ix3 a v w) ?_).trans ((shapeCast_apply _ _ _ (ix2 ⟨a.val * 4 + v.val, by omega⟩ w) ?_).trans
    (congrArg y (funext fun i => Fin.ext ?_)))
  · rw [Shape.rowMajor_val_five, Shape.rowMajor_val_three]
    show (a.val * 4 + v.val) * W + w.val = (((u.val * 3 + a.val) * 4 + v.val) * 1 + z.val) * W + w.val
    have : ((u.val * 3 + a.val) * 4 + v.val) * 1 + z.val = a.val * 4 + v.val := by omega
    rw [this]
  · rw [Shape.rowMajor_val_three, Shape.rowMajor_val_two]
    rfl
  · match i with
    | ⟨0, _⟩ => rfl
    | ⟨1, _⟩ => exact Nat.zero_add _

theorem clsOut_apply (yt : FVec Ideal (Mat 16 (g.H * g.Wp)) .f32) (u : Fin 1) (a : Fin 3) (v : Fin 1) (h : Fin g.H) (w : Fin g.W) :
    clsOut hg yt (ix5 u a v h w) = yt (ix2 ⟨a.val, by omega⟩ ⟨h.val * g.Wp + 1 + w.val, hg.pos_lt h w⟩) :=
  (clsRow_apply _ u a v 0 w).trans (pictureRow_apply hg h yt _ w)

theorem boxOut_apply (yt : FVec Ideal (Mat 16 (g.H * g.Wp)) .f32) (u : Fin 1) (a : Fin 3) (v : Fin 4) (h : Fin g.H) (w : Fin g.W) :
    boxOut hg yt (ix5 u a v h w) = yt (ix2 ⟨3 + (a.val * 4 + v.val), by omega⟩ ⟨h.val * g.Wp + 1 + w.val, hg.pos_lt h w⟩) :=
  (boxRow_apply _ u a v 0 w).trans (pictureRow_apply hg h yt _ w)

end

end Fpn

end
-- ==== Proof.Host.lean ====
/-
  What the host hands to the kernel, read at an index: a level's picture turned so that its channels lie last, framed by
  zero columns and by zero rows; the weights of the convolutions, tap by tap; their biases.
-/
module

public import proofs.«01_k».proof.Proof.Reference
public import proofs.«01_k».proof.Proof.Picture

@[expose] public section

set_option maxRecDepth 16384

noncomputable section

namespace Fpn

open Idealize.ShloMosaic Idealize.ShloMosaic.ValueIdx

section
variable {F : FTy → Type} [FloatOps F]

/-- The zero the host pads with. -/
def hostZero (φ : FTy) : FVec F ⟨0, ![]⟩ φ := sitofp φ (constantI ⟨0, ![]⟩ 32 0#32)

theorem hostTr (H W : ℕ) : (⟨3, ![256, H, W]⟩ : Shape).Transposes [1, 2, 0] ⟨3, ![H, W, 256]⟩ :=
  ⟨(by decide : ([1, 2, 0] : List (Fin 3)).Perm (List.finRange 3)), rfl, fun a => match a with | ⟨0, _⟩ => rfl | ⟨1, _⟩ => rfl | ⟨2, _⟩ => rfl⟩

theorem hostPadCols (H W : ℕ) : (⟨3, ![H, W, 256]⟩ : Shape).Pads ![0, 1, 0] ![0, 1, 0] ![0, 0, 0] ⟨3, ![H, W + 2, 256]⟩ :=
  ⟨rfl, fun a => match a with
    | ⟨0, _⟩ => by show H = _; simp
    | ⟨1, _⟩ => by show W + 2 = _; simp; omega
    | ⟨2, _⟩ => by show 256 = _; simp⟩

theorem hostPadRows (N P : ℕ) : (Mat N 256).Pads ![P, 0] ![P, 0] ![0, 0] (Mat (P + N + P) 256) :=
  ⟨rfl, fun a => match a with
    | ⟨0, _⟩ => by show P + N + P = _; simp
    | ⟨1, _⟩ => by show 256 = _; simp⟩

/-- The picture, channels last, a zero column on either side. -/
def hostCols {H W : ℕ} (x : FVec F ⟨4, ![1, 256, H, W]⟩ .f32) : FVec F ⟨3, ![H, W + 2, 256]⟩ .bf16 :=
  pad ⟨3, ![H, W + 2, 256]⟩ ![0, 1, 0] ![0, 1, 0] ![0, 0, 0]
    (transpose ⟨3, ![H, W, 256]⟩ [1, 2, 0]
      (truncf .bf16 (shapeCast ⟨3, ![256, H, W]⟩ x (by simp [Shape.ShapeCasts, Shape.numel, Fin.prod_univ_succ])) (by decide)) (hostTr H W))
    (hostZero .bf16) (hostPadCols H W) (by decide)

/-- The rows of the picture one after another, `P` zero rows above and below. -/
def hostPic {H W : ℕ} (P : ℕ) (x : FVec F ⟨4, ![1, 256, H, W]⟩ .f32) : FVec F (Mat (P + H * (W + 2) + P) 256) .bf16 :=
  pad (Mat (P + H * (W + 2) + P) 256) ![P, 0] ![P, 0] ![0, 0]
    (shapeCast (Mat (H * (W + 2)) 256) (hostCols x) (by simp [Shape.ShapeCasts, Shape.numel, Fin.prod_univ_succ, Nat.mul_assoc]))
    (hostZero .bf16) (hostPadRows _ P) (by decide)

theorem hostTrW (O : ℕ) : (Wgt O 3).Transposes [2, 3, 1, 0] ⟨4, ![3, 3, 256, O]⟩ :=
  ⟨(by decide : ([2, 3, 1, 0] : List (Fin 4)).Perm (List.finRange 4)), rfl, fun a => match a with | ⟨0, _⟩ => rfl | ⟨1, _⟩ => rfl | ⟨2, _⟩ => rfl | ⟨3, _⟩ => rfl⟩

/-- The weights of a convolution, tap and channel in by rows, channel out by columns. -/
def hostW {O : ℕ} (w : FVec F (Wgt O 3) .f32) : FVec F (Mat 2304 O) .bf16 :=
  shapeCast (Mat 2304 O) (transpose ⟨4, ![3, 3, 256, O]⟩ [2, 3, 1, 0] (truncf .bf16 w (by decide)) (hostTrW O))
    (by simp [Shape.ShapeCasts, Shape.numel, Fin.prod_univ_succ]; omega)

theorem bcast_lift (R : ℕ) : (Mat R 256).BroadcastsInDim ⟨3, ![1, R, 256]⟩ ![1, 2] := by
  refine ⟨?_, ?_⟩
  · exact (by decide : Function.Injective (![1, 2] : Fin 2 → Fin 3))
  · intro a
    match a with
    | ⟨0, _⟩ => exact .inr rfl
    | ⟨1, _⟩ => exact .inr rfl

/-- Four matrices, one above another. -/
def hostStack {R : ℕ} {φ : FTy} (h : Shape.Concatenates [⟨3, ![1, R, 256]⟩, ⟨3, ![1, R, 256]⟩, ⟨3, ![1, R, 256]⟩, ⟨3, ![1, R, 256]⟩] ⟨3, ![4, R, 256]⟩ 0)
    (x0 x1 x2 x3 : FVec F (Mat R 256) φ) : FVec F ⟨3, ![4, R, 256]⟩ φ :=
  concatenate ⟨3, ![4, R, 256]⟩ 0 [⟨⟨3, ![1, R, 256]⟩, broadcastInDim ⟨3, ![1, R, 256]⟩ ![1, 2] (bcast_lift R) x0⟩,
    ⟨⟨3, ![1, R, 256]⟩, broadcastInDim ⟨3, ![1, R, 256]⟩ ![1, 2] (bcast_lift R) x1⟩,
    ⟨⟨3, ![1, R, 256]⟩, broadcastInDim ⟨3, ![1, R, 256]⟩ ![1, 2] (bcast_lift R) x2⟩,
    ⟨⟨3, ![1, R, 256]⟩, broadcastInDim ⟨3, ![1, R, 256]⟩ ![1, 2] (bcast_lift R) x3⟩] h

theorem cat_heads : Shape.Concatenates [Wgt 3 3, Wgt 12 3] (Wgt 15 3) 0 := by decide
theorem cat_rows : Shape.Concatenates [Row 3, Row 12] (Row 15) 0 := by decide

/-- The head's weights: three channels of scores, twelve of offsets, one of zeros. -/
def hostWh (wc : FVec F (Wgt 3 3) .f32) (wb : FVec F (Wgt 12 3) .f32) : FVec F (Mat 2304 16) .bf16 :=
  pad (Mat 2304 16) ![0, 0] ![0, 1] ![0, 0] (hostW (concatenate (Wgt 15 3) 0 [⟨Wgt 3 3, wc⟩, ⟨Wgt 12 3, wb⟩] cat_heads))
    (hostZero .bf16) (by decide) (by decide)

/-- The head's biases, the same way. -/
def hostBh (bc : FVec F (Row 3) .f32) (bb : FVec F (Row 12) .f32) : FVec F (Mat 1 16) .f32 :=
  shapeCast (Mat 1 16) (pad (Row 16) ![0] ![1] ![0] (concatenate (Row 15) 0 [⟨Row 3, bc⟩, ⟨Row 12, bb⟩] cat_rows) (hostZero .f32) (by decide) (by decide))
    (by decide)

/-- The biases of the trunk. -/
def hostBm (b0 b1 b2 b3 : FVec F (Row 256) .f32) : FVec F ⟨3, ![4, 1, 256]⟩ .f32 :=
  hostStack (by decide) (shapeCast (Mat 1 256) b0 (by decide)) (shapeCast (Mat 1 256) b1 (by decide)) (shapeCast (Mat 1 256) b2 (by decide)) (shapeCast (Mat 1 256) b3 (by decide))

/-- The weights of the trunk. -/
def hostWm (w0 w1 w2 w3 : FVec F (Wgt 256 3) .f32) : FVec F ⟨3, ![4, 2304, 256]⟩ .bf16 :=
  hostStack (by decide) (hostW w0) (hostW w1) (hostW w2) (hostW w3)

end

/-! ### Read at an index -/

theorem hostZero_apply (φ : FTy) (j : (⟨0, ![]⟩ : Shape).Idx) : hostZero (F := Ideal) φ j = 0 := sitofp_zero

theorem hostCols_apply {H W : ℕ} (x : FVec Ideal ⟨4, ![1, 256, H, W]⟩ .f32) (a : Fin H) (b : Fin (W + 2)) (c : Fin 256) :
    hostCols x (ix3 a b c) = padded (feat x) (a.val + 1) b.val c := by
  unfold hostCols
  by_cases hb : 1 ≤ b.val ∧ b.val ≤ W
  · refine (pad_apply_of_inside _ _ _ _ _ _ _ _ (ix3 a (⟨b.val - 1, by omega⟩ : Fin W) c) fun ax => ?_).trans ?_
    · match ax with
      | ⟨0, _⟩ => show a.val = 0 + a.val * 1; omega
      | ⟨1, _⟩ => show b.val = 1 + (b.val - 1) * 1; omega
      | ⟨2, _⟩ => show c.val = 0 + c.val * 1; omega
    · refine (transpose_apply _ _ _ _ (ix3 c a ⟨b.val - 1, by omega⟩) fun ax => ?_).trans ?_
      · match ax with
        | ⟨0, _⟩ => rfl
        | ⟨1, _⟩ => rfl
        | ⟨2, _⟩ => rfl
      · rw [truncf_apply]
        refine (shapeCast_1abc_abc_apply _ _ _ _ _).trans ?_
        exact (padded_in (feat x) c a ⟨b.val - 1, by omega⟩ rfl (by show b.val = b.val - 1 + 1; omega)).symm
  · rw [padded_out _ _ (fun h => hb h.2)]
    refine (pad_apply_of_not_inside _ _ _ _ _ _ _ _ ⟨1, by show 1 < 3; omega⟩ fun hin => hb ?_).trans (hostZero_apply _ _)
    have h1 : 1 ≤ b.val := hin.1
    have h2 : (b.val - 1) / 1 < W := hin.2.2
    omega

/-- A level's buffer holds its picture. -/
theorem hostPic_holds {H W : ℕ} (P ch n : ℕ) (x : FVec Ideal ⟨4, ![1, 256, H, W]⟩ .f32) :
    Holds ⟨H, W, W + 2, P, P + H * (W + 2) + P, ch, n⟩ (hostPic P x) (feat x) := by
  intro j
  obtain ⟨r, c, rfl⟩ : ∃ (r : Fin (P + H * (W + 2) + P)) (c : Fin 256), j = ix2 r c := ⟨j 0, j 1, eq_ix2 j⟩
  show hostPic P x (ix2 r c) = if P ≤ r.val ∧ r.val < P + H * (W + 2) then padded (feat x) ((r.val - P) / (W + 2) + 1) ((r.val - P) % (W + 2)) c else 0
  unfold hostPic
  split
  · next hr =>
    have hq : (r.val - P) / (W + 2) < H := Nat.div_lt_of_lt_mul (by have := Nat.mul_comm H (W + 2); omega)
    have hm : (r.val - P) % (W + 2) < W + 2 := Nat.mod_lt _ (by omega)
    refine (pad_apply_of_inside _ _ _ _ _ _ _ _ (ix2 (⟨r.val - P, by omega⟩ : Fin (H * (W + 2))) c) fun ax => ?_).trans ?_
    · match ax with
      | ⟨0, _⟩ => show r.val = P + (r.val - P) * 1; omega
      | ⟨1, _⟩ => show c.val = 0 + c.val * 1; omega
    · refine (shapeCast_apply _ _ _ (ix3 (⟨_, hq⟩ : Fin H) (⟨_, hm⟩ : Fin (W + 2)) c) ?_).trans (hostCols_apply x _ _ c)
      rw [Shape.rowMajor_val_three, Shape.rowMajor_val_two]
      show ((r.val - P) / (W + 2) * (W + 2) + (r.val - P) % (W + 2)) * 256 + c.val = (r.val - P) * 256 + c.val
      rw [Nat.div_add_mod']
  · next hr =>
    refine (pad_apply_of_not_inside _ _ _ _ _ _ _ _ ⟨0, by show 0 < 2; omega⟩ fun hin => hr ?_).trans (hostZero_apply _ _)
    have h1 : P ≤ r.val := hin.1
    have h2 : (r.val - P) / 1 < H * (W + 2) := hin.2.2
    rw [Nat.div_one] at h2
    omega

theorem hostW_apply {O : ℕ} (w : FVec Ideal (Wgt O 3) .f32) (t : ℕ) (ht : t < 9) (k : Fin 256) (o : Fin O) :
    hostW w (ix2 ⟨t * 256 + k.val, by omega⟩ o) = wts w t k o := by
  have h1 : t / 3 % 3 < 3 := Nat.mod_lt _ (by omega)
  have h2 : t % 3 < 3 := Nat.mod_lt _ (by omega)
  refine (shapeCast_apply _ _ _ (ix4 (⟨t / 3 % 3, h1⟩ : Fin 3) (⟨t % 3, h2⟩ : Fin 3) k o) ?_).trans ?_
  · rw [Shape.rowMajor_val_four, Shape.rowMajor_val_two]
    show ((t / 3 % 3 * 3 + t % 3) * 256 + k.val) * O + o.val = (t * 256 + k.val) * O + o.val
    rw [show t / 3 % 3 * 3 + t % 3 = t by omega]
  · refine (transpose_apply _ _ _ _ (ix4 o k (⟨t / 3 % 3, h1⟩ : Fin 3) (⟨t % 3, h2⟩ : Fin 3)) fun ax => ?_).trans ?_
    · match ax with
      | ⟨0, _⟩ => rfl
      | ⟨1, _⟩ => rfl
      | ⟨2, _⟩ => rfl
      | ⟨3, _⟩ => rfl
    · exact truncf_apply _ _ _

theorem hostStack_apply {R : ℕ} {φ : FTy} (h) (x0 x1 x2 x3 : FVec Ideal (Mat R 256) φ) (l : Fin 4) (r : Fin R) (o : Fin 256) :
    hostStack h x0 x1 x2 x3 (ix3 l r o) = four x0 x1 x2 x3 l.val (ix2 r o) := by
  have e : ∀ x : FVec Ideal (Mat R 256) φ, broadcastInDim ⟨3, ![1, R, 256]⟩ ![1, 2] (bcast_lift R) x (ix3 0 r o) = x (ix2 r o) := fun x => by
    refine congrArg x (funext fun a => Fin.ext ?_)
    match a with
    | ⟨0, _⟩ =>
      by_cases hR : R = 1
      · subst hR
        have : r.val = 0 := by omega
        simpa using this.symm
      · simp [hR]; rfl
    | ⟨1, _⟩ => simp; rfl
  unfold hostStack
  let lift := fun x : FVec Ideal (Mat R 256) φ => broadcastInDim ⟨3, ![1, R, 256]⟩ ![1, 2] (bcast_lift R) x
  have key := fun (k : ℕ) (hk : k < 4) (x : FVec Ideal (Mat R 256) φ) hxk hpre =>
    (concatenate_apply_piece (t := ⟨3, ![4, R, 256]⟩) (0 : Fin 3) [⟨⟨3, ![1, R, 256]⟩, lift x0⟩, ⟨⟨3, ![1, R, 256]⟩, lift x1⟩, ⟨⟨3, ![1, R, 256]⟩, lift x2⟩, ⟨⟨3, ![1, R, 256]⟩, lift x3⟩] h (ix3 (⟨k, hk⟩ : Fin 4) r o) k hk ⟨3, ![1, R, 256]⟩
      (broadcastInDim ⟨3, ![1, R, 256]⟩ ![1, 2] (bcast_lift R) x) hxk rfl k hpre (ix3 (0 : Fin 1) r o)
      (fun b hb => match b with
        | ⟨0, _⟩ => absurd rfl hb
        | ⟨1, _⟩ => rfl
        | ⟨2, _⟩ => rfl) rfl).trans (e x)
  match l with
  | ⟨0, hl⟩ => exact key 0 hl x0 rfl rfl
  | ⟨1, hl⟩ => exact key 1 hl x1 rfl rfl
  | ⟨2, hl⟩ => exact key 2 hl x2 rfl rfl
  | ⟨3, hl⟩ => exact key 3 hl x3 rfl rfl

/-- The head's sixteen channels: the scores', the offsets', one of zeros. -/
def headWts (wc : FVec Ideal (Wgt 3 3) .f32) (wb : FVec Ideal (Wgt 12 3) .f32) : Wts 16 := fun t k o =>
  if h : o.val < 3 then wts wc t k ⟨o.val, h⟩ else if h' : o.val - 3 < 12 then wts wb t k ⟨o.val - 3, h'⟩ else 0

def headBias (bc : FVec Ideal (Row 3) .f32) (bb : FVec Ideal (Row 12) .f32) : Fin 16 → EReal := fun o =>
  if h : o.val < 3 then bc (ix1 ⟨o.val, h⟩) else if h' : o.val - 3 < 12 then bb (ix1 ⟨o.val - 3, h'⟩) else 0

theorem heads_apply (wc : FVec Ideal (Wgt 3 3) .f32) (wb : FVec Ideal (Wgt 12 3) .f32) (o : Fin 15) (t : ℕ) (k : Fin 256) :
    wts (concatenate (Wgt 15 3) 0 [⟨Wgt 3 3, wc⟩, ⟨Wgt 12 3, wb⟩] cat_heads) t k o = headWts wc wb t k ⟨o.val, by omega⟩ := by
  have h1 : t / 3 % 3 < 3 := Nat.mod_lt _ (by omega)
  have h2 : t % 3 < 3 := Nat.mod_lt _ (by omega)
  unfold headWts
  split
  · next h =>
    exact concatenate_pair_apply_left (t := Wgt 15 3) 0 wc wb cat_heads (ix4 o k (⟨t / 3 % 3, h1⟩ : Fin 3) (⟨t % 3, h2⟩ : Fin 3)) rfl
      (ix4 (⟨o.val, h⟩ : Fin 3) k (⟨t / 3 % 3, h1⟩ : Fin 3) (⟨t % 3, h2⟩ : Fin 3)) fun b => match b with
      | ⟨0, _⟩ => rfl
      | ⟨1, _⟩ => rfl
      | ⟨2, _⟩ => rfl
      | ⟨3, _⟩ => rfl
  · next h =>
    have h' : o.val - 3 < 12 := by omega
    rw [dif_pos h']
    refine concatenate_apply_piece (t := Wgt 15 3) (0 : Fin 4) [⟨Wgt 3 3, wc⟩, ⟨Wgt 12 3, wb⟩] cat_heads (ix4 o k (⟨t / 3 % 3, h1⟩ : Fin 3) (⟨t % 3, h2⟩ : Fin 3)) 1 (Nat.lt_succ_self 1) (Wgt 12 3) wb rfl rfl 3 rfl
      (ix4 (⟨o.val - 3, h'⟩ : Fin 12) k (⟨t / 3 % 3, h1⟩ : Fin 3) (⟨t % 3, h2⟩ : Fin 3)) (fun b hb => match b with
        | ⟨0, _⟩ => absurd rfl hb
        | ⟨1, _⟩ => rfl
        | ⟨2, _⟩ => rfl
        | ⟨3, _⟩ => rfl) ?_
    show 3 + (o.val - 3) = o.val
    have : ¬ o.val < 3 := h
    omega

theorem headsB_apply (bc : FVec Ideal (Row 3) .f32) (bb : FVec Ideal (Row 12) .f32) (o : Fin 15) :
    concatenate (Row 15) 0 [⟨Row 3, bc⟩, ⟨Row 12, bb⟩] cat_rows (ix1 o) = headBias bc bb ⟨o.val, by omega⟩ := by
  unfold headBias
  split
  · next h =>
    exact concatenate_pair_apply_left (t := Row 15) 0 bc bb cat_rows (ix1 o) rfl (ix1 (⟨o.val, h⟩ : Fin 3)) fun b => match b with
      | ⟨0, _⟩ => rfl
  · next h =>
    have h' : o.val - 3 < 12 := by omega
    rw [dif_pos h']
    refine concatenate_apply_piece (t := Row 15) (0 : Fin 1) [⟨Row 3, bc⟩, ⟨Row 12, bb⟩] cat_rows (ix1 o) 1 (Nat.lt_succ_self 1) (Row 12) bb rfl rfl 3 rfl
      (ix1 (⟨o.val - 3, h'⟩ : Fin 12)) (fun b hb => match b with
        | ⟨0, _⟩ => absurd rfl hb) ?_
    show 3 + (o.val - 3) = o.val
    have : ¬ o.val < 3 := h
    omega

theorem hostWh_apply (wc : FVec Ideal (Wgt 3 3) .f32) (wb : FVec Ideal (Wgt 12 3) .f32) (t : ℕ) (ht : t < 9) (k : Fin 256) (o : Fin 16) :
    hostWh wc wb (ix2 ⟨t * 256 + k.val, by omega⟩ o) = headWts wc wb t k o := by
  unfold hostWh
  by_cases ho : o.val < 15
  · refine (pad_apply_of_inside _ _ _ _ _ _ _ _ (ix2 (⟨t * 256 + k.val, by omega⟩ : Fin 2304) (⟨o.val, ho⟩ : Fin 15)) fun ax => ?_).trans
      ((hostW_apply _ t ht k ⟨o.val, ho⟩).trans (heads_apply wc wb ⟨o.val, ho⟩ t k))
    match ax with
    | ⟨0, _⟩ => show t * 256 + k.val = 0 + (t * 256 + k.val) * 1; omega
    | ⟨1, _⟩ => show o.val = 0 + o.val * 1; omega
  · have e : headWts wc wb t k o = 0 := by
      unfold headWts
      rw [dif_neg (by omega), dif_neg (by omega)]
    rw [e]
    refine (pad_apply_of_not_inside _ _ _ _ _ _ _ _ ⟨1, by show 1 < 2; omega⟩ fun hin => ho ?_).trans (hostZero_apply _ _)
    have h2 : (o.val - 0) / 1 < 15 := hin.2.2
    omega

theorem hostBh_apply (bc : FVec Ideal (Row 3) .f32) (bb : FVec Ideal (Row 12) .f32) (o : Fin 16) :
    hostBh bc bb (ix2 0 o) = headBias bc bb o := by
  unfold hostBh
  refine (shapeCast_apply _ _ _ (ix1 o) ?_).trans ?_
  · rw [Shape.rowMajor_val_two, Shape.rowMajor_val_one]
    show o.val = 0 * 16 + o.val
    omega
  by_cases ho : o.val < 15
  · refine (pad_apply_of_inside _ _ _ _ _ _ _ _ (ix1 (⟨o.val, ho⟩ : Fin 15)) fun ax => ?_).trans (headsB_apply bc bb ⟨o.val, ho⟩)
    match ax with
    | ⟨0, _⟩ => show o.val = 0 + o.val * 1; omega
  · have e : headBias bc bb o = 0 := by
      unfold headBias
      rw [dif_neg (by omega), dif_neg (by omega)]
    rw [e]
    refine (pad_apply_of_not_inside _ _ _ _ _ _ _ _ ⟨0, by show 0 < 1; omega⟩ fun hin => ho ?_).trans (hostZero_apply _ _)
    have h2 : (o.val - 0) / 1 < 15 := hin.2.2
    omega

/-- The buffers of weights and biases hold the convolutions' weights and biases. -/
theorem host_params (w0 w1 w2 w3 : FVec Ideal (Wgt 256 3) .f32) (b0 b1 b2 b3 : FVec Ideal (Row 256) .f32)
    (wc : FVec Ideal (Wgt 3 3) .f32) (bc : FVec Ideal (Row 3) .f32) (wb : FVec Ideal (Wgt 12 3) .f32) (bb : FVec Ideal (Row 12) .f32) :
    Params (hostWm w0 w1 w2 w3) (hostWh wc wb) (hostBm b0 b1 b2 b3) (hostBh bc bb)
      (fun l => wts (four w0 w1 w2 w3 l)) (fun l o => four b0 b1 b2 b3 l (ix1 o)) (headWts wc wb) (headBias bc bb) where
  wm l t ht k o := by
    refine (hostStack_apply _ _ _ _ _ l _ o).trans ?_
    match l with
    | ⟨0, _⟩ => exact hostW_apply w0 t ht k o
    | ⟨1, _⟩ => exact hostW_apply w1 t ht k o
    | ⟨2, _⟩ => exact hostW_apply w2 t ht k o
    | ⟨3, _⟩ => exact hostW_apply w3 t ht k o
  wh := hostWh_apply wc wb
  bm l o := by
    have e : ∀ (b : FVec Ideal (Row 256) .f32) h, shapeCast (Mat 1 256) b h (ix2 0 o) = b (ix1 o) := fun b h =>
      shapeCast_apply _ _ _ (ix1 o) (by
        rw [Shape.rowMajor_val_two, Shape.rowMajor_val_one]
        show o.val = 0 * 256 + o.val
        omega)
    refine (hostStack_apply _ _ _ _ _ l 0 o).trans ?_
    match l with
    | ⟨0, _⟩ => exact e b0 _
    | ⟨1, _⟩ => exact e b1 _
    | ⟨2, _⟩ => exact e b2 _
    | ⟨3, _⟩ => exact e b3 _
  bh := hostBh_apply bc bb

/-! ### A channel of the head -/

theorem sumTaps_congr {C D : ℕ} (p : ℕ → ℕ → Fin 256 → EReal) {wt : Wts C} {wt' : Wts D} (h w : ℕ) {o : Fin C} {o' : Fin D}
    (e : ∀ t c, wt t c o = wt' t c o') (k : ℕ) : ∀ acc, sumTaps p wt h w o k acc = sumTaps p wt' h w o' k acc := by
  induction k with
  | zero => exact fun _ => rfl
  | succ k ih =>
    intro acc
    unfold sumTaps
    rw [Finset.sum_congr rfl fun c _ => congrArg (p (h + (8 - k) / 3) (w + (8 - k) % 3) c * ·) (e (8 - k) c)]
    exact ih _

theorem convAt_cls (p : ℕ → ℕ → Fin 256 → EReal) (wc : FVec Ideal (Wgt 3 3) .f32) (bc : FVec Ideal (Row 3) .f32) (wb : FVec Ideal (Wgt 12 3) .f32)
    (bb : FVec Ideal (Row 12) .f32) (h w : ℕ) (a : Fin 3) :
    convAt p (headWts wc wb) (headBias bc bb) h w ⟨a.val, by omega⟩ = convAt p (wts wc) (fun o => bc (ix1 o)) h w a :=
  congrArg₂ (· + ·) (sumTaps_congr p h w (fun t c => dif_pos a.isLt) 9 0) (dif_pos a.isLt)

theorem convAt_box (p : ℕ → ℕ → Fin 256 → EReal) (wc : FVec Ideal (Wgt 3 3) .f32) (bc : FVec Ideal (Row 3) .f32) (wb : FVec Ideal (Wgt 12 3) .f32)
    (bb : FVec Ideal (Row 12) .f32) (h w : ℕ) (a : Fin 12) :
    convAt p (headWts wc wb) (headBias bc bb) h w ⟨3 + a.val, by omega⟩ = convAt p (wts wb) (fun o => bb (ix1 o)) h w a := by
  have e1 : ¬ 3 + a.val < 3 := by omega
  have e2 : 3 + a.val - 3 < 12 := by omega
  have e3 : (⟨3 + a.val - 3, e2⟩ : Fin 12) = a := Fin.ext (Nat.add_sub_cancel_left 3 a.val)
  refine congrArg₂ (· + ·) (sumTaps_congr p h w (fun t c => ?_) 9 0) ?_
  · exact ((dif_neg e1).trans (dif_pos e2)).trans (congrArg (wts wb t c) e3)
  · exact ((dif_neg e1).trans (dif_pos e2)).trans (congrArg (fun o => bb (ix1 o)) e3)

end Fpn

end
-- ==== Proof.Equation.lean ====
/-
  A level's equation: the scores and the offsets the kernel computes are the reference's.
-/
module

public import proofs.«01_k».proof.Proof.Host

@[expose] public section

set_option maxRecDepth 16384

noncomputable section

namespace Fpn

open Idealize.ShloMosaic Idealize.ShloMosaic.ValueIdx

section
variable {H W P ch n : ℕ} (hg : Geo.Ok ⟨H, W, W + 2, P, P + H * (W + 2) + P, ch, n⟩)
variable (x : FVec Ideal ⟨4, ![1, 256, H, W]⟩ .f32) (w0 w1 w2 w3 : FVec Ideal (Wgt 256 3) .f32) (b0 b1 b2 b3 : FVec Ideal (Row 256) .f32)
variable (wc : FVec Ideal (Wgt 3 3) .f32) (bc : FVec Ideal (Row 3) .f32) (wb : FVec Ideal (Wgt 12 3) .f32) (bb : FVec Ideal (Row 12) .f32)

theorem level_cls :
    clsOut hg (levelOut hg (hostWm w0 w1 w2 w3) (hostWh wc wb) (hostBm b0 b1 b2 b3) (hostBh bc bb) (hostPic P x))
      = refCls (refTrunk x w0 w1 w2 w3 b0 b1 b2 b3) wc bc := by
  funext j
  obtain ⟨u, a, v, h, w, rfl⟩ : ∃ (u : Fin 1) (a : Fin 3) (v : Fin 1) (h : Fin H) (w : Fin W), j = ix5 u a v h w := ⟨j 0, j 1, j 2, j 3, j 4, eq_ix5 j⟩
  refine (clsOut_apply hg _ u a v h w).trans ?_
  refine (levelOut_apply hg (host_params w0 w1 w2 w3 b0 b1 b2 b3 wc bc wb bb) (hostPic_holds P ch n x) ⟨a.val, by omega⟩ h w).trans ?_
  refine (convAt_cls _ wc bc wb bb h.val w.val a).trans ?_
  exact (refCls_apply (refTrunk_holds x w0 w1 w2 w3 b0 b1 b2 b3) wc bc u a v h w).symm

theorem level_box :
    boxOut hg (levelOut hg (hostWm w0 w1 w2 w3) (hostWh wc wb) (hostBm b0 b1 b2 b3) (hostBh bc bb) (hostPic P x))
      = refBox (refTrunk x w0 w1 w2 w3 b0 b1 b2 b3) wb bb := by
  funext j
  obtain ⟨u, a, v, h, w, rfl⟩ : ∃ (u : Fin 1) (a : Fin 3) (v : Fin 4) (h : Fin H) (w : Fin W), j = ix5 u a v h w := ⟨j 0, j 1, j 2, j 3, j 4, eq_ix5 j⟩
  refine (boxOut_apply hg _ u a v h w).trans ?_
  refine (levelOut_apply hg (host_params w0 w1 w2 w3 b0 b1 b2 b3 wc bc wb bb) (hostPic_holds P ch n x) ⟨3 + (a.val * 4 + v.val), by omega⟩ h w).trans ?_
  refine (convAt_box _ wc bc wb bb h.val w.val ⟨a.val * 4 + v.val, by omega⟩).trans ?_
  exact (refBox_apply (refTrunk_holds x w0 w1 w2 w3 b0 b1 b2 b3) wb bb u a v h w).symm

end

end Fpn

end
-- ==== Proof.Entry.lean ====
/-
  The contents of the kernel's operands when it starts, as the host's operations of the program's arguments.
-/
module

public import proofs.«01_k».proof.Proof.Launch
public import proofs.«01_k».proof.Proof.Host
public import Idealize.ShloMosaic.Lib.Claim
public import Idealize.ShloMosaic.Lib.StableHlo.RunRead

@[expose] public section

set_option maxRecDepth 16384

noncomputable section

namespace Fpn

open Idealize.ShloMosaic Idealize.ShloMosaic.TcCoe Cert.KernelIdeal Cert.KernelIdeal.Gen

variable {F : FTy → Type} [FloatOps F]
variable (m : (ℓ : Loc nD τ sig) → Buf (Elt F) ℓ)

/-- The four levels' pictures. -/
theorem entry_x0 (c : Dev nD) : V m c main_v5 = hostPic 72 (m ((c.tc : Thread nD τ).loc main_arg0)) := by
  unfold V
  simp only [List.flatten_cons, List.flatten_nil, List.append_nil]
  after_reads_simp
  rfl

theorem entry_x1 (c : Dev nD) : V m c main_v11 = hostPic 40 (m ((c.tc : Thread nD τ).loc main_arg1)) := by
  unfold V
  simp only [List.flatten_cons, List.flatten_nil, List.append_nil]
  after_reads_simp
  rfl

theorem entry_x2 (c : Dev nD) : V m c main_v17 = hostPic 24 (m ((c.tc : Thread nD τ).loc main_arg2)) := by
  unfold V
  simp only [List.flatten_cons, List.flatten_nil, List.append_nil]
  after_reads_simp
  rfl

theorem entry_x3 (c : Dev nD) : V m c main_v23 = hostPic 16 (m ((c.tc : Thread nD τ).loc main_arg3)) := by
  unfold V
  simp only [List.flatten_cons, List.flatten_nil, List.append_nil]
  after_reads_simp
  rfl

/-- Four arrays of weights, one above another. -/
def stackW (x0 x1 x2 x3 : FVec F S1x2304x256 .bf16) : FVec F S4x2304x256 .bf16 :=
  concatenate S4x2304x256 0 [⟨S1x2304x256, x0⟩, ⟨S1x2304x256, x1⟩, ⟨S1x2304x256, x2⟩, ⟨S1x2304x256, x3⟩]
    concatenates_S1x2304x256_S1x2304x256_S1x2304x256_S1x2304x256_S4x2304x256_d0

/-- The weights of the trunk. -/
theorem entry_wm (c : Dev nD) : V m c main_v40 = hostWm (m ((c.tc : Thread nD τ).loc main_arg4)) (m ((c.tc : Thread nD τ).loc main_arg6))
    (m ((c.tc : Thread nD τ).loc main_arg8)) (m ((c.tc : Thread nD τ).loc main_arg10)) := by
  unfold V
  simp only [List.flatten_cons, List.flatten_nil, List.append_nil]
  after_reads_simp
  refine Eq.trans (b := stackW (StableHlo.upto (Val := Elt F) _ _ 56 (Proc.tc.devRef main_v36)) (StableHlo.upto (Val := Elt F) _ _ 56 (Proc.tc.devRef main_v37))
    (StableHlo.upto (Val := Elt F) _ _ 56 (Proc.tc.devRef main_v38)) (StableHlo.upto (Val := Elt F) _ _ 56 (Proc.tc.devRef main_v39))) rfl ?_
  after_reads_simp
  rfl

/-- Four rows of biases, one above another. -/
def stackB (x0 x1 x2 x3 : FVec F S1x1x256 .f32) : FVec F S4x1x256 .f32 :=
  concatenate S4x1x256 0 [⟨S1x1x256, x0⟩, ⟨S1x1x256, x1⟩, ⟨S1x1x256, x2⟩, ⟨S1x1x256, x3⟩]
    concatenates_S1x1x256_S1x1x256_S1x1x256_S1x1x256_S4x1x256_d0

/-- The biases of the trunk. -/
theorem entry_bm (c : Dev nD) : V m c main_v54 = hostBm (m ((c.tc : Thread nD τ).loc main_arg5)) (m ((c.tc : Thread nD τ).loc main_arg7))
    (m ((c.tc : Thread nD τ).loc main_arg9)) (m ((c.tc : Thread nD τ).loc main_arg11)) := by
  unfold V
  simp only [List.flatten_cons, List.flatten_nil, List.append_nil]
  after_reads_simp
  refine Eq.trans (b := stackB (StableHlo.upto (Val := Elt F) _ _ 72 (Proc.tc.devRef main_v50)) (StableHlo.upto (Val := Elt F) _ _ 72 (Proc.tc.devRef main_v51))
    (StableHlo.upto (Val := Elt F) _ _ 72 (Proc.tc.devRef main_v52)) (StableHlo.upto (Val := Elt F) _ _ 72 (Proc.tc.devRef main_v53))) rfl ?_
  after_reads_simp
  rfl

set_option maxHeartbeats 1600000 in
/-- The weights of the head. -/
theorem entry_wh (c : Dev nD) : V m c main_v45 = hostWh (m ((c.tc : Thread nD τ).loc main_arg12)) (m ((c.tc : Thread nD τ).loc main_arg14)) := by
  unfold V
  simp only [List.flatten_cons, List.flatten_nil, List.append_nil, List.cons_append, List.nil_append]
  entry_read
  rfl

set_option maxHeartbeats 1600000 in
/-- The biases of the head. -/
theorem entry_bh (c : Dev nD) : V m c main_v57 = hostBh (m ((c.tc : Thread nD τ).loc main_arg13)) (m ((c.tc : Thread nD τ).loc main_arg15)) := by
  unfold V
  simp only [List.flatten_cons, List.flatten_nil, List.append_nil, List.cons_append, List.nil_append]
  entry_read
  rfl

end Fpn

end
-- ==== Proof.Results.lean ====
/-
  The result arrays after the run: one point, each block its whole array, so each array is what the body left.
-/
module

public import proofs.«01_k».proof.Proof.Entry
public import Idealize.ShloMosaic.Lib.Pipeline.ValueKit

@[expose] public section

set_option maxRecDepth 16384

noncomputable section

namespace Fpn

open Idealize.ShloMosaic Idealize.ShloMosaic.TcCoe Idealize.SL Idealize.SL.Sem Cert.KernelIdeal Cert.KernelIdeal.Gen
open Idealize.ShloMosaic.Pipeline (Dat)

variable {F : FTy → Type} [FloatOps F]
variable (m : (ℓ : Loc nD τ sig) → Buf (Elt F) ℓ)

theorem final_0 (c : Dev nD) : (dats m 0 c).arrAt 0 (cfgs 0).N = clsOut g0_ok (out0 m c) := by
  refine (dats m 0 c).arrAt_eq_of_after_last 0 t0_0 (by decide +kernel) _ fun j => ?_
  blk_simp
  rw [after_0]

theorem final_1 (c : Dev nD) : (dats m 0 c).arrAt 1 (cfgs 0).N = boxOut g0_ok (out0 m c) := by
  refine (dats m 0 c).arrAt_eq_of_after_last 1 t0_0 (by decide +kernel) _ fun j => ?_
  blk_simp
  rw [after_1]

theorem final_2 (c : Dev nD) : (dats m 0 c).arrAt 2 (cfgs 0).N = clsOut g1_ok (out1 m c) := by
  refine (dats m 0 c).arrAt_eq_of_after_last 2 t0_0 (by decide +kernel) _ fun j => ?_
  blk_simp
  rw [after_2]

theorem final_3 (c : Dev nD) : (dats m 0 c).arrAt 3 (cfgs 0).N = boxOut g1_ok (out1 m c) := by
  refine (dats m 0 c).arrAt_eq_of_after_last 3 t0_0 (by decide +kernel) _ fun j => ?_
  blk_simp
  rw [after_3]

theorem final_4 (c : Dev nD) : (dats m 0 c).arrAt 4 (cfgs 0).N = clsOut g2_ok (out2 m c) := by
  refine (dats m 0 c).arrAt_eq_of_after_last 4 t0_0 (by decide +kernel) _ fun j => ?_
  blk_simp
  rw [after_4]

theorem final_5 (c : Dev nD) : (dats m 0 c).arrAt 5 (cfgs 0).N = boxOut g2_ok (out2 m c) := by
  refine (dats m 0 c).arrAt_eq_of_after_last 5 t0_0 (by decide +kernel) _ fun j => ?_
  blk_simp
  rw [after_5]

theorem final_6 (c : Dev nD) : (dats m 0 c).arrAt 6 (cfgs 0).N = clsOut g3_ok (out3 m c) := by
  refine (dats m 0 c).arrAt_eq_of_after_last 6 t0_0 (by decide +kernel) _ fun j => ?_
  blk_simp
  rw [after_6]

theorem final_7 (c : Dev nD) : (dats m 0 c).arrAt 7 (cfgs 0).N = boxOut g3_ok (out3 m c) := by
  refine (dats m 0 c).arrAt_eq_of_after_last 7 t0_0 (by decide +kernel) _ fun j => ?_
  blk_simp
  rw [after_7]

/-! ### What the body finds in its buffers -/

theorem inWm_eq (c : Dev nD) : inWm m c = hostWm (m ((c.tc : Thread nD τ).loc main_arg4)) (m ((c.tc : Thread nD τ).loc main_arg6))
    (m ((c.tc : Thread nD τ).loc main_arg8)) (m ((c.tc : Thread nD τ).loc main_arg10)) := entry_wm m c
theorem inWh_eq (c : Dev nD) : inWh m c = hostWh (m ((c.tc : Thread nD τ).loc main_arg12)) (m ((c.tc : Thread nD τ).loc main_arg14)) := entry_wh m c
theorem inBm_eq (c : Dev nD) : inBm m c = hostBm (m ((c.tc : Thread nD τ).loc main_arg5)) (m ((c.tc : Thread nD τ).loc main_arg7))
    (m ((c.tc : Thread nD τ).loc main_arg9)) (m ((c.tc : Thread nD τ).loc main_arg11)) := entry_bm m c
theorem inBh_eq (c : Dev nD) : inBh m c = hostBh (m ((c.tc : Thread nD τ).loc main_arg13)) (m ((c.tc : Thread nD τ).loc main_arg15)) := entry_bh m c

/-- The head of a level over the program's arguments. -/
abbrev headOf {g : Geo} (hg : g.Ok) (c : Dev nD) (x : FVec F (Mat g.M 256) .bf16) : FVec F (Mat 16 (g.H * g.Wp)) .f32 :=
  levelOut hg (hostWm (m ((c.tc : Thread nD τ).loc main_arg4)) (m ((c.tc : Thread nD τ).loc main_arg6))
      (m ((c.tc : Thread nD τ).loc main_arg8)) (m ((c.tc : Thread nD τ).loc main_arg10)))
    (hostWh (m ((c.tc : Thread nD τ).loc main_arg12)) (m ((c.tc : Thread nD τ).loc main_arg14)))
    (hostBm (m ((c.tc : Thread nD τ).loc main_arg5)) (m ((c.tc : Thread nD τ).loc main_arg7))
      (m ((c.tc : Thread nD τ).loc main_arg9)) (m ((c.tc : Thread nD τ).loc main_arg11)))
    (hostBh (m ((c.tc : Thread nD τ).loc main_arg13)) (m ((c.tc : Thread nD τ).loc main_arg15))) x

theorem headOf_eq {g : Geo} (hg : g.Ok) (c : Dev nD) {x y : FVec F (Mat g.M 256) .bf16} (h : x = y) :
    levelOut hg (inWm m c) (inWh m c) (inBm m c) (inBh m c) x = headOf m hg c y := by
  rw [inWm_eq, inWh_eq, inBm_eq, inBh_eq, h]

theorem out0_eq (c : Dev nD) : out0 m c = headOf m g0_ok c (hostPic 72 (m ((c.tc : Thread nD τ).loc main_arg0))) := headOf_eq m g0_ok c (entry_x0 m c)
theorem out1_eq (c : Dev nD) : out1 m c = headOf m g1_ok c (hostPic 40 (m ((c.tc : Thread nD τ).loc main_arg1))) := headOf_eq m g1_ok c (entry_x1 m c)
theorem out2_eq (c : Dev nD) : out2 m c = headOf m g2_ok c (hostPic 24 (m ((c.tc : Thread nD τ).loc main_arg2))) := headOf_eq m g2_ok c (entry_x2 m c)
theorem out3_eq (c : Dev nD) : out3 m c = headOf m g3_ok c (hostPic 16 (m ((c.tc : Thread nD τ).loc main_arg3))) := headOf_eq m g3_ok c (entry_x3 m c)

end Fpn

end
-- ==== Proof.RefRun.lean ====
/-
  The reference's run, its results written with the convolution, the layer and the trunk of `Reference`.
-/
module

public import proofs.«01_k».proof.Proof.Reference
public import proofs.«01_k».proof.Proof.Gen.ReferenceIdeal.Run
public import Idealize.ShloMosaic.Lib.Claim

@[expose] public section

set_option maxRecDepth 16384

noncomputable section

namespace Fpn.Ref

open Idealize.ShloMosaic Idealize.ShloMosaic.TcCoe Idealize.SL Idealize.SL.Sem
open Cert.ReferenceIdeal Cert.ReferenceIdeal.Gen Cert.ReferenceIdeal.Value

variable {F : FTy → Type} [FloatOps F]
variable (m : (ℓ : Loc nD τ sig) → Buf (Elt F) ℓ)

/-- A level's trunk over the reference's arguments. -/
abbrev trunkOf {H W : ℕ} (c : Dev nD) (x : FVec F ⟨4, ![1, 256, H, W]⟩ .f32) : FVec F (Pic 256 (H + 2) (W + 2)) .f32 :=
  refTrunk x (m ((c.tc : Thread nD τ).loc main_arg4)) (m ((c.tc : Thread nD τ).loc main_arg6))
    (m ((c.tc : Thread nD τ).loc main_arg8)) (m ((c.tc : Thread nD τ).loc main_arg10))
    (m ((c.tc : Thread nD τ).loc main_arg5)) (m ((c.tc : Thread nD τ).loc main_arg7))
    (m ((c.tc : Thread nD τ).loc main_arg9)) (m ((c.tc : Thread nD τ).loc main_arg11))

/-- A level's scores and offsets over the reference's arguments. -/
abbrev clsOf {H W : ℕ} (c : Dev nD) (x : FVec F ⟨4, ![1, 256, H, W]⟩ .f32) : FVec F ⟨5, ![1, 3, 1, H, W]⟩ .f32 :=
  refCls (trunkOf m c x) (m ((c.tc : Thread nD τ).loc main_arg12)) (m ((c.tc : Thread nD τ).loc main_arg13))

abbrev boxOf {H W : ℕ} (c : Dev nD) (x : FVec F ⟨4, ![1, 256, H, W]⟩ .f32) : FVec F ⟨5, ![1, 3, 4, H, W]⟩ .f32 :=
  refBox (trunkOf m c x) (m ((c.tc : Thread nD τ).loc main_arg14)) (m ((c.tc : Thread nD τ).loc main_arg15))

/-- What the reference's run establishes. -/
theorem run (ρ : Dev nD → PrngReg) :
    θ_run defs (onTc (τ := τ) (main (F := F))) ⟨m, fun _ => 0, ρ⟩ fun r => ∀ c : Dev nD,
      r.2.mem ((c.tc : Thread nD τ).loc main_v305) = clsOf m c (m ((c.tc : Thread nD τ).loc main_arg0))
      ∧ r.2.mem ((c.tc : Thread nD τ).loc main_v306) = boxOf m c (m ((c.tc : Thread nD τ).loc main_arg0))
      ∧ r.2.mem ((c.tc : Thread nD τ).loc main_v612) = clsOf m c (m ((c.tc : Thread nD τ).loc main_arg1))
      ∧ r.2.mem ((c.tc : Thread nD τ).loc main_v613) = boxOf m c (m ((c.tc : Thread nD τ).loc main_arg1))
      ∧ r.2.mem ((c.tc : Thread nD τ).loc main_v919) = clsOf m c (m ((c.tc : Thread nD τ).loc main_arg2))
      ∧ r.2.mem ((c.tc : Thread nD τ).loc main_v920) = boxOf m c (m ((c.tc : Thread nD τ).loc main_arg2))
      ∧ r.2.mem ((c.tc : Thread nD τ).loc main_v1226) = clsOf m c (m ((c.tc : Thread nD τ).loc main_arg3))
      ∧ r.2.mem ((c.tc : Thread nD τ).loc main_v1227) = boxOf m c (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans (by sl_kernel_rfl), (h c).2.1.trans (by sl_kernel_rfl), (h c).2.2.1.trans (by sl_kernel_rfl),
    (h c).2.2.2.1.trans (by sl_kernel_rfl), (h c).2.2.2.2.1.trans (by sl_kernel_rfl), (h c).2.2.2.2.2.1.trans (by sl_kernel_rfl),
    (h c).2.2.2.2.2.2.1.trans (by sl_kernel_rfl), (h c).2.2.2.2.2.2.2.1.trans (by sl_kernel_rfl), (h c).2.2.2.2.2.2.2.2⟩) (Value.run m ρ)

end Fpn.Ref

end
-- ==== Proof.Algebraic.lean ====
/-
  The value claim: over the extended reals, from equal arguments, the kernel and the reference end with equal results.
-/
module

public import proofs.«01_k».proof.Defs
public import proofs.«01_k».proof.Proof.Equation
public import proofs.«01_k».proof.Proof.Results
public import proofs.«01_k».proof.Proof.RefRun

@[expose] public section

set_option maxRecDepth 16384

noncomputable section

namespace Fpn

open Idealize.ShloMosaic Idealize.ShloMosaic.TcCoe Idealize.SL Idealize.SL.Sem

section
open Cert.KernelIdeal Cert.KernelIdeal.Gen

variable (m : (ℓ : Loc nD τ sig) → Buf (Elt Ideal) ℓ)

/-- A level's trunk, scores and offsets, as the reference defines them, over the kernel's arguments. -/
abbrev trunkOf {H W : ℕ} (c : Dev nD) (x : FVec Ideal ⟨4, ![1, 256, H, W]⟩ .f32) : FVec Ideal (Pic 256 (H + 2) (W + 2)) .f32 :=
  refTrunk x (m ((c.tc : Thread nD τ).loc main_arg4)) (m ((c.tc : Thread nD τ).loc main_arg6))
    (m ((c.tc : Thread nD τ).loc main_arg8)) (m ((c.tc : Thread nD τ).loc main_arg10))
    (m ((c.tc : Thread nD τ).loc main_arg5)) (m ((c.tc : Thread nD τ).loc main_arg7))
    (m ((c.tc : Thread nD τ).loc main_arg9)) (m ((c.tc : Thread nD τ).loc main_arg11))

abbrev clsOf {H W : ℕ} (c : Dev nD) (x : FVec Ideal ⟨4, ![1, 256, H, W]⟩ .f32) : FVec Ideal ⟨5, ![1, 3, 1, H, W]⟩ .f32 :=
  refCls (trunkOf m c x) (m ((c.tc : Thread nD τ).loc main_arg12)) (m ((c.tc : Thread nD τ).loc main_arg13))

abbrev boxOf {H W : ℕ} (c : Dev nD) (x : FVec Ideal ⟨4, ![1, 256, H, W]⟩ .f32) : FVec Ideal ⟨5, ![1, 3, 4, H, W]⟩ .f32 :=
  refBox (trunkOf m c x) (m ((c.tc : Thread nD τ).loc main_arg14)) (m ((c.tc : Thread nD τ).loc main_arg15))

/-- A level of the kernel is the reference's. -/
theorem head_cls {H W P ch n : ℕ} (hg : Geo.Ok ⟨H, W, W + 2, P, P + H * (W + 2) + P, ch, n⟩) (c : Dev nD) (x : FVec Ideal ⟨4, ![1, 256, H, W]⟩ .f32) :
    clsOut hg (headOf m hg c (hostPic P x)) = clsOf m c x :=
  level_cls hg x _ _ _ _ _ _ _ _ _ _ _ _

theorem head_box {H W P ch n : ℕ} (hg : Geo.Ok ⟨H, W, W + 2, P, P + H * (W + 2) + P, ch, n⟩) (c : Dev nD) (x : FVec Ideal ⟨4, ![1, 256, H, W]⟩ .f32) :
    boxOut hg (headOf m hg c (hostPic P x)) = boxOf m c x :=
  level_box hg x _ _ _ _ _ _ _ _ _ _ _ _

theorem result_0 (c : Dev nD) {r : PUnit × MemSt nD τ sig (Elt Ideal)} (h : Pipeline.FramePost cfgs (dats m) 0 (V m) r) :
    r.2.mem ((c.tc : Thread nD τ).loc main_v58_0) = clsOf (H := 64) (W := 64) m c (m ((c.tc : Thread nD τ).loc main_arg0)) :=
  ((h c).1 0).trans ((final_0 m c).trans ((congrArg (clsOut g0_ok) (out0_eq m c)).trans (head_cls (H := 64) (W := 64) (P := 72) m g0_ok c _)))

theorem result_1 (c : Dev nD) {r : PUnit × MemSt nD τ sig (Elt Ideal)} (h : Pipeline.FramePost cfgs (dats m) 0 (V m) r) :
    r.2.mem ((c.tc : Thread nD τ).loc main_v58_1) = boxOf (H := 64) (W := 64) m c (m ((c.tc : Thread nD τ).loc main_arg0)) :=
  ((h c).1 1).trans ((final_1 m c).trans ((congrArg (boxOut g0_ok) (out0_eq m c)).trans (head_box (H := 64) (W := 64) (P := 72) m g0_ok c _)))

theorem result_2 (c : Dev nD) {r : PUnit × MemSt nD τ sig (Elt Ideal)} (h : Pipeline.FramePost cfgs (dats m) 0 (V m) r) :
    r.2.mem ((c.tc : Thread nD τ).loc main_v58_2) = clsOf (H := 32) (W := 32) m c (m ((c.tc : Thread nD τ).loc main_arg1)) :=
  ((h c).1 2).trans ((final_2 m c).trans ((congrArg (clsOut g1_ok) (out1_eq m c)).trans (head_cls (H := 32) (W := 32) (P := 40) m g1_ok c _)))

theorem result_3 (c : Dev nD) {r : PUnit × MemSt nD τ sig (Elt Ideal)} (h : Pipeline.FramePost cfgs (dats m) 0 (V m) r) :
    r.2.mem ((c.tc : Thread nD τ).loc main_v58_3) = boxOf (H := 32) (W := 32) m c (m ((c.tc : Thread nD τ).loc main_arg1)) :=
  ((h c).1 3).trans ((final_3 m c).trans ((congrArg (boxOut g1_ok) (out1_eq m c)).trans (head_box (H := 32) (W := 32) (P := 40) m g1_ok c _)))

theorem result_4 (c : Dev nD) {r : PUnit × MemSt nD τ sig (Elt Ideal)} (h : Pipeline.FramePost cfgs (dats m) 0 (V m) r) :
    r.2.mem ((c.tc : Thread nD τ).loc main_v58_4) = clsOf (H := 16) (W := 16) m c (m ((c.tc : Thread nD τ).loc main_arg2)) :=
  ((h c).1 4).trans ((final_4 m c).trans ((congrArg (clsOut g2_ok) (out2_eq m c)).trans (head_cls (H := 16) (W := 16) (P := 24) m g2_ok c _)))

theorem result_5 (c : Dev nD) {r : PUnit × MemSt nD τ sig (Elt Ideal)} (h : Pipeline.FramePost cfgs (dats m) 0 (V m) r) :
    r.2.mem ((c.tc : Thread nD τ).loc main_v58_5) = boxOf (H := 16) (W := 16) m c (m ((c.tc : Thread nD τ).loc main_arg2)) :=
  ((h c).1 5).trans ((final_5 m c).trans ((congrArg (boxOut g2_ok) (out2_eq m c)).trans (head_box (H := 16) (W := 16) (P := 24) m g2_ok c _)))

theorem result_6 (c : Dev nD) {r : PUnit × MemSt nD τ sig (Elt Ideal)} (h : Pipeline.FramePost cfgs (dats m) 0 (V m) r) :
    r.2.mem ((c.tc : Thread nD τ).loc main_v58_6) = clsOf (H := 8) (W := 8) m c (m ((c.tc : Thread nD τ).loc main_arg3)) :=
  ((h c).1 6).trans ((final_6 m c).trans ((congrArg (clsOut g3_ok) (out3_eq m c)).trans (head_cls (H := 8) (W := 8) (P := 16) m g3_ok c _)))

theorem result_7 (c : Dev nD) {r : PUnit × MemSt nD τ sig (Elt Ideal)} (h : Pipeline.FramePost cfgs (dats m) 0 (V m) r) :
    r.2.mem ((c.tc : Thread nD τ).loc main_v58_7) = boxOf (H := 8) (W := 8) m c (m ((c.tc : Thread nD τ).loc main_arg3)) :=
  ((h c).1 7).trans ((final_7 m c).trans ((congrArg (boxOut g3_ok) (out3_eq m c)).trans (head_box (H := 8) (W := 8) (P := 16) m g3_ok c _)))

/-- What the kernel's run establishes. -/
theorem run_results (ρ : Dev nD → PrngReg) :
    θ_run defs (onTc (τ := τ) (main (F := Ideal))) ⟨m, fun _ => 0, ρ⟩ fun r => ∀ c : Dev nD,
      r.2.mem ((c.tc : Thread nD τ).loc main_v58_0) = clsOf (H := 64) (W := 64) m c (m ((c.tc : Thread nD τ).loc main_arg0))
      ∧ r.2.mem ((c.tc : Thread nD τ).loc main_v58_1) = boxOf (H := 64) (W := 64) m c (m ((c.tc : Thread nD τ).loc main_arg0))
      ∧ r.2.mem ((c.tc : Thread nD τ).loc main_v58_2) = clsOf (H := 32) (W := 32) m c (m ((c.tc : Thread nD τ).loc main_arg1))
      ∧ r.2.mem ((c.tc : Thread nD τ).loc main_v58_3) = boxOf (H := 32) (W := 32) m c (m ((c.tc : Thread nD τ).loc main_arg1))
      ∧ r.2.mem ((c.tc : Thread nD τ).loc main_v58_4) = clsOf (H := 16) (W := 16) m c (m ((c.tc : Thread nD τ).loc main_arg2))
      ∧ r.2.mem ((c.tc : Thread nD τ).loc main_v58_5) = boxOf (H := 16) (W := 16) m c (m ((c.tc : Thread nD τ).loc main_arg2))
      ∧ r.2.mem ((c.tc : Thread nD τ).loc main_v58_6) = clsOf (H := 8) (W := 8) m c (m ((c.tc : Thread nD τ).loc main_arg3))
      ∧ r.2.mem ((c.tc : Thread nD τ).loc main_v58_7) = boxOf (H := 8) (W := 8) m c (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨result_0 m c h.2, result_1 m c h.2, result_2 m c h.2, result_3 m c h.2, result_4 m c h.2, result_5 m c h.2, result_6 m c h.2, result_7 m c h.2, h.1 c⟩)
    (θ_run_and (frame_of m ρ (dats m) (A_eq m) (run_main m ρ)) (run_main m ρ))

end

theorem cls_congr {H W : ℕ} {x x' : FVec Ideal ⟨4, ![1, 256, H, W]⟩ .f32} {w0 w0' w1 w1' w2 w2' w3 w3' : FVec Ideal (Wgt 256 3) .f32}
    {b0 b0' b1 b1' b2 b2' b3 b3' : FVec Ideal (Row 256) .f32} {wh wh' : FVec Ideal (Wgt 3 3) .f32} {bh bh' : FVec Ideal (Row 3) .f32}
    (hx : x = x') (h0 : w0 = w0') (h1 : w1 = w1') (h2 : w2 = w2') (h3 : w3 = w3') (k0 : b0 = b0') (k1 : b1 = b1') (k2 : b2 = b2') (k3 : b3 = b3')
    (hw : wh = wh') (hb : bh = bh') :
    refCls (refTrunk x w0 w1 w2 w3 b0 b1 b2 b3) wh bh = refCls (refTrunk x' w0' w1' w2' w3' b0' b1' b2' b3') wh' bh' := by
  subst hx h0 h1 h2 h3 k0 k1 k2 k3 hw hb
  rfl

theorem box_congr {H W : ℕ} {x x' : FVec Ideal ⟨4, ![1, 256, H, W]⟩ .f32} {w0 w0' w1 w1' w2 w2' w3 w3' : FVec Ideal (Wgt 256 3) .f32}
    {b0 b0' b1 b1' b2 b2' b3 b3' : FVec Ideal (Row 256) .f32} {wh wh' : FVec Ideal (Wgt 12 3) .f32} {bh bh' : FVec Ideal (Row 12) .f32}
    (hx : x = x') (h0 : w0 = w0') (h1 : w1 = w1') (h2 : w2 = w2') (h3 : w3 = w3') (k0 : b0 = b0') (k1 : b1 = b1') (k2 : b2 = b2') (k3 : b3 = b3')
    (hw : wh = wh') (hb : bh = bh') :
    refBox (refTrunk x w0 w1 w2 w3 b0 b1 b2 b3) wh bh = refBox (refTrunk x' w0' w1' w2' w3' b0' b1' b2' b3') wh' bh' := by
  subst hx h0 h1 h2 h3 k0 k1 k2 k3 hw hb
  rfl

local instance : Cert.KernelIdeal.Facts := Cert.KernelIdeal.Gen.facts
local instance : Cert.ReferenceIdeal.Facts := Cert.ReferenceIdeal.Gen.facts

theorem algebraic : Cert.algebraic_KernelIdeal_ReferenceIdeal := by
  intro m g m' g' _ hagree
  refine ⟨fun c => clsOf (H := 64) (W := 64) m c (m ((c.tc : Thread Cert.KernelIdeal.nD Cert.KernelIdeal.τ).loc Cert.KernelIdeal.main_arg0)),
    fun c => boxOf (H := 64) (W := 64) m c (m ((c.tc : Thread Cert.KernelIdeal.nD Cert.KernelIdeal.τ).loc Cert.KernelIdeal.main_arg0)),
    fun c => clsOf (H := 32) (W := 32) m c (m ((c.tc : Thread Cert.KernelIdeal.nD Cert.KernelIdeal.τ).loc Cert.KernelIdeal.main_arg1)),
    fun c => boxOf (H := 32) (W := 32) m c (m ((c.tc : Thread Cert.KernelIdeal.nD Cert.KernelIdeal.τ).loc Cert.KernelIdeal.main_arg1)),
    fun c => clsOf (H := 16) (W := 16) m c (m ((c.tc : Thread Cert.KernelIdeal.nD Cert.KernelIdeal.τ).loc Cert.KernelIdeal.main_arg2)),
    fun c => boxOf (H := 16) (W := 16) m c (m ((c.tc : Thread Cert.KernelIdeal.nD Cert.KernelIdeal.τ).loc Cert.KernelIdeal.main_arg2)),
    fun c => clsOf (H := 8) (W := 8) m c (m ((c.tc : Thread Cert.KernelIdeal.nD Cert.KernelIdeal.τ).loc Cert.KernelIdeal.main_arg3)),
    fun c => boxOf (H := 8) (W := 8) m c (m ((c.tc : Thread Cert.KernelIdeal.nD Cert.KernelIdeal.τ).loc Cert.KernelIdeal.main_arg3)),
    run_results m g, (θ_run Cert.ReferenceIdeal.defs _ _).mono (fun r h c => ?_) (Ref.run m' g')⟩
  obtain ⟨r0, r1, r2, r3, r4, r5, r6, r7, hargs⟩ := h c
  obtain ⟨e0, e1, e2, e3, e4, e5, e6, e7, e8, e9, e10, e11, e12, e13, e14, e15⟩ := hagree c
  exact ⟨r0.trans (cls_congr e0 e4 e6 e8 e10 e5 e7 e9 e11 e12 e13),
    r1.trans (box_congr e0 e4 e6 e8 e10 e5 e7 e9 e11 e14 e15),
    r2.trans (cls_congr e1 e4 e6 e8 e10 e5 e7 e9 e11 e12 e13),
    r3.trans (box_congr e1 e4 e6 e8 e10 e5 e7 e9 e11 e14 e15),
    r4.trans (cls_congr e2 e4 e6 e8 e10 e5 e7 e9 e11 e12 e13),
    r5.trans (box_congr e2 e4 e6 e8 e10 e5 e7 e9 e11 e14 e15),
    r6.trans (cls_congr e3 e4 e6 e8 e10 e5 e7 e9 e11 e12 e13),
    r7.trans (box_congr e3 e4 e6 e8 e10 e5 e7 e9 e11 e14 e15), hargs⟩

end Fpn

end
-- ==== Proof.lean ====
/-
  The proof of `Cert.Claim`: the three frames, that the idealization preserves the program, and the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Lib.Claim

@[expose] public section

noncomputable section

namespace Cert.Proof

open Idealize.ShloMosaic Idealize.SL.Sem

/-- The reference writes none of its arguments and uses no semaphore. -/
theorem frame_RI : Cert.quiescent_ReferenceIdeal := by
  intro m g _
  exact (θ_run Cert.ReferenceIdeal.defs _ _).mono (fun r h => ⟨fun c => (h c).2.2.2.2.2.2.2.2,
      Idealize.ShloMosaic.sem_eq_zero_of_no_sems (by decide) r.2⟩) (Cert.ReferenceIdeal.Value.run m g)

theorem claim : Cert.Claim := ⟨Cert.Kernel.Gen.facts, Cert.KernelIdeal.Gen.facts, Cert.ReferenceIdeal.Gen.facts,
  fun m ρ _ => Fpn.frameKernel Bits m ρ, fun m ρ _ => Fpn.frameIdeal Ideal m ρ, frame_RI, trivial, Fpn.algebraic⟩

end Cert.Proof

end
